-- ==== Defs.lean ====
def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_scores [hPre_finite_scores : Cert.Pre_finite_scores.Facts] (m : (ℓ : Loc Cert.MixerIdeal.nD Cert.MixerIdeal.τ Cert.MixerIdeal.sig) → Buf (Elt Ideal) ℓ) : Prop :=
  ∀ c : Dev Cert.MixerIdeal.nD,
    (Cert.Pre_finite_scores.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).1 = (fun _ => 1#1)
    ∧ (Cert.Pre_finite_scores.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).2.1 = (fun _ => 1#1)
    ∧ (Cert.Pre_finite_scores.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9)) (m ((c.tc : Thread Cert.MixerIdeal.nD Cert.MixerIdeal.τ).loc Cert.MixerIdeal.main_arg10)) (m ((c.tc : Thread Cert.MixerIdeal.nD Cert.MixerIdeal.τ).loc Cert.MixerIdeal.main_arg11))).2.2 = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_scores [hPre_finite_scores : Cert.Pre_finite_scores.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_scores.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11))).1 = (fun _ => 1#1)
    ∧ (Cert.Pre_finite_scores.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11))).2.1 = (fun _ => 1#1)
    ∧ (Cert.Pre_finite_scores.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9)) (m ((c.tc : Thread Cert.MixerRefIdeal.nD Cert.MixerRefIdeal.τ).loc Cert.MixerRefIdeal.main_arg10)) (m ((c.tc : Thread Cert.MixerRefIdeal.nD Cert.MixerRefIdeal.τ).loc Cert.MixerRefIdeal.main_arg11))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_FfnFinalSample (m : (ℓ : Loc Cert.FfnFinalSample.nD Cert.FfnFinalSample.τ Cert.FfnFinalSample.sig) → Buf (Elt Bits) ℓ) : Prop :=
  True

def Pre_FfnFinalSampleIdeal (m : (ℓ : Loc Cert.FfnFinalSampleIdeal.nD Cert.FfnFinalSampleIdeal.τ Cert.FfnFinalSampleIdeal.sig) → Buf (Elt Ideal) ℓ) : Prop :=
  True

def Pre_FfnFinalSampleRefIdeal (m : (ℓ : Loc Cert.FfnFinalSampleRefIdeal.nD Cert.FfnFinalSampleRefIdeal.τ Cert.FfnFinalSampleRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ r.2.sem = fun _ => 0)

def quiescent_MixerIdeal_pre_finite_scores [hMixerIdeal : Cert.MixerIdeal.Facts] [hPre_finite_scores : Cert.Pre_finite_scores.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_scores m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11))
      ∧ r.2.sem = fun _ => 0)

def quiescent_MixerRefIdeal_pre_finite_scores [hMixerRefIdeal : Cert.MixerRefIdeal.Facts] [hPre_finite_scores : Cert.Pre_finite_scores.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_scores m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_FfnFinalSample [hFfnFinalSample : Cert.FfnFinalSample.Facts] : Prop :=
  ∀ (m : (ℓ : Loc Cert.FfnFinalSample.nD Cert.FfnFinalSample.τ Cert.FfnFinalSample.sig) → Buf (Elt Bits) ℓ) (g : Dev Cert.FfnFinalSample.nD → PrngReg), Pre_FfnFinalSample m →
    θ_run (Cert.FfnFinalSample.defs (F := Bits)) (onTc (τ := Cert.FfnFinalSample.τ) (Cert.FfnFinalSample.main (F := Bits))) ⟨m, fun _ => 0, g⟩ (fun r => (∀ c : Dev Cert.FfnFinalSample.nD,
      r.2.mem ((c.tc : Thread Cert.FfnFinalSample.nD Cert.FfnFinalSample.τ).loc Cert.FfnFinalSample.main_arg0) = m ((c.tc : Thread Cert.FfnFinalSample.nD Cert.FfnFinalSample.τ).loc Cert.FfnFinalSample.main_arg0)
      ∧ r.2.mem ((c.tc : Thread Cert.FfnFinalSample.nD Cert.FfnFinalSample.τ).loc Cert.FfnFinalSample.main_arg1) = m ((c.tc : Thread Cert.FfnFinalSample.nD Cert.FfnFinalSample.τ).loc Cert.FfnFinalSample.main_arg1)
      ∧ r.2.mem ((c.tc : Thread Cert.FfnFinalSample.nD Cert.FfnFinalSample.τ).loc Cert.FfnFinalSample.main_arg2) = m ((c.tc : Thread Cert.FfnFinalSample.nD Cert.FfnFinalSample.τ).loc Cert.FfnFinalSample.main_arg2)
      ∧ r.2.mem ((c.tc : Thread Cert.FfnFinalSample.nD Cert.FfnFinalSample.τ).loc Cert.FfnFinalSample.main_arg3) = m ((c.tc : Thread Cert.FfnFinalSample.nD Cert.FfnFinalSample.τ).loc Cert.FfnFinalSample.main_arg3)
      ∧ r.2.mem ((c.tc : Thread Cert.FfnFinalSample.nD Cert.FfnFinalSample.τ).loc Cert.FfnFinalSample.main_arg4) = m ((c.tc : Thread Cert.FfnFinalSample.nD Cert.FfnFinalSample.τ).loc Cert.FfnFinalSample.main_arg4)
      ∧ r.2.mem ((c.tc : Thread Cert.FfnFinalSample.nD Cert.FfnFinalSample.τ).loc Cert.FfnFinalSample.main_arg5) = m ((c.tc : Thread Cert.FfnFinalSample.nD Cert.FfnFinalSample.τ).loc Cert.FfnFinalSample.main_arg5))
      ∧ r.2.sem = fun _ => 0)

def quiescent_FfnFinalSampleIdeal [hFfnFinalSampleIdeal : Cert.FfnFinalSampleIdeal.Facts] : Prop :=
  ∀ (m : (ℓ : Loc Cert.FfnFinalSampleIdeal.nD Cert.FfnFinalSampleIdeal.τ Cert.FfnFinalSampleIdeal.sig) → Buf (Elt Ideal) ℓ) (g : Dev Cert.FfnFinalSampleIdeal.nD → PrngReg), Pre_FfnFinalSampleIdeal m →
    θ_run (Cert.FfnFinalSampleIdeal.defs (F := Ideal)) (onTc (τ := Cert.FfnFinalSampleIdeal.τ) (Cert.FfnFinalSampleIdeal.main (F := Ideal))) ⟨m, fun _ => 0, g⟩ (fun r => (∀ c : Dev Cert.FfnFinalSampleIdeal.nD,
      r.2.mem ((c.tc : Thread Cert.FfnFinalSampleIdeal.nD Cert.FfnFinalSampleIdeal.τ).loc Cert.FfnFinalSampleIdeal.main_arg0) = m ((c.tc : Thread Cert.FfnFinalSampleIdeal.nD Cert.FfnFinalSampleIdeal.τ).loc Cert.FfnFinalSampleIdeal.main_arg0)
      ∧ r.2.mem ((c.tc : Thread Cert.FfnFinalSampleIdeal.nD Cert.FfnFinalSampleIdeal.τ).loc Cert.FfnFinalSampleIdeal.main_arg1) = m ((c.tc : Thread Cert.FfnFinalSampleIdeal.nD Cert.FfnFinalSampleIdeal.τ).loc Cert.FfnFinalSampleIdeal.main_arg1)
      ∧ r.2.mem ((c.tc : Thread Cert.FfnFinalSampleIdeal.nD Cert.FfnFinalSampleIdeal.τ).loc Cert.FfnFinalSampleIdeal.main_arg2) = m ((c.tc : Thread Cert.FfnFinalSampleIdeal.nD Cert.FfnFinalSampleIdeal.τ).loc Cert.FfnFinalSampleIdeal.main_arg2)
      ∧ r.2.mem ((c.tc : Thread Cert.FfnFinalSampleIdeal.nD Cert.FfnFinalSampleIdeal.τ).loc Cert.FfnFinalSampleIdeal.main_arg3) = m ((c.tc : Thread Cert.FfnFinalSampleIdeal.nD Cert.FfnFinalSampleIdeal.τ).loc Cert.FfnFinalSampleIdeal.main_arg3)
      ∧ r.2.mem ((c.tc : Thread Cert.FfnFinalSampleIdeal.nD Cert.FfnFinalSampleIdeal.τ).loc Cert.FfnFinalSampleIdeal.main_arg4) = m ((c.tc : Thread Cert.FfnFinalSampleIdeal.nD Cert.FfnFinalSampleIdeal.τ).loc Cert.FfnFinalSampleIdeal.main_arg4)
      ∧ r.2.mem ((c.tc : Thread Cert.FfnFinalSampleIdeal.nD Cert.FfnFinalSampleIdeal.τ).loc Cert.FfnFinalSampleIdeal.main_arg5) = m ((c.tc : Thread Cert.FfnFinalSampleIdeal.nD Cert.FfnFinalSampleIdeal.τ).loc Cert.FfnFinalSampleIdeal.main_arg5))
      ∧ r.2.sem = fun _ => 0)

def quiescent_FfnFinalSampleRefIdeal [hFfnFinalSampleRefIdeal : Cert.FfnFinalSampleRefIdeal.Facts] : Prop :=
  ∀ (m : (ℓ : Loc Cert.FfnFinalSampleRefIdeal.nD Cert.FfnFinalSampleRefIdeal.τ Cert.FfnFinalSampleRefIdeal.sig) → Buf (Elt Ideal) ℓ) (g : Dev Cert.FfnFinalSampleRefIdeal.nD → PrngReg), Pre_FfnFinalSampleRefIdeal m →
    θ_run (Cert.FfnFinalSampleRefIdeal.defs (F := Ideal)) (onTc (τ := Cert.FfnFinalSampleRefIdeal.τ) (Cert.FfnFinalSampleRefIdeal.main (F := Ideal))) ⟨m, fun _ => 0, g⟩ (fun r => (∀ c : Dev Cert.FfnFinalSampleRefIdeal.nD,
      r.2.mem ((c.tc : Thread Cert.FfnFinalSampleRefIdeal.nD Cert.FfnFinalSampleRefIdeal.τ).loc Cert.FfnFinalSampleRefIdeal.main_arg0) = m ((c.tc : Thread Cert.FfnFinalSampleRefIdeal.nD Cert.FfnFinalSampleRefIdeal.τ).loc Cert.FfnFinalSampleRefIdeal.main_arg0)
      ∧ r.2.mem ((c.tc : Thread Cert.FfnFinalSampleRefIdeal.nD Cert.FfnFinalSampleRefIdeal.τ).loc Cert.FfnFinalSampleRefIdeal.main_arg1) = m ((c.tc : Thread Cert.FfnFinalSampleRefIdeal.nD Cert.FfnFinalSampleRefIdeal.τ).loc Cert.FfnFinalSampleRefIdeal.main_arg1)
      ∧ r.2.mem ((c.tc : Thread Cert.FfnFinalSampleRefIdeal.nD Cert.FfnFinalSampleRefIdeal.τ).loc Cert.FfnFinalSampleRefIdeal.main_arg2) = m ((c.tc : Thread Cert.FfnFinalSampleRefIdeal.nD Cert.FfnFinalSampleRefIdeal.τ).loc Cert.FfnFinalSampleRefIdeal.main_arg2)
      ∧ r.2.mem ((c.tc : Thread Cert.FfnFinalSampleRefIdeal.nD Cert.FfnFinalSampleRefIdeal.τ).loc Cert.FfnFinalSampleRefIdeal.main_arg3) = m ((c.tc : Thread Cert.FfnFinalSampleRefIdeal.nD Cert.FfnFinalSampleRefIdeal.τ).loc Cert.FfnFinalSampleRefIdeal.main_arg3)
      ∧ r.2.mem ((c.tc : Thread Cert.FfnFinalSampleRefIdeal.nD Cert.FfnFinalSampleRefIdeal.τ).loc Cert.FfnFinalSampleRefIdeal.main_arg4) = m ((c.tc : Thread Cert.FfnFinalSampleRefIdeal.nD Cert.FfnFinalSampleRefIdeal.τ).loc Cert.FfnFinalSampleRefIdeal.main_arg4)
      ∧ r.2.mem ((c.tc : Thread Cert.FfnFinalSampleRefIdeal.nD Cert.FfnFinalSampleRefIdeal.τ).loc Cert.FfnFinalSampleRefIdeal.main_arg5) = m ((c.tc : Thread Cert.FfnFinalSampleRefIdeal.nD Cert.FfnFinalSampleRefIdeal.τ).loc Cert.FfnFinalSampleRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def preserves_Mixer_MixerIdeal : Prop :=
  IdealRules.named_const.Statement Cert.MixerIdeal.κ "mask" .f32 0xF149F2CA#32 ⊥

def algebraic_MixerIdeal_MixerRefIdeal_pre_finite_scores [hMixerIdeal : Cert.MixerIdeal.Facts] [hMixerRefIdeal : Cert.MixerRefIdeal.Facts] [hPre_finite_scores : Cert.Pre_finite_scores.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_scores m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)) →
    ∃ (v0 : (c : Dev Cert.MixerIdeal.nD) → Buf (Elt Ideal) ((c.tc : Thread Cert.MixerIdeal.nD Cert.MixerIdeal.τ).loc Cert.MixerIdeal.main_v13)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v13) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v127) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v25) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v9)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v9) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v37) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_FfnFinalSample_FfnFinalSampleIdeal : Prop :=
  True

def algebraic_FfnFinalSampleIdeal_FfnFinalSampleRefIdeal [hFfnFinalSampleIdeal : Cert.FfnFinalSampleIdeal.Facts] [hFfnFinalSampleRefIdeal : Cert.FfnFinalSampleRefIdeal.Facts] : Prop :=
  ∀ (m : (ℓ : Loc Cert.FfnFinalSampleIdeal.nD Cert.FfnFinalSampleIdeal.τ Cert.FfnFinalSampleIdeal.sig) → Buf (Elt Ideal) ℓ) (g : Dev Cert.FfnFinalSampleIdeal.nD → PrngReg)
    (m' : (ℓ : Loc Cert.FfnFinalSampleRefIdeal.nD Cert.FfnFinalSampleRefIdeal.τ Cert.FfnFinalSampleRefIdeal.sig) → Buf (Elt Ideal) ℓ) (g' : Dev Cert.FfnFinalSampleRefIdeal.nD → PrngReg), Pre_FfnFinalSampleIdeal m →
    (∀ c : Dev Cert.FfnFinalSampleIdeal.nD,
      m' ((c.tc : Thread Cert.FfnFinalSampleRefIdeal.nD Cert.FfnFinalSampleRefIdeal.τ).loc Cert.FfnFinalSampleRefIdeal.main_arg0) = m ((c.tc : Thread Cert.FfnFinalSampleIdeal.nD Cert.FfnFinalSampleIdeal.τ).loc Cert.FfnFinalSampleIdeal.main_arg0)
      ∧ m' ((c.tc : Thread Cert.FfnFinalSampleRefIdeal.nD Cert.FfnFinalSampleRefIdeal.τ).loc Cert.FfnFinalSampleRefIdeal.main_arg1) = m ((c.tc : Thread Cert.FfnFinalSampleIdeal.nD Cert.FfnFinalSampleIdeal.τ).loc Cert.FfnFinalSampleIdeal.main_arg1)
      ∧ m' ((c.tc : Thread Cert.FfnFinalSampleRefIdeal.nD Cert.FfnFinalSampleRefIdeal.τ).loc Cert.FfnFinalSampleRefIdeal.main_arg2) = m ((c.tc : Thread Cert.FfnFinalSampleIdeal.nD Cert.FfnFinalSampleIdeal.τ).loc Cert.FfnFinalSampleIdeal.main_arg2)
      ∧ m' ((c.tc : Thread Cert.FfnFinalSampleRefIdeal.nD Cert.FfnFinalSampleRefIdeal.τ).loc Cert.FfnFinalSampleRefIdeal.main_arg3) = m ((c.tc : Thread Cert.FfnFinalSampleIdeal.nD Cert.FfnFinalSampleIdeal.τ).loc Cert.FfnFinalSampleIdeal.main_arg3)
      ∧ m' ((c.tc : Thread Cert.FfnFinalSampleRefIdeal.nD Cert.FfnFinalSampleRefIdeal.τ).loc Cert.FfnFinalSampleRefIdeal.main_arg4) = m ((c.tc : Thread Cert.FfnFinalSampleIdeal.nD Cert.FfnFinalSampleIdeal.τ).loc Cert.FfnFinalSampleIdeal.main_arg4)
      ∧ m' ((c.tc : Thread Cert.FfnFinalSampleRefIdeal.nD Cert.FfnFinalSampleRefIdeal.τ).loc Cert.FfnFinalSampleRefIdeal.main_arg5) = m ((c.tc : Thread Cert.FfnFinalSampleIdeal.nD Cert.FfnFinalSampleIdeal.τ).loc Cert.FfnFinalSampleIdeal.main_arg5)) →
    ∃ (v0 : (c : Dev Cert.FfnFinalSampleIdeal.nD) → Buf (Elt Ideal) ((c.tc : Thread Cert.FfnFinalSampleIdeal.nD Cert.FfnFinalSampleIdeal.τ).loc Cert.FfnFinalSampleIdeal.main_v9)),
      θ_run (Cert.FfnFinalSampleIdeal.defs (F := Ideal)) (onTc (τ := Cert.FfnFinalSampleIdeal.τ) (Cert.FfnFinalSampleIdeal.main (F := Ideal))) ⟨m, fun _ => 0, g⟩ (fun r => ∀ c : Dev Cert.FfnFinalSampleIdeal.nD,
          r.2.mem ((c.tc : Thread Cert.FfnFinalSampleIdeal.nD Cert.FfnFinalSampleIdeal.τ).loc Cert.FfnFinalSampleIdeal.main_v9) = v0 c
          ∧ r.2.mem ((c.tc : Thread Cert.FfnFinalSampleIdeal.nD Cert.FfnFinalSampleIdeal.τ).loc Cert.FfnFinalSampleIdeal.main_arg0) = m ((c.tc : Thread Cert.FfnFinalSampleIdeal.nD Cert.FfnFinalSampleIdeal.τ).loc Cert.FfnFinalSampleIdeal.main_arg0)
          ∧ r.2.mem ((c.tc : Thread Cert.FfnFinalSampleIdeal.nD Cert.FfnFinalSampleIdeal.τ).loc Cert.FfnFinalSampleIdeal.main_arg1) = m ((c.tc : Thread Cert.FfnFinalSampleIdeal.nD Cert.FfnFinalSampleIdeal.τ).loc Cert.FfnFinalSampleIdeal.main_arg1)
          ∧ r.2.mem ((c.tc : Thread Cert.FfnFinalSampleIdeal.nD Cert.FfnFinalSampleIdeal.τ).loc Cert.FfnFinalSampleIdeal.main_arg2) = m ((c.tc : Thread Cert.FfnFinalSampleIdeal.nD Cert.FfnFinalSampleIdeal.τ).loc Cert.FfnFinalSampleIdeal.main_arg2)
          ∧ r.2.mem ((c.tc : Thread Cert.FfnFinalSampleIdeal.nD Cert.FfnFinalSampleIdeal.τ).loc Cert.FfnFinalSampleIdeal.main_arg3) = m ((c.tc : Thread Cert.FfnFinalSampleIdeal.nD Cert.FfnFinalSampleIdeal.τ).loc Cert.FfnFinalSampleIdeal.main_arg3)
          ∧ r.2.mem ((c.tc : Thread Cert.FfnFinalSampleIdeal.nD Cert.FfnFinalSampleIdeal.τ).loc Cert.FfnFinalSampleIdeal.main_arg4) = m ((c.tc : Thread Cert.FfnFinalSampleIdeal.nD Cert.FfnFinalSampleIdeal.τ).loc Cert.FfnFinalSampleIdeal.main_arg4)
          ∧ r.2.mem ((c.tc : Thread Cert.FfnFinalSampleIdeal.nD Cert.FfnFinalSampleIdeal.τ).loc Cert.FfnFinalSampleIdeal.main_arg5) = m ((c.tc : Thread Cert.FfnFinalSampleIdeal.nD Cert.FfnFinalSampleIdeal.τ).loc Cert.FfnFinalSampleIdeal.main_arg5))
      ∧ θ_run (Cert.FfnFinalSampleRefIdeal.defs (F := Ideal)) (onTc (τ := Cert.FfnFinalSampleRefIdeal.τ) (Cert.FfnFinalSampleRefIdeal.main (F := Ideal))) ⟨m', fun _ => 0, g'⟩ (fun r => ∀ c : Dev Cert.FfnFinalSampleRefIdeal.nD,
          r.2.mem ((c.tc : Thread Cert.FfnFinalSampleRefIdeal.nD Cert.FfnFinalSampleRefIdeal.τ).loc Cert.FfnFinalSampleRefIdeal.main_v37) = v0 c
          ∧ r.2.mem ((c.tc : Thread Cert.FfnFinalSampleRefIdeal.nD Cert.FfnFinalSampleRefIdeal.τ).loc Cert.FfnFinalSampleRefIdeal.main_arg0) = m' ((c.tc : Thread Cert.FfnFinalSampleRefIdeal.nD Cert.FfnFinalSampleRefIdeal.τ).loc Cert.FfnFinalSampleRefIdeal.main_arg0)
          ∧ r.2.mem ((c.tc : Thread Cert.FfnFinalSampleRefIdeal.nD Cert.FfnFinalSampleRefIdeal.τ).loc Cert.FfnFinalSampleRefIdeal.main_arg1) = m' ((c.tc : Thread Cert.FfnFinalSampleRefIdeal.nD Cert.FfnFinalSampleRefIdeal.τ).loc Cert.FfnFinalSampleRefIdeal.main_arg1)
          ∧ r.2.mem ((c.tc : Thread Cert.FfnFinalSampleRefIdeal.nD Cert.FfnFinalSampleRefIdeal.τ).loc Cert.FfnFinalSampleRefIdeal.main_arg2) = m' ((c.tc : Thread Cert.FfnFinalSampleRefIdeal.nD Cert.FfnFinalSampleRefIdeal.τ).loc Cert.FfnFinalSampleRefIdeal.main_arg2)
          ∧ r.2.mem ((c.tc : Thread Cert.FfnFinalSampleRefIdeal.nD Cert.FfnFinalSampleRefIdeal.τ).loc Cert.FfnFinalSampleRefIdeal.main_arg3) = m' ((c.tc : Thread Cert.FfnFinalSampleRefIdeal.nD Cert.FfnFinalSampleRefIdeal.τ).loc Cert.FfnFinalSampleRefIdeal.main_arg3)
          ∧ r.2.mem ((c.tc : Thread Cert.FfnFinalSampleRefIdeal.nD Cert.FfnFinalSampleRefIdeal.τ).loc Cert.FfnFinalSampleRefIdeal.main_arg4) = m' ((c.tc : Thread Cert.FfnFinalSampleRefIdeal.nD Cert.FfnFinalSampleRefIdeal.τ).loc Cert.FfnFinalSampleRefIdeal.main_arg4)
          ∧ r.2.mem ((c.tc : Thread Cert.FfnFinalSampleRefIdeal.nD Cert.FfnFinalSampleRefIdeal.τ).loc Cert.FfnFinalSampleRefIdeal.main_arg5) = m' ((c.tc : Thread Cert.FfnFinalSampleRefIdeal.nD Cert.FfnFinalSampleRefIdeal.τ).loc Cert.FfnFinalSampleRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v29_0)) (v1 : (c : Dev Cert.InProjIdeal.nD) → Buf (Elt Ideal) ((c.tc : Thread Cert.InProjIdeal.nD Cert.InProjIdeal.τ).loc Cert.InProjIdeal.main_v29_1)) (v2 : (c : Dev Cert.InProjIdeal.nD) → Buf (Elt Ideal) ((c.tc : Thread Cert.InProjIdeal.nD Cert.InProjIdeal.τ).loc Cert.InProjIdeal.main_v29_2)) (v3 : (c : Dev Cert.InProjIdeal.nD) → Buf (Elt Ideal) ((c.tc : Thread Cert.InProjIdeal.nD Cert.InProjIdeal.τ).loc Cert.InProjIdeal.main_v29_3)) (v4 : (c : Dev Cert.InProjIdeal.nD) → Buf (Elt Ideal) ((c.tc : Thread Cert.InProjIdeal.nD Cert.InProjIdeal.τ).loc Cert.InProjIdeal.main_v29_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v29_0) = v0 c
          ∧ r.2.mem ((c.tc : Thread Cert.InProjIdeal.nD Cert.InProjIdeal.τ).loc Cert.InProjIdeal.main_v29_1) = v1 c
          ∧ r.2.mem ((c.tc : Thread Cert.InProjIdeal.nD Cert.InProjIdeal.τ).loc Cert.InProjIdeal.main_v29_2) = v2 c
          ∧ r.2.mem ((c.tc : Thread Cert.InProjIdeal.nD Cert.InProjIdeal.τ).loc Cert.InProjIdeal.main_v29_3) = v3 c
          ∧ r.2.mem ((c.tc : Thread Cert.InProjIdeal.nD Cert.InProjIdeal.τ).loc Cert.InProjIdeal.main_v29_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v123) = v0 c
          ∧ r.2.mem ((c.tc : Thread Cert.InProjRefIdeal.nD Cert.InProjRefIdeal.τ).loc Cert.InProjRefIdeal.main_v139) = v1 c
          ∧ r.2.mem ((c.tc : Thread Cert.InProjRefIdeal.nD Cert.InProjRefIdeal.τ).loc Cert.InProjRefIdeal.main_v141) = v2 c
          ∧ r.2.mem ((c.tc : Thread Cert.InProjRefIdeal.nD Cert.InProjRefIdeal.τ).loc Cert.InProjRefIdeal.main_v143) = v3 c
          ∧ r.2.mem ((c.tc : Thread Cert.InProjRefIdeal.nD Cert.InProjRefIdeal.τ).loc Cert.InProjRefIdeal.main_v145) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def Claim : Prop :=
  ∃ (hMixer : Cert.Mixer.Facts) (hMixerIdeal : Cert.MixerIdeal.Facts) (hMixerRefIdeal : Cert.MixerRefIdeal.Facts) (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hFfnFinalSample : Cert.FfnFinalSample.Facts) (hFfnFinalSampleIdeal : Cert.FfnFinalSampleIdeal.Facts) (hFfnFinalSampleRefIdeal : Cert.FfnFinalSampleRefIdeal.Facts) (hInProj : Cert.InProj.Facts) (hInProjIdeal : Cert.InProjIdeal.Facts) (hInProjRefIdeal : Cert.InProjRefIdeal.Facts) (hPre_finite_scores : Cert.Pre_finite_scores.Facts),
    quiescent_Mixer (hMixer := hMixer)
    ∧ quiescent_MixerIdeal (hMixerIdeal := hMixerIdeal)
    ∧ quiescent_MixerIdeal_pre_finite_scores (hMixerIdeal := hMixerIdeal) (hPre_finite_scores := hPre_finite_scores)
    ∧ quiescent_MixerRefIdeal (hMixerRefIdeal := hMixerRefIdeal)
    ∧ quiescent_MixerRefIdeal_pre_finite_scores (hMixerRefIdeal := hMixerRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_FfnFinalSample (hFfnFinalSample := hFfnFinalSample)
    ∧ quiescent_FfnFinalSampleIdeal (hFfnFinalSampleIdeal := hFfnFinalSampleIdeal)
    ∧ quiescent_FfnFinalSampleRefIdeal (hFfnFinalSampleRefIdeal := hFfnFinalSampleRefIdeal)
    ∧ quiescent_InProj (hInProj := hInProj)
    ∧ quiescent_InProjIdeal (hInProjIdeal := hInProjIdeal)
    ∧ quiescent_InProjRefIdeal (hInProjRefIdeal := hInProjRefIdeal)
    ∧ preserves_Mixer_MixerIdeal
    ∧ algebraic_MixerIdeal_MixerRefIdeal_pre_finite_scores (hMixerIdeal := hMixerIdeal) (hMixerRefIdeal := hMixerRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_FfnFinalSample_FfnFinalSampleIdeal
    ∧ algebraic_FfnFinalSampleIdeal_FfnFinalSampleRefIdeal (hFfnFinalSampleIdeal := hFfnFinalSampleIdeal) (hFfnFinalSampleRefIdeal := hFfnFinalSampleRefIdeal)
    ∧ preserves_InProj_InProjIdeal
    ∧ algebraic_InProjIdeal_InProjRefIdeal (hInProjIdeal := hInProjIdeal) (hInProjRefIdeal := hInProjRefIdeal)
-- ==== Pre_finite_scores.lean ====
abbrev S16384x2048 : Shape := ⟨2, ![16384, 2048]⟩
abbrev S16384x1024 : Shape := ⟨2, ![16384, 1024]⟩
abbrev S16384x256 : Shape := ⟨2, ![16384, 256]⟩
abbrev S1x8 : Shape := ⟨2, ![1, 8]⟩
abbrev S1x8x128x128 : Shape := ⟨4, ![1, 8, 128, 128]⟩
abbrev S1x8x128 : Shape := ⟨3, ![1, 8, 128]⟩
abbrev S1x1024 : Shape := ⟨2, ![1, 1024]⟩
abbrev S1x2048x2048 : Shape := ⟨3, ![1, 2048, 2048]⟩
abbrev S_ : Shape := ⟨0, ![]⟩

class Facts : Prop where
  bcast_S_S16384x1024 : S_.BroadcastsInDim S16384x1024 (![] : Fin 0 → Fin S16384x1024.rank)
  bcast_S_S16384x256 : S_.BroadcastsInDim S16384x256 (![] : Fin 0 → Fin S16384x256.rank)
  bcast_S_S1x8 : S_.BroadcastsInDim S1x8 (![] : Fin 0 → Fin S1x8.rank)

variable [Facts]

def fn {F : FTy → Type} [FloatOps F] (main_arg0 : FVec F S16384x2048 .f32) (main_arg1 : FVec F S16384x1024 .bf16) (main_arg2 : FVec F S16384x1024 .bf16) (main_arg3 : FVec F S16384x1024 .bf16) (main_arg4 : FVec F S16384x256 .bf16) (main_arg5 : FVec F S16384x256 .bf16) (main_arg6 : FVec F S1x8 .f32) (main_arg7 : FVec F S1x8x128x128 .f32) (main_arg8 : FVec F S1x8x128 .f32) (main_arg9 : FVec F S1x1024 .f32) (main_arg10 : FVec F S1x1024 .f32) (main_arg11 : FVec F S1x2048x2048 .f32) : IVec S16384x1024 1 × IVec S16384x256 1 × IVec S1x8 1 :=
  let main_v0 : FVec F S16384x1024 .bf16 := Host.absf main_arg3
  let main_cst : FVec F S_ .bf16 := constant S_ .bf16 0x7F80#16
  let main_v1 : FVec F S16384x1024 .bf16 := broadcastInDim S16384x1024 ![] bcast_S_S16384x1024 main_cst
  let main_v2 : IVec S16384x1024 1 := cmpf .olt main_v0 main_v1
  let main_v3 : FVec F S16384x256 .bf16 := Host.absf main_arg4
  let main_cst_0 : FVec F S_ .bf16 := constant S_ .bf16 0x7F80#16
  let main_v4 : FVec F S16384x256 .bf16 := broadcastInDim S16384x256 ![] bcast_S_S16384x256 main_cst_0
  let main_v5 : IVec S16384x256 1 := cmpf .olt main_v3 main_v4
  let main_v6 : FVec F S1x8 .f32 := Host.absf main_arg6
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  (main_v2, main_v5, main_v8)
-- ==== Mixer.lean ====
abbrev S16384x2048 : Shape := ⟨2, ![16384, 2048]⟩
abbrev S16384x1024 : Shape := ⟨2, ![16384, 1024]⟩
abbrev S16384x256 : Shape := ⟨2, ![16384, 256]⟩
abbrev S1x8 : Shape := ⟨2, ![1, 8]⟩
abbrev S1x8x128x128 : Shape := ⟨4, ![1, 8, 128, 128]⟩
abbrev S1x8x128 : Shape := ⟨3, ![1, 8, 128]⟩
abbrev S1x1024 : Shape := ⟨2, ![1, 1024]⟩
abbrev S1x2048x2048 : Shape := ⟨3, ![1, 2048, 2048]⟩
abbrev S8x128 : Shape := ⟨2, ![8, 128]⟩
abbrev S8x128x1 : Shape := ⟨3, ![8, 128, 1]⟩
abbrev S8x128x128 : Shape := ⟨3, ![8, 128, 128]⟩
abbrev S8 : Shape := ⟨1, ![8]⟩
abbrev S1024 : Shape := ⟨1, ![1024]⟩
abbrev S2048x2048 : Shape := ⟨2, ![2048, 2048]⟩
abbrev S512x2048 : Shape := ⟨2, ![512, 2048]⟩
abbrev S512x1024 : Shape := ⟨2, ![512, 1024]⟩
abbrev S512x256 : Shape := ⟨2, ![512, 256]⟩
abbrev S128x256 : Shape := ⟨2, ![128, 256]⟩
abbrev S768x256 : Shape := ⟨2, ![768, 256]⟩
abbrev S128x128 : Shape := ⟨2, ![128, 128]⟩
abbrev S128x512 : Shape := ⟨2, ![128, 512]⟩
abbrev S1x128x128 : Shape := ⟨3, ![1, 128, 128]⟩
abbrev S512 : Shape := ⟨1, ![512]⟩
abbrev S512x1 : Shape := ⟨2, ![512, 1]⟩
abbrev S512x128 : Shape := ⟨2, ![512, 128]⟩
abbrev S384x128 : Shape := ⟨2, ![384, 128]⟩
abbrev S512x384 : Shape := ⟨2, ![512, 384]⟩
abbrev S1 : Shape := ⟨1, ![1]⟩
abbrev S128x1 : Shape := ⟨2, ![128, 1]⟩

abbrev nBuf : Space → Nat
  | .hbm => 26
  | .vmem => 31
  | .smem => 1
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x256, .bf16⟩
  | .hbm, ⟨5, _⟩ => ⟨S16384x256, .bf16⟩
  | .hbm, ⟨6, _⟩ => ⟨S1x8, .f32⟩
  | .hbm, ⟨7, _⟩ => ⟨S1x8x128x128, .f32⟩
  | .hbm, ⟨8, _⟩ => ⟨S1x8x128, .f32⟩
  | .hbm, ⟨9, _⟩ => ⟨S1x1024, .f32⟩
  | .hbm, ⟨10, _⟩ => ⟨S1x1024, .f32⟩
  | .hbm, ⟨11, _⟩ => ⟨S1x2048x2048, .f32⟩
  | .hbm, ⟨12, _⟩ => ⟨S8x128, .f32⟩
  | .hbm, ⟨13, _⟩ => ⟨S8x128x1, .f32⟩
  | .hbm, ⟨14, _⟩ => ⟨S8x128, .f32⟩
  | .hbm, ⟨15, _⟩ => ⟨S8x128x128, .f32⟩
  | .hbm, ⟨16, _⟩ => ⟨S8, .f32⟩
  | .hbm, ⟨17, _⟩ => ⟨S8x128x128, .f32⟩
  | .hbm, ⟨18, _⟩ => ⟨S8x128x128, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2048x2048, .f32⟩
  | .hbm, ⟨24, _⟩ => ⟨S2048x2048, .bf16⟩
  | .hbm, ⟨25, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S128x256, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S8x128x128, .bf16⟩
  | .local _ .vmem, ⟨21, _⟩ => ⟨S8x128x128, .f32⟩
  | .local _ .vmem, ⟨22, _⟩ => ⟨S1x1024, .f32⟩
  | .local _ .vmem, ⟨23, _⟩ => ⟨S1x1024, .f32⟩
  | .local _ .vmem, ⟨24, _⟩ => ⟨S2048x2048, .bf16⟩
  | .local _ .vmem, ⟨25, _⟩ => ⟨S512x2048, .f32⟩
  | .local _ .vmem, ⟨26, _⟩ => ⟨S512x2048, .f32⟩
  | .local _ .vmem, ⟨27, _⟩ => ⟨S512x1024, .f32⟩
  | .local _ .vmem, ⟨28, _⟩ => ⟨S512x2048, .bf16⟩
  | .local _ .vmem, ⟨29, _⟩ => ⟨S768x256, .bf16⟩
  | .local _ .vmem, ⟨30, _⟩ => ⟨S768x256, .bf16⟩
  | .local _ .smem, ⟨0, _⟩ => ⟨S8, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixerIdeal.lean ====
variable {F : FTy → Type} [FloatOps F] [Named F]
def κ : String → Option EReal := fun
  | "mask" => some ⊥
  | _ => none
-- ==== MixerRefIdeal.lean ====
abbrev S16384x2048 : Shape := ⟨2, ![16384, 2048]⟩
abbrev S16384x1024 : Shape := ⟨2, ![16384, 1024]⟩
abbrev S16384x256 : Shape := ⟨2, ![16384, 256]⟩
abbrev S1x8 : Shape := ⟨2, ![1, 8]⟩
abbrev S1x8x128x128 : Shape := ⟨4, ![1, 8, 128, 128]⟩
abbrev S1x8x128 : Shape := ⟨3, ![1, 8, 128]⟩
abbrev S1x1024 : Shape := ⟨2, ![1, 1024]⟩
abbrev S1x2048x2048 : Shape := ⟨3, ![1, 2048, 2048]⟩
abbrev S1x16384x1024 : Shape := ⟨3, ![1, 16384, 1024]⟩
abbrev S8x128x128 : Shape := ⟨3, ![8, 128, 128]⟩
abbrev S8x128 : Shape := ⟨2, ![8, 128]⟩
abbrev S1x128x128x8x128 : Shape := ⟨5, ![1, 128, 128, 8, 128]⟩
abbrev S8x1x128x128x128 : Shape := ⟨5, ![8, 1, 128, 128, 128]⟩
abbrev S128x8 : Shape := ⟨2, ![128, 8]⟩
abbrev S1x1x128x8x1 : Shape := ⟨5, ![1, 1, 128, 8, 1]⟩
abbrev S1x16384x8x128 : Shape := ⟨4, ![1, 16384, 8, 128]⟩
abbrev S1x16384x2x128 : Shape := ⟨4, ![1, 16384, 2, 128]⟩
abbrev S8 : Shape := ⟨1, ![8]⟩
abbrev S1x128x128x2x4x128 : Shape := ⟨6, ![1, 128, 128, 2, 4, 128]⟩
abbrev S_ : Shape := ⟨0, ![]⟩
abbrev S1x16640x2x128 : Shape := ⟨4, ![1, 16640, 2, 128]⟩
abbrev S1x130x128x2x128 : Shape := ⟨5, ![1, 130, 128, 2, 128]⟩
abbrev S1x128x128x2x128 : Shape := ⟨5, ![1, 128, 128, 2, 128]⟩
abbrev S1x128x384x2x128 : Shape := ⟨5, ![1, 128, 384, 2, 128]⟩
abbrev S1x128x2x384x128x4 : Shape := ⟨6, ![1, 128, 2, 384, 128, 4]⟩
abbrev S1x128x2x4x128x384 : Shape := ⟨6, ![1, 128, 2, 4, 128, 384]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S384 : Shape := ⟨1, ![384]⟩
abbrev S1x384 : Shape := ⟨2, ![1, 384]⟩
abbrev S128x384 : Shape := ⟨2, ![128, 384]⟩
abbrev S128x1x384 : Shape := ⟨3, ![128, 1, 384]⟩
abbrev S128x128x1 : Shape := ⟨3, ![128, 128, 1]⟩
abbrev S128x128x384 : Shape := ⟨3, ![128, 128, 384]⟩
abbrev S1x128x1x1x128x384 : Shape := ⟨6, ![1, 128, 1, 1, 128, 384]⟩
abbrev S2x4 : Shape := ⟨2, ![2, 4]⟩
abbrev S1x1x2x4x1x1 : Shape := ⟨6, ![1, 1, 2, 4, 1, 1]⟩
abbrev S1x128x2x4x128x1 : Shape := ⟨6, ![1, 128, 2, 4, 128, 1]⟩
abbrev S1x128x2x4x128x385 : Shape := ⟨6, ![1, 128, 2, 4, 128, 385]⟩
abbrev S1x128x2x4x128 : Shape := ⟨5, ![1, 128, 2, 4, 128]⟩
abbrev S1x128x2x128x4x128 : Shape := ⟨6, ![1, 128, 2, 128, 4, 128]⟩
abbrev S1024 : Shape := ⟨1, ![1024]⟩
abbrev S1x16384 : Shape := ⟨2, ![1, 16384]⟩
abbrev S1x16384x1 : Shape := ⟨3, ![1, 16384, 1]⟩
abbrev S1x1x1024 : Shape := ⟨3, ![1, 1, 1024]⟩
abbrev S1x16384x2048 : Shape := ⟨3, ![1, 16384, 2048]⟩
abbrev S2048x2048 : Shape := ⟨2, ![2048, 2048]⟩

abbrev nBuf : Space → Nat
  | .hbm => 163
  | .vmem => 0
  | .smem => 0
  | _ => 0

abbrev hbmTy0_0 (i : Nat) : BufTy := match i % 128 with
  | 0 => ⟨S16384x2048, .f32⟩
  | 1 => ⟨S16384x1024, .bf16⟩
  | 2 => ⟨S16384x1024, .bf16⟩
  | 3 => ⟨S16384x1024, .bf16⟩
  | 4 => ⟨S16384x256, .bf16⟩
  | 5 => ⟨S16384x256, .bf16⟩
  | 6 => ⟨S1x8, .f32⟩
  | 7 => ⟨S1x8x128x128, .f32⟩
  | 8 => ⟨S1x8x128, .f32⟩
  | 9 => ⟨S1x1024, .f32⟩
  | 10 => ⟨S1x1024, .f32⟩
  | 11 => ⟨S1x2048x2048, .f32⟩
  | 12 => ⟨S16384x1024, .f32⟩
  | 13 => ⟨S1x16384x1024, .f32⟩
  | 14 => ⟨S16384x1024, .f32⟩
  | 15 => ⟨S1x16384x1024, .f32⟩
  | 16 => ⟨S8x128x128, .f32⟩
  | 17 => ⟨S8x128, .f32⟩
  | 18 => ⟨S1x128x128x8x128, .f32⟩
  | 19 => ⟨S8x1x128x128x128, .f32⟩
  | 20 => ⟨S1x128x128x8x128, .f32⟩
  | 21 => ⟨S128x8, .f32⟩
  | 22 => ⟨S1x1x128x8x1, .f32⟩
  | 23 => ⟨S1x128x128x8x128, .f32⟩
  | 24 => ⟨S1x128x128x8x128, .f32⟩
  | 25 => ⟨S1x16384x1024, .f32⟩
  | 26 => ⟨S1x16384x1024, .f32⟩
  | 27 => ⟨S16384x1024, .f32⟩
  | 28 => ⟨S1x16384x8x128, .f32⟩
  | 29 => ⟨S16384x256, .f32⟩
  | 30 => ⟨S1x16384x2x128, .f32⟩
  | 31 => ⟨S16384x256, .f32⟩
  | 32 => ⟨S1x16384x2x128, .f32⟩
  | 33 => ⟨S8, .f32⟩
  | 34 => ⟨S1x128x128x2x4x128, .f32⟩
  | 35 => ⟨S_, .i32⟩
  | 36 => ⟨S_, .f32⟩
  | 37 => ⟨S1x16640x2x128, .f32⟩
  | 38 => ⟨S1x130x128x2x128, .f32⟩
  | 39 => ⟨S1x128x128x2x128, .f32⟩
  | 40 => ⟨S1x128x128x2x128, .f32⟩
  | 41 => ⟨S1x128x128x2x128, .f32⟩
  | 42 => ⟨S1x128x384x2x128, .f32⟩
  | 43 => ⟨S_, .i32⟩
  | 44 => ⟨S_, .f32⟩
  | 45 => ⟨S1x16640x2x128, .f32⟩
  | 46 => ⟨S1x130x128x2x128, .f32⟩
  | 47 => ⟨S1x128x128x2x128, .f32⟩
  | 48 => ⟨S1x128x128x2x128, .f32⟩
  | 49 => ⟨S1x128x128x2x128, .f32⟩
  | 50 => ⟨S1x128x384x2x128, .f32⟩
  | 51 => ⟨S1x128x2x384x128x4, .f32⟩
  | 52 => ⟨S1x128x2x4x128x384, .f32⟩
  | 53 => ⟨S_, .f32⟩
  | 54 => ⟨S1x128x2x4x128x384, .f32⟩
  | 55 => ⟨S1x128x2x4x128x384, .f32⟩
  | 56 => ⟨S128, .i32⟩
  | 57 => ⟨S128x1, .i32⟩
  | 58 => ⟨S_, .i32⟩
  | 59 => ⟨S128x1, .i32⟩
  | 60 => ⟨S128x1, .i32⟩
  | 61 => ⟨S128, .i32⟩
  | 62 => ⟨S1x128, .i32⟩
  | 63 => ⟨S128x128, .i32⟩
  | 64 => ⟨S128x128, .i32⟩
  | 65 => ⟨S128x128, .i32⟩
  | 66 => ⟨S_, .i32⟩
  | 67 => ⟨S128x1, .i32⟩
  | 68 => ⟨S128x1, .i32⟩
  | 69 => ⟨S384, .i32⟩
  | 70 => ⟨S1x384, .i32⟩
  | 71 => ⟨S128x384, .i32⟩
  | 72 => ⟨S128x384, .i32⟩
  | 73 => ⟨S128x384, .i32⟩
  | 74 => ⟨S128x1x384, .i32⟩
  | 75 => ⟨S128x128x1, .i32⟩
  | 76 => ⟨S128x128x384, .i32⟩
  | 77 => ⟨S128x128x384, .i32⟩
  | 78 => ⟨S128x128x384, .i32⟩
  | 79 => ⟨S128x128x384, .i32⟩
  | 80 => ⟨S_, .i32⟩
  | 81 => ⟨S128x128x384, .i32⟩
  | 82 => ⟨S128x128x384, .i1⟩
  | 83 => ⟨S128x1x384, .i32⟩
  | 84 => ⟨S_, .i32⟩
  | 85 => ⟨S128x1x384, .i32⟩
  | 86 => ⟨S128x1x384, .i1⟩
  | 87 => ⟨S128x128x384, .i1⟩
  | 88 => ⟨S128x128x384, .i1⟩
  | 89 => ⟨S128x1x384, .i32⟩
  | 90 => ⟨S_, .i32⟩
  | 91 => ⟨S128x1x384, .i32⟩
  | 92 => ⟨S128x1x384, .i1⟩
  | 93 => ⟨S128x128x384, .i1⟩
  | 94 => ⟨S128x128x384, .i1⟩
  | 95 => ⟨S1x128x1x1x128x384, .i1⟩
  | 96 => ⟨S_, .f32⟩
  | 97 => ⟨S_, .f32⟩
  | 98 => ⟨S1x128x2x4x128x384, .i1⟩
  | 99 => ⟨S1x128x2x4x128x384, .f32⟩
  | 100 => ⟨S1x128x2x4x128x384, .f32⟩
  | 101 => ⟨S2x4, .f32⟩
  | 102 => ⟨S1x1x2x4x1x1, .f32⟩
  | 103 => ⟨S1x128x2x4x128x1, .f32⟩
  | 104 => ⟨S1x128x2x4x128x385, .f32⟩
  | 105 => ⟨S_, .f32⟩
  | 106 => ⟨S1x128x2x4x128, .f32⟩
  | 107 => ⟨S_, .f32⟩
  | 108 => ⟨S1x128x2x4x128, .f32⟩
  | 109 => ⟨S1x128x2x4x128, .f32⟩
  | 110 => ⟨S1x128x2x4x128x1, .f32⟩
  | 111 => ⟨S1x128x2x4x128x385, .f32⟩
  | 112 => ⟨S1x128x2x4x128x385, .f32⟩
  | 113 => ⟨S1x128x2x4x128x385, .f32⟩
  | 114 => ⟨S_, .f32⟩
  | 115 => ⟨S1x128x2x4x128, .f32⟩
  | 116 => ⟨S1x128x2x4x128x1, .f32⟩
  | 117 => ⟨S1x128x2x4x128x385, .f32⟩
  | 118 => ⟨S1x128x2x4x128x385, .f32⟩
  | 119 => ⟨S1x128x2x4x128x384, .f32⟩
  | 120 => ⟨S1x128x2x128x4x128, .f32⟩
  | 121 => ⟨S1x128x128x2x4x128, .f32⟩
  | 122 => ⟨S1x16384x1024, .f32⟩
  | 123 => ⟨S1024, .f32⟩
  | 124 => ⟨S1x16384x1024, .f32⟩
  | 125 => ⟨S_, .f32⟩
  | 126 => ⟨S1x16384, .f32⟩
  | 127 => ⟨S1x16384x1, .f32⟩
  | _ => ⟨S16384x2048, .f32⟩

abbrev hbmTy0_1 (i : Nat) : BufTy := match i % 128 with
  | 0 => ⟨S_, .f32⟩
  | 1 => ⟨S1x16384x1, .f32⟩
  | 2 => ⟨S1x16384x1, .f32⟩
  | 3 => ⟨S_, .f32⟩
  | 4 => ⟨S1x16384x1, .f32⟩
  | 5 => ⟨S1x16384x1, .f32⟩
  | 6 => ⟨S1x16384x1, .f32⟩
  | 7 => ⟨S1x16384x1024, .f32⟩
  | 8 => ⟨S1x16384x1024, .f32⟩
  | 9 => ⟨S1x1x1024, .f32⟩
  | 10 => ⟨S1x16384x1024, .f32⟩
  | 11 => ⟨S1x16384x1024, .f32⟩
  | 12 => ⟨S1024, .f32⟩
  | 13 => ⟨S1x16384x1024, .f32⟩
  | 14 => ⟨S_, .f32⟩
  | 15 => ⟨S1x16384, .f32⟩
  | 16 => ⟨S1x16384x1, .f32⟩
  | 17 => ⟨S_, .f32⟩
  | 18 => ⟨S1x16384x1, .f32⟩
  | 19 => ⟨S1x16384x1, .f32⟩
  | 20 => ⟨S_, .f32⟩
  | 21 => ⟨S1x16384x1, .f32⟩
  | 22 => ⟨S1x16384x1, .f32⟩
  | 23 => ⟨S1x16384x1, .f32⟩
  | 24 => ⟨S1x16384x1024, .f32⟩
  | 25 => ⟨S1x16384x1024, .f32⟩
  | 26 => ⟨S1x1x1024, .f32⟩
  | 27 => ⟨S1x16384x1024, .f32⟩
  | 28 => ⟨S1x16384x1024, .f32⟩
  | 29 => ⟨S1x16384x2048, .f32⟩
  | 30 => ⟨S1x16384x2048, .f32⟩
  | 31 => ⟨S2048x2048, .f32⟩
  | 32 => ⟨S1x16384x2048, .f32⟩
  | 33 => ⟨S1x16384x2048, .f32⟩
  | 34 => ⟨S16384x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_0 : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_2 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_3 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_4 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_5 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_6 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_7 : Ref sig .tc := ⟨.hbm, 105, rfl⟩
abbrev main_v79 : Ref sig .tc := ⟨.hbm, 106, rfl⟩
abbrev main_cst_8 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_9 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_10 : Ref sig .tc := ⟨.hbm, 125, rfl⟩
abbrev main_v96 : Ref sig .tc := ⟨.hbm, 126, rfl⟩
abbrev main_v97 : Ref sig .tc := ⟨.hbm, 127, rfl⟩
abbrev main_cst_11 : Ref sig .tc := ⟨.hbm, 128, rfl⟩
abbrev main_v98 : Ref sig .tc := ⟨.hbm, 129, rfl⟩
abbrev main_v99 : Ref sig .tc := ⟨.hbm, 130, rfl⟩
abbrev main_cst_12 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_13 : Ref sig .tc := ⟨.hbm, 142, rfl⟩
abbrev main_v110 : Ref sig .tc := ⟨.hbm, 143, rfl⟩
abbrev main_v111 : Ref sig .tc := ⟨.hbm, 144, rfl⟩
abbrev main_cst_14 : Ref sig .tc := ⟨.hbm, 145, rfl⟩
abbrev main_v112 : Ref sig .tc := ⟨.hbm, 146, rfl⟩
abbrev main_v113 : Ref sig .tc := ⟨.hbm, 147, rfl⟩
abbrev main_cst_15 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩

abbrev nD : Nat := 1
abbrev τ : Topo := Topo.v7x

variable {F : FTy → Type} [FloatOps F]
-- ==== Ffn.lean ====
abbrev S1x16384x2048 : Shape := ⟨3, ![1, 16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S16384x2048 : Shape := ⟨2, ![16384, 2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 17
  | .vmem => 13
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S16384x2048, .f32⟩
  | .hbm, ⟨7, _⟩ => ⟨S2048, .f32⟩
  | .hbm, ⟨8, _⟩ => ⟨S1x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S1x2048, .f32⟩
  | .hbm, ⟨16, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S1x16384x2048 : Shape := ⟨3, ![1, 16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x5632 : Shape := ⟨2, ![2048, 5632]⟩
abbrev S5632x2048 : Shape := ⟨2, ![5632, 2048]⟩
abbrev S1x16384x5632 : Shape := ⟨3, ![1, 16384, 5632]⟩
abbrev S16384x2048 : Shape := ⟨2, ![16384, 2048]⟩

abbrev nBuf : Space → Nat
  | .hbm => 44
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x16384x2048, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x2048, .f32⟩
  | .hbm, ⟨19, _⟩ => ⟨S1x16384x2048, .f32⟩
  | .hbm, ⟨20, _⟩ => ⟨S1x1x2048, .f32⟩
  | .hbm, ⟨21, _⟩ => ⟨S1x16384x2048, .f32⟩
  | .hbm, ⟨22, _⟩ => ⟨S1x16384x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S1x16384x5632, .f32⟩
  | .hbm, ⟨27, _⟩ => ⟨S1x16384x5632, .f32⟩
  | .hbm, ⟨28, _⟩ => ⟨S1x16384x5632, .f32⟩
  | .hbm, ⟨29, _⟩ => ⟨S_, .f32⟩
  | .hbm, ⟨30, _⟩ => ⟨S1x16384x5632, .f32⟩
  | .hbm, ⟨31, _⟩ => ⟨S1x16384x5632, .f32⟩
  | .hbm, ⟨32, _⟩ => ⟨S_, .f32⟩
  | .hbm, ⟨33, _⟩ => ⟨S1x16384x5632, .f32⟩
  | .hbm, ⟨34, _⟩ => ⟨S1x16384x5632, .f32⟩
  | .hbm, ⟨35, _⟩ => ⟨S1x16384x5632, .f32⟩
  | .hbm, ⟨36, _⟩ => ⟨S1x16384x5632, .f32⟩
  | .hbm, ⟨37, _⟩ => ⟨S1x16384x5632, .f32⟩
  | .hbm, ⟨38, _⟩ => ⟨S1x16384x2048, .f32⟩
  | .hbm, ⟨39, _⟩ => ⟨S_, .f32⟩
  | .hbm, ⟨40, _⟩ => ⟨S1x16384x2048, .f32⟩
  | .hbm, ⟨41, _⟩ => ⟨S1x16384x2048, .f32⟩
  | .hbm, ⟨42, _⟩ => ⟨S1x16384x2048, .f32⟩
  | .hbm, ⟨43, _⟩ => ⟨S16384x2048, .f32⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== FfnFinal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFinalIdeal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFinalRefIdeal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S5632x2048 : Shape := ⟨2, ![5632, 2048]⟩
abbrev S16384x5632 : Shape := ⟨2, ![16384, 5632]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x2048, .f32⟩
  | .hbm, ⟨39, _⟩ => ⟨S_, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== FfnFinalSample.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFinalSampleRefIdeal.lean ====
abbrev S8192x2048 : Shape := ⟨2, ![8192, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x5632 : Shape := ⟨2, ![2048, 5632]⟩
abbrev S5632x2048 : Shape := ⟨2, ![5632, 2048]⟩
abbrev S8192x5632 : Shape := ⟨2, ![8192, 5632]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S8192x2048, .f32⟩
  | .hbm, ⟨58, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== InProj.lean ====
abbrev S16384x2048 : Shape := ⟨2, ![16384, 2048]⟩
abbrev S1x2048 : Shape := ⟨2, ![1, 2048]⟩
abbrev S1x2048x3584 : Shape := ⟨3, ![1, 2048, 3584]⟩
abbrev S1x1024 : Shape := ⟨2, ![1, 1024]⟩
abbrev S16 : Shape := ⟨1, ![16]⟩
abbrev S_ : Shape := ⟨0, ![]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S16384x96 : Shape := ⟨2, ![16384, 96]⟩
abbrev S16384x128 : Shape := ⟨2, ![16384, 128]⟩
abbrev S2048 : Shape := ⟨1, ![2048]⟩
abbrev S2048x3584 : Shape := ⟨2, ![2048, 3584]⟩
abbrev S1024 : Shape := ⟨1, ![1024]⟩
abbrev S16384x1024 : Shape := ⟨2, ![16384, 1024]⟩
abbrev S16384x256 : Shape := ⟨2, ![16384, 256]⟩
abbrev S512x2048 : Shape := ⟨2, ![512, 2048]⟩
abbrev S512x128 : Shape := ⟨2, ![512, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S2048x1024 : Shape := ⟨2, ![2048, 1024]⟩
abbrev S2048x256 : Shape := ⟨2, ![2048, 256]⟩

abbrev nBuf : Space → Nat
  | .hbm => 44
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x3584, .f32⟩
  | .hbm, ⟨3, _⟩ => ⟨S1x1024, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16384, .f32⟩
  | .hbm, ⟨19, _⟩ => ⟨S16384x1, .f32⟩
  | .hbm, ⟨20, _⟩ => ⟨S1x16, .f32⟩
  | .hbm, ⟨21, _⟩ => ⟨S16384x16, .f32⟩
  | .hbm, ⟨22, _⟩ => ⟨S16384x16, .f32⟩
  | .hbm, ⟨23, _⟩ => ⟨S16384x16, .f32⟩
  | .hbm, ⟨24, _⟩ => ⟨S16384x16, .f32⟩
  | .hbm, ⟨25, _⟩ => ⟨S16384x16, .f32⟩
  | .hbm, ⟨26, _⟩ => ⟨S_, .f32⟩
  | .hbm, ⟨27, _⟩ => ⟨S16384x96, .f32⟩
  | .hbm, ⟨28, _⟩ => ⟨S16384x128, .f32⟩
  | .hbm, ⟨29, _⟩ => ⟨S16384x16, .f32⟩
  | .hbm, ⟨30, _⟩ => ⟨S_, .f32⟩
  | .hbm, ⟨31, _⟩ => ⟨S16384x96, .f32⟩
  | .hbm, ⟨32, _⟩ => ⟨S16384x128, .f32⟩
  | .hbm, ⟨33, _⟩ => ⟨S2048, .f32⟩
  | .hbm, ⟨34, _⟩ => ⟨S1x2048, .f32⟩
  | .hbm, ⟨35, _⟩ => ⟨S2048x3584, .f32⟩
  | .hbm, ⟨36, _⟩ => ⟨S2048x3584, .bf16⟩
  | .hbm, ⟨37, _⟩ => ⟨S1024, .f32⟩
  | .hbm, ⟨38, _⟩ => ⟨S1x1024, .f32⟩
  | .hbm, ⟨39, _⟩ => ⟨S16384x1024, .bf16⟩
  | .hbm, ⟨40, _⟩ => ⟨S16384x1024, .bf16⟩
  | .hbm, ⟨41, _⟩ => ⟨S16384x1024, .bf16⟩
  | .hbm, ⟨42, _⟩ => ⟨S16384x256, .bf16⟩
  | .hbm, ⟨43, _⟩ => ⟨S16384x256, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3584, .bf16⟩
  | .local _ .vmem, ⟨4, _⟩ => ⟨S1x1024, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29_0 : Ref sig .tc := ⟨.hbm, 39, rfl⟩
abbrev main_v29_1 : Ref sig .tc := ⟨.hbm, 40, rfl⟩
abbrev main_v29_2 : Ref sig .tc := ⟨.hbm, 41, rfl⟩
abbrev main_v29_3 : Ref sig .tc := ⟨.hbm, 42, rfl⟩
abbrev main_v29_4 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InProjRefIdeal.lean ====
abbrev S16384x2048 : Shape := ⟨2, ![16384, 2048]⟩
abbrev S1x2048 : Shape := ⟨2, ![1, 2048]⟩
abbrev S1x2048x3584 : Shape := ⟨3, ![1, 2048, 3584]⟩
abbrev S1x1024 : Shape := ⟨2, ![1, 1024]⟩
abbrev S1x16384x2048 : Shape := ⟨3, ![1, 16384, 2048]⟩
abbrev S2048 : Shape := ⟨1, ![2048]⟩
abbrev S_ : Shape := ⟨0, ![]⟩
abbrev S1x16384 : Shape := ⟨2, ![1, 16384]⟩
abbrev S1x16384x1 : Shape := ⟨3, ![1, 16384, 1]⟩
abbrev S1x1x2048 : Shape := ⟨3, ![1, 1, 2048]⟩
abbrev S2048x3584 : Shape := ⟨2, ![2048, 3584]⟩
abbrev S1x16384x3584 : Shape := ⟨3, ![1, 16384, 3584]⟩
abbrev S1x16384x1024 : Shape := ⟨3, ![1, 16384, 1024]⟩
abbrev S1x16384x8x128 : Shape := ⟨4, ![1, 16384, 8, 128]⟩
abbrev S16 : Shape := ⟨1, ![16]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S1x16384x1x16 : Shape := ⟨4, ![1, 16384, 1, 16]⟩
abbrev S1x16384x8x32 : Shape := ⟨4, ![1, 16384, 8, 32]⟩
abbrev S1x16384x8x16 : Shape := ⟨4, ![1, 16384, 8, 16]⟩
abbrev S1x16384x8x96 : Shape := ⟨4, ![1, 16384, 8, 96]⟩
abbrev S1x16384x256 : Shape := ⟨3, ![1, 16384, 256]⟩
abbrev S1x16384x2x128 : Shape := ⟨4, ![1, 16384, 2, 128]⟩
abbrev S1x16384x2x32 : Shape := ⟨4, ![1, 16384, 2, 32]⟩
abbrev S1x16384x2x16 : Shape := ⟨4, ![1, 16384, 2, 16]⟩
abbrev S1x16384x2x96 : Shape := ⟨4, ![1, 16384, 2, 96]⟩
abbrev S16384x1024 : Shape := ⟨2, ![16384, 1024]⟩
abbrev S1024 : Shape := ⟨1, ![1024]⟩
abbrev S1x1x1024 : Shape := ⟨3, ![1, 1, 1024]⟩
abbrev S16384x256 : Shape := ⟨2, ![16384, 256]⟩

abbrev nBuf : Space → Nat
  | .hbm => 172
  | .vmem => 0
  | .smem => 0
  | _ => 0

abbrev hbmTy0_0 (i : Nat) : BufTy := match i % 128 with
  | 0 => ⟨S16384x2048, .f32⟩
  | 1 => ⟨S1x2048, .f32⟩
  | 2 => ⟨S1x2048x3584, .f32⟩
  | 3 => ⟨S1x1024, .f32⟩
  | 4 => ⟨S1x16384x2048, .f32⟩
  | 5 => ⟨S2048, .f32⟩
  | 6 => ⟨S1x16384x2048, .f32⟩
  | 7 => ⟨S_, .f32⟩
  | 8 => ⟨S1x16384, .f32⟩
  | 9 => ⟨S1x16384x1, .f32⟩
  | 10 => ⟨S_, .f32⟩
  | 11 => ⟨S1x16384x1, .f32⟩
  | 12 => ⟨S1x16384x1, .f32⟩
  | 13 => ⟨S_, .f32⟩
  | 14 => ⟨S1x16384x1, .f32⟩
  | 15 => ⟨S1x16384x1, .f32⟩
  | 16 => ⟨S1x16384x1, .f32⟩
  | 17 => ⟨S1x16384x2048, .f32⟩
  | 18 => ⟨S1x16384x2048, .f32⟩
  | 19 => ⟨S1x1x2048, .f32⟩
  | 20 => ⟨S1x16384x2048, .f32⟩
  | 21 => ⟨S1x16384x2048, .f32⟩
  | 22 => ⟨S2048x3584, .f32⟩
  | 23 => ⟨S1x16384x3584, .f32⟩
  | 24 => ⟨S1x16384x1024, .f32⟩
  | 25 => ⟨S1x16384x1024, .f32⟩
  | 26 => ⟨S1x16384x1024, .f32⟩
  | 27 => ⟨S_, .f32⟩
  | 28 => ⟨S1x16384x1024, .f32⟩
  | 29 => ⟨S1x16384x1024, .f32⟩
  | 30 => ⟨S1x16384x1024, .f32⟩
  | 31 => ⟨S_, .f32⟩
  | 32 => ⟨S1x16384x1024, .f32⟩
  | 33 => ⟨S1x16384x1024, .f32⟩
  | 34 => ⟨S1x16384x1024, .f32⟩
  | 35 => ⟨S_, .f32⟩
  | 36 => ⟨S1x16384x1024, .f32⟩
  | 37 => ⟨S1x16384x1024, .f32⟩
  | 38 => ⟨S_, .f32⟩
  | 39 => ⟨S1x16384x1024, .f32⟩
  | 40 => ⟨S1x16384x1024, .f32⟩
  | 41 => ⟨S1x16384x1024, .f32⟩
  | 42 => ⟨S1x16384x1024, .f32⟩
  | 43 => ⟨S1x16384x1024, .f32⟩
  | 44 => ⟨S1x16384x1024, .f32⟩
  | 45 => ⟨S_, .f32⟩
  | 46 => ⟨S1x16384x1024, .f32⟩
  | 47 => ⟨S1x16384x1024, .f32⟩
  | 48 => ⟨S1x16384x1024, .f32⟩
  | 49 => ⟨S_, .f32⟩
  | 50 => ⟨S1x16384x1024, .f32⟩
  | 51 => ⟨S1x16384x1024, .f32⟩
  | 52 => ⟨S1x16384x1024, .f32⟩
  | 53 => ⟨S_, .f32⟩
  | 54 => ⟨S1x16384x1024, .f32⟩
  | 55 => ⟨S1x16384x1024, .f32⟩
  | 56 => ⟨S_, .f32⟩
  | 57 => ⟨S1x16384x1024, .f32⟩
  | 58 => ⟨S1x16384x1024, .f32⟩
  | 59 => ⟨S1x16384x1024, .f32⟩
  | 60 => ⟨S1x16384x1024, .f32⟩
  | 61 => ⟨S1x16384x8x128, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S16384, .f32⟩
  | 77 => ⟨S16384x1, .f32⟩
  | 78 => ⟨S1x16, .f32⟩
  | 79 => ⟨S16384x16, .f32⟩
  | 80 => ⟨S16384x16, .f32⟩
  | 81 => ⟨S16384x16, .f32⟩
  | 82 => ⟨S16384x16, .f32⟩
  | 83 => ⟨S1x16384x1x16, .f32⟩
  | 84 => ⟨S16384x16, .f32⟩
  | 85 => ⟨S1x16384x1x16, .f32⟩
  | 86 => ⟨S1x16384x8x32, .f32⟩
  | 87 => ⟨S1x16384x8x16, .f32⟩
  | 88 => ⟨S1x16384x8x16, .f32⟩
  | 89 => ⟨S1x16384x8x16, .f32⟩
  | 90 => ⟨S1x16384x8x16, .f32⟩
  | 91 => ⟨S1x16384x8x16, .f32⟩
  | 92 => ⟨S1x16384x8x16, .f32⟩
  | 93 => ⟨S1x16384x8x16, .f32⟩
  | 94 => ⟨S1x16384x8x16, .f32⟩
  | 95 => ⟨S1x16384x8x16, .f32⟩
  | 96 => ⟨S1x16384x8x16, .f32⟩
  | 97 => ⟨S1x16384x8x16, .f32⟩
  | 98 => ⟨S1x16384x8x16, .f32⟩
  | 99 => ⟨S1x16384x8x32, .f32⟩
  | 100 => ⟨S1x16384x8x96, .f32⟩
  | 101 => ⟨S1x16384x8x128, .f32⟩
  | 102 => ⟨S1x16384x256, .f32⟩
  | 103 => ⟨S1x16384x2x128, .f32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S16384, .f32⟩
  | 119 => ⟨S16384x1, .f32⟩
  | 120 => ⟨S1x16, .f32⟩
  | 121 => ⟨S16384x16, .f32⟩
  | 122 => ⟨S16384x16, .f32⟩
  | 123 => ⟨S16384x16, .f32⟩
  | 124 => ⟨S16384x16, .f32⟩
  | 125 => ⟨S1x16384x1x16, .f32⟩
  | 126 => ⟨S16384x16, .f32⟩
  | 127 => ⟨S1x16384x1x16, .f32⟩
  | _ => ⟨S16384x2048, .f32⟩

abbrev hbmTy0_1 (i : Nat) : BufTy := match i % 128 with
  | 0 => ⟨S1x16384x2x32, .f32⟩
  | 1 => ⟨S1x16384x2x16, .f32⟩
  | 2 => ⟨S1x16384x2x16, .f32⟩
  | 3 => ⟨S1x16384x2x16, .f32⟩
  | 4 => ⟨S1x16384x2x16, .f32⟩
  | 5 => ⟨S1x16384x2x16, .f32⟩
  | 6 => ⟨S1x16384x2x16, .f32⟩
  | 7 => ⟨S1x16384x2x16, .f32⟩
  | 8 => ⟨S1x16384x2x16, .f32⟩
  | 9 => ⟨S1x16384x2x16, .f32⟩
  | 10 => ⟨S1x16384x2x16, .f32⟩
  | 11 => ⟨S1x16384x2x16, .f32⟩
  | 12 => ⟨S1x16384x2x16, .f32⟩
  | 13 => ⟨S1x16384x2x32, .f32⟩
  | 14 => ⟨S1x16384x2x96, .f32⟩
  | 15 => ⟨S1x16384x2x128, .f32⟩
  | 16 => ⟨S1x16384x256, .f32⟩
  | 17 => ⟨S16384x1024, .f32⟩
  | 18 => ⟨S16384x1024, .bf16⟩
  | 19 => ⟨S1024, .f32⟩
  | 20 => ⟨S1x16384x1024, .f32⟩
  | 21 => ⟨S_, .f32⟩
  | 22 => ⟨S1x16384, .f32⟩
  | 23 => ⟨S1x16384x1, .f32⟩
  | 24 => ⟨S_, .f32⟩
  | 25 => ⟨S1x16384x1, .f32⟩
  | 26 => ⟨S1x16384x1, .f32⟩
  | 27 => ⟨S_, .f32⟩
  | 28 => ⟨S1x16384x1, .f32⟩
  | 29 => ⟨S1x16384x1, .f32⟩
  | 30 => ⟨S1x16384x1, .f32⟩
  | 31 => ⟨S1x16384x1024, .f32⟩
  | 32 => ⟨S1x16384x1024, .f32⟩
  | 33 => ⟨S1x1x1024, .f32⟩
  | 34 => ⟨S1x16384x1024, .f32⟩
  | 35 => ⟨S1x16384x1024, .f32⟩
  | 36 => ⟨S16384x1024, .f32⟩
  | 37 => ⟨S16384x1024, .bf16⟩
  | 38 => ⟨S16384x1024, .f32⟩
  | 39 => ⟨S16384x1024, .bf16⟩
  | 40 => ⟨S16384x256, .f32⟩
  | 41 => ⟨S16384x256, .bf16⟩
  | 42 => ⟨S16384x256, .f32⟩
  | 43 => ⟨S16384x256, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_14 : Ref sig .tc := ⟨.hbm, 105, rfl⟩
abbrev main_v86 : Ref sig .tc := ⟨.hbm, 106, rfl⟩
abbrev main_v87 : Ref sig .tc := ⟨.hbm, 107, rfl⟩
abbrev main_cst_15 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_16 : Ref sig .tc := ⟨.hbm, 112, rfl⟩
abbrev main_v91 : Ref sig .tc := ⟨.hbm, 113, rfl⟩
abbrev main_v92 : Ref sig .tc := ⟨.hbm, 114, rfl⟩
abbrev main_cst_17 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_cst_18 : Ref sig .tc := ⟨.hbm, 149, rfl⟩
abbrev main_v126 : Ref sig .tc := ⟨.hbm, 150, rfl⟩
abbrev main_v127 : Ref sig .tc := ⟨.hbm, 151, rfl⟩
abbrev main_cst_19 : Ref sig .tc := ⟨.hbm, 152, rfl⟩
abbrev main_v128 : Ref sig .tc := ⟨.hbm, 153, rfl⟩
abbrev main_v129 : Ref sig .tc := ⟨.hbm, 154, rfl⟩
abbrev main_cst_20 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩

abbrev nD : Nat := 1
abbrev τ : Topo := Topo.v7x

variable {F : FTy → Type} [FloatOps F]
-- ==== Proof.FfnPieces.lean ====
/-
  The first feed-forward kernel (`Ffn`): what one grid point leaves in the output block and in the
  scratch block that carries the normalised rows, as the kernel's own stored expressions of the point's input blocks.
-/
module

public import proofs.«01_k».proof.Proof.Gen.FfnIdeal.Value
public import Idealize.ShloMosaic.Lib.Pointwise

@[expose] public section

set_option maxRecDepth 16384

noncomputable section

open Idealize.ShloMosaic Idealize.ShloMosaic.TcCoe Idealize.SL.Sem

namespace Cert.FfnIdeal.Pieces

open Cert.FfnIdeal Cert.FfnIdeal.Gen

variable {F : FTy → Type} [FloatOps F]

theorem hz : (![0, 0] : Fin 2 → Nat) = fun _ => 0 := funext fun a => by fin_cases a <;> rfl

section
variable (c : Dev nD) (i : grid0.Coords) (a2 : Memref sig .tc .vmem S512x2048 .f32) (h2 : a2.IsWhole)
  (a3 : Memref sig .tc .vmem S1x2048 .f32) (h3 : a3.IsWhole) (a4 : Memref sig .tc .vmem S2048x512 .bf16) (h4 : a4.IsWhole)
  (a5 : Memref sig .tc .vmem S2048x512 .bf16) (h5 : a5.IsWhole) (a6 : Memref sig .tc .vmem S512x2048 .bf16) (h6 : a6.IsWhole)
  (a7 : Memref sig .tc .vmem S1x2048 .f32) (h7 : a7.IsWhole) (a8 : Memref sig .tc .vmem S512x2048 .f32) (h8 : a8.IsWhole)
  (a9 : Memref sig .tc .vmem S512x2048 .bf16) (h9 : a9.IsWhole)
  (x0 : Vec F S512x2048 .f32) (x1 : Vec F S1x2048 .f32) (x2 : Vec F S2048x512 .bf16) (x3 : Vec F S2048x512 .bf16)
  (x4 : Vec F S512x2048 .bf16) (x5 : Vec F S1x2048 .f32)

/-- At the first of a row block's points the scratch block is left at the normalised rows. -/
theorem scratch_first (hc0 : cond0_0 i) (hc1 : ¬cond0_1 i) :
    sout0_A_0 c i a2 h2 a3 h3 a4 h4 a5 h5 a6 h6 a7 h7 a8 h8 a9 h9 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- At the first of a row block's points the output block is left at the first tile's partial product over zero. -/
theorem out_first (hc0 : cond0_0 i) (hc1 : ¬cond0_1 i) :
    out0_A_6 c i a2 h2 a3 h3 a4 h4 a5 h5 a6 h6 a7 h7 a8 h8 a9 h9 hc0 hc1 x0 x1 x2 x3 x4 x5
      = k0_pay3 (k0_pay1 x0 x1) x2 x3 k0_pay2 x4 := by
  unfold out0_A_6
  rw [View.read_writes_eq_canon _ _ _ (cover0_A_6 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S512x2048) hz]
  simp only [View.readCov_unit_zero (S := S512x2048) _ hz, View.readAt_eq_ld, h2.read_unread, h3.read_unread,
    h4.read_unread, h5.read_unread, h6.read_unread,
    View.ld_unit_zero (S := S512x2048) hz, View.ld_unit_zero (S := S1x2048) hz, View.ld_unit_zero (S := S2048x512) hz]

variable (xo : Vec F S512x2048 .f32) (xs : Vec F S512x2048 .bf16)

/-- At a middle point one more tile's partial product is added to what the output block held. -/
theorem out_middle (hc0 : ¬cond0_0 i) (hc1 : ¬cond0_1 i) :
    out0_B_6 c i a2 h2 a3 h3 a4 h4 a5 h5 a6 h6 a7 h7 a8 h8 a9 h9 hc0 hc1 x0 x1 x2 x3 x4 x5 xo xs
      = k0_pay3 xs x2 x3 xo x4 := by
  unfold out0_B_6
  rw [View.read_writes_eq_canon _ _ _ (cover0_B_6 c i a2 h2 a3 h3 a4 h4 a5 h5 a6 h6 a7 h7 a8 h8 a9 h9 hc0 hc1 x0 x1 x2 x3 x4 x5 xo xs)]
  unfold kernelRun0_B
  dsimp only
  sl_unfold_words
  rw [View.canon_unit_zero hz]
  simp only [View.readAt_eq_ld, h4.read_unread, h5.read_unread, h6.read_unread, h8.read_unread, h9.read_unread,
    View.ld_unit_zero (S := S512x2048) hz, View.ld_unit_zero (S := S2048x512) hz]

/-- At the last point the last tile's partial product is added and the half residual step is taken. -/
theorem out_last (hc0 : ¬cond0_0 i) (hc1 : cond0_1 i) :
    out0_C_6 c i a2 h2 a3 h3 a4 h4 a5 h5 a6 h6 a7 h7 a8 h8 a9 h9 hc0 hc1 x0 x1 x2 x3 x4 x5 xo xs
      = k0_pay4 x0 (k0_pay3 xs x2 x3 xo x4) := by
  unfold out0_C_6
  rw [View.read_writes_eq_canon _ _ _ (cover0_C_6 c i a2 h2 a3 h3 a4 h4 a5 h5 a6 h6 a7 h7 a8 h8 a9 h9 hc0 hc1 x0 x1 x2 x3 x4 x5 xo xs)]
  unfold kernelRun0_C
  dsimp only
  sl_unfold_words
  rw [View.canon_cons_unit_zero (S := S512x2048) hz]
  simp only [View.readCov_unit_zero (S := S512x2048) _ hz, View.readAt_eq_ld, h2.read_unread, h4.read_unread, h5.read_unread,
    h6.read_unread, h7.read_unread, h8.read_unread, h9.read_unread,
    View.ld_unit_zero (S := S512x2048) hz, View.ld_unit_zero (S := S1x2048) hz, View.ld_unit_zero (S := S2048x512) hz]

end

end Cert.FfnIdeal.Pieces

end
-- ==== Proof.Dense.lean ====
/-
  The row formulas of the layer's dense calls, over the extended reals and free of any program: the root-mean-square
  norm of a row, one gated activation of a feed-forward block, and the cut of a long sum into equal tiles.
-/
module

public import Idealize.ShloMosaic.Lib.Pointwise

@[expose] public section

noncomputable section

open Idealize.ShloMosaic

namespace Cert.Dense

/-- The root-mean-square norm of a row `x` of `n` entries under the gain `g`, at entry `c`: `x c · rsqrt(mean + eps) · g c`,
    the row's length and the epsilon being the constants the two programs write. -/
def rms {n : ℕ} (len : EReal) (x g : Fin n → EReal) (c : Fin n) : EReal :=
  x c * Ideal.rsqrt (Ideal.div (∑ k, x k * x k) len + Ideal.ofBits .f32 0x358637BD#32) * g c

/-- The constant 1 as the programs write it is the real 1. -/
theorem one_bits : Ideal.ofBits .f32 0x3F800000#32 = 1 := by
  simp [Ideal.ofBits, Ideal.ieee, -EReal.coe_mul]; norm_num

/-- The row length 2048 as the programs write it. -/
def len2048 : EReal := Ideal.ofBits .f32 0x45000000#32

/-- One gated activation: `silu(n · wg) * (n · wu)` of the normalised row `n` and one column of each of the two weights. -/
def act {n : ℕ} (x wg wu : Fin n → EReal) : EReal :=
  (∑ k, x k * wg k) * Ideal.logistic (∑ k, x k * wg k) * ∑ k, x k * wu k

/-- The half residual step: `x + o / 2` with the half written as the programs write it. -/
def halfStep (x o : EReal) : EReal := x + Ideal.ofBits .f32 0x3F000000#32 * o

section
variable (x : Fin 2048 → EReal) (wg wu : Fin 2048 → Fin 5632 → EReal) (wd : Fin 5632 → Fin 2048 → EReal)

/-- Hidden unit `f`'s contribution to output `l` of the feed-forward block on the normalised row `x` (zero past the last unit). -/
def ffnTerm (l : Fin 2048) (f : ℕ) : EReal :=
  if h : f < 5632 then act x (fun k => wg k ⟨f, h⟩) (fun k => wu k ⟨f, h⟩) * wd ⟨f, h⟩ l else 0

/-- The contribution of the first `n` hidden units. -/
def ffnPart (n : ℕ) (l : Fin 2048) : EReal := ∑ f ∈ Finset.range n, ffnTerm x wg wu wd l f

/-- The whole feed-forward block: the contribution of every hidden unit. -/
def ffn (l : Fin 2048) : EReal := ∑ f : Fin 5632, act x (fun k => wg k f) (fun k => wu k f) * wd f l

/-- All 5632 contributions in order are the whole block. -/
theorem ffnPart_full (l : Fin 2048) : ffnPart x wg wu wd 5632 l = ffn x wg wu wd l := by
  unfold ffnPart ffn
  rw [Finset.sum_range]
  exact Finset.sum_congr rfl fun f _ => by rw [ffnTerm, dif_pos f.isLt]

/-- Hidden unit `s` of tile `j` of 512. -/
abbrev unit (j : ℕ) (hj : j < 11) (s : Fin 512) : Fin 5632 := ⟨512 * j + s.val, by have := s.isLt; omega⟩

/-- One tile of 512 hidden units more. -/
theorem ffnPart_tile (j : ℕ) (hj : j < 11) (l : Fin 2048) :
    ffnPart x wg wu wd (512 * (j + 1)) l = ffnPart x wg wu wd (512 * j) l
      + ∑ s : Fin 512, act x (fun k => wg k (unit j hj s)) (fun k => wu k (unit j hj s)) * wd (unit j hj s) l := by
  unfold ffnPart
  rw [Nat.mul_succ, Finset.sum_range_add]
  congr 1
  rw [Finset.sum_range]
  exact Finset.sum_congr rfl fun s _ => by rw [ffnTerm, dif_pos (unit j hj s).isLt]

end

/-! ## The walk over the grid

Row blocks of 512 rows, each visited at 11 consecutive points, one tile of 512 hidden units a point: `P` points for `R` rows. -/

variable {P R : ℕ}

/-- The array row that row `r` of the block at point `n` is. -/
abbrev rowOf (n : ℕ) (h : n < P) (r : Fin 512) (hP : 11 * R = 512 * P := by first | assumption | decide) : Fin R :=
  ⟨512 * (n / 11) + r.val, by have := r.isLt; omega⟩

variable (hP : 11 * R = 512 * P)
include hP

theorem rowOf_succ (n : ℕ) (h : n + 1 < P) (h0 : (n + 1) % 11 ≠ 0) (r : Fin 512) :
    (rowOf (n + 1) h r : Fin R) = rowOf n (Nat.lt_of_succ_lt h) r :=
  Fin.ext (by show 512 * ((n + 1) / 11) + r.val = 512 * (n / 11) + r.val; omega)

section
variable (N : Fin R → Fin 2048 → EReal) (wg wu : Fin 2048 → Fin 5632 → EReal) (wd : Fin 5632 → Fin 2048 → EReal)
variable (S O : (n : ℕ) → n < P → Fin 512 → Fin 2048 → EReal)

/-- The scratch block, set at the first point of a row block and kept at the others, always holds the normalised rows of
    the point's row block. -/
theorem walk_scratch (hfirst : ∀ n h, n % 11 = 0 → ∀ r k, S n h r k = N (rowOf n h r) k)
    (hkeep : ∀ n (h : n + 1 < P), (n + 1) % 11 ≠ 0 → S (n + 1) h = S n (Nat.lt_of_succ_lt h)) :
    ∀ n h r k, S n h r k = N (rowOf n h r) k := by
  intro n
  induction n with
  | zero => exact fun h r k => hfirst 0 h rfl r k
  | succ n ih =>
    intro h r k
    by_cases h0 : (n + 1) % 11 = 0
    · exact hfirst _ h h0 r k
    · rw [hkeep n h h0, rowOf_succ hP n h h0]
      exact ih _ r k

/-- One tile's product with the rows `x`, at point `n`. -/
def tile (n : ℕ) (x : Fin 2048 → EReal) (l : Fin 2048) : EReal :=
  ∑ s : Fin 512, act x (fun k => wg k (unit (n % 11) (Nat.mod_lt _ (by decide)) s))
    (fun k => wu k (unit (n % 11) (Nat.mod_lt _ (by decide)) s)) * wd (unit (n % 11) (Nat.mod_lt _ (by decide)) s) l

omit hP in
/-- A tile more, at point `n`. -/
theorem part_step (n : ℕ) (x : Fin 2048 → EReal) (l : Fin 2048) :
    ffnPart x wg wu wd (512 * (n % 11 + 1)) l = ffnPart x wg wu wd (512 * (n % 11)) l + tile wg wu wd n x l :=
  ffnPart_tile x wg wu wd (n % 11) (Nat.mod_lt _ (by decide)) l

/-- The output block, started from the first tile's product and given one tile's product more at each later point but the
    last, holds the contribution of the tiles so far. -/
theorem walk_out (hS : ∀ n h r k, S n h r k = N (rowOf n h r) k)
    (hfirst : ∀ n h, n % 11 = 0 → ∀ r l, O n h r l = 0 + tile wg wu wd n (S n h r) l)
    (hstep : ∀ n (h : n + 1 < P), (n + 1) % 11 ≠ 0 → (n + 1) % 11 ≠ 10 → ∀ r l,
      O (n + 1) h r l = O n (Nat.lt_of_succ_lt h) r l + tile wg wu wd (n + 1) (S n (Nat.lt_of_succ_lt h) r) l) :
    ∀ n h, n % 11 ≠ 10 → ∀ r l, O n h r l = ffnPart (N (rowOf n h r)) wg wu wd (512 * (n % 11 + 1)) l := by
  have first : ∀ n h, n % 11 = 0 → ∀ r l, O n h r l = ffnPart (N (rowOf n h r)) wg wu wd (512 * (n % 11 + 1)) l := by
    intro n h h0 r l
    rw [hfirst n h h0, part_step, funext (hS n h r), h0]
    exact congrArg (· + _) (Finset.sum_range_zero _).symm
  intro n
  induction n with
  | zero => exact fun h _ r l => first 0 h rfl r l
  | succ n ih =>
    intro h hl r l
    by_cases h0 : (n + 1) % 11 = 0
    · exact first _ h h0 r l
    · rw [hstep n h h0 hl, part_step, ih _ (by omega), funext (hS n _ r), rowOf_succ hP n h h0,
        show (n + 1) % 11 = n % 11 + 1 from by omega]

/-- … so at the last point of a row block what it held plus the last tile's product is the whole block. -/
theorem walk_last (hS : ∀ n h r k, S n h r k = N (rowOf n h r) k)
    (hO : ∀ n h, n % 11 ≠ 10 → ∀ r l, O n h r l = ffnPart (N (rowOf n h r)) wg wu wd (512 * (n % 11 + 1)) l)
    (n : ℕ) (h : n + 1 < P) (h1 : (n + 1) % 11 = 10) (r : Fin 512) (l : Fin 2048) :
    O n (Nat.lt_of_succ_lt h) r l + tile wg wu wd (n + 1) (S n (Nat.lt_of_succ_lt h) r) l
      = ffn (N (rowOf (n + 1) h r)) wg wu wd l := by
  rw [hO n _ (by omega), funext (hS n _ r), ← ffnPart_full, rowOf_succ hP n h (by omega)]
  have e := part_step wg wu wd (n + 1) (N (rowOf n (Nat.lt_of_succ_lt h) r)) l
  rw [show (n + 1) % 11 = n % 11 + 1 from by omega] at e
  rw [← e, show 512 * (n % 11 + 1 + 1) = 5632 from by omega]

end

end Cert.Dense

end
-- ==== Proof.FfnValue.lean ====
/-
  The first feed-forward kernel (`Ffn`): the array it leaves, element by element, over the extended
  reals, and its equality with the plain reference's result.
-/
module

public import proofs.«01_k».proof.Proof.FfnPieces
public import proofs.«01_k».proof.Proof.Dense
public import proofs.«01_k».proof.Proof.Gen.FfnRefIdeal.Run
public import proofs.«01_k».proof.Proof.Gen.FfnRefIdeal.Read
public import proofs.«01_k».proof.Defs
public import Idealize.ShloMosaic.Lib.Claim

@[expose] public section

set_option maxRecDepth 16384

noncomputable section

open Idealize.ShloMosaic Idealize.ShloMosaic.TcCoe Idealize.SL.Sem

namespace Cert.FfnIdeal.Rows

open Cert.FfnIdeal Cert.FfnIdeal.Gen Cert.FfnIdeal.Pieces Cert.Dense

/-! ## The stored expressions at an element -/

/-- The normalised rows. -/
theorem norm_at (x : Vec Ideal S512x2048 .f32) (g : Vec Ideal S1x2048 .f32) (r : Fin 512) (l : Fin 2048) :
    (k0_pay1 (F := Ideal) x g) (ix2 r l) = rms len2048 (fun k => x (ix2 r k)) (fun k => g (ix2 0 k)) l := by
  pointwise [k0_pay1]
  rfl

/-- The zero block. -/
theorem zero_at (r : Fin 512) (l : Fin 2048) : (k0_pay2 (F := Ideal)) (ix2 r l) = 0 := by
  pointwise [k0_pay2]

/-- One tile's partial product added to what was there. -/
theorem tile_at (n : Vec Ideal S512x2048 .bf16) (wg wu : Vec Ideal S2048x512 .bf16) (o : Vec Ideal S512x2048 .f32)
    (wd : Vec Ideal S512x2048 .bf16) (r : Fin 512) (l : Fin 2048) :
    (k0_pay3 (F := Ideal) n wg wu o wd) (ix2 r l)
      = o (ix2 r l) + ∑ f : Fin 512, act (fun k => n (ix2 r k)) (fun k => wg (ix2 k f)) (fun k => wu (ix2 k f)) * wd (ix2 f l) := by
  pointwise [k0_pay3]
  rfl

/-- The half residual step. -/
theorem last_at (x o : Vec Ideal S512x2048 .f32) (r : Fin 512) (l : Fin 2048) :
    (k0_pay4 (F := Ideal) x o) (ix2 r l) = halfStep (x (ix2 r l)) (o (ix2 r l)) := by
  pointwise [k0_pay4]
  rfl

/-! ## The arguments, and what each window reads of them -/

variable (m : (ℓ : Loc nD τ sig) → Buf (Elt Ideal) ℓ) (c : Dev nD)

/-- Row `r` of the layer input. -/
def X (r : Fin 16384) (k : Fin 2048) : EReal := m ((c : Thread nD τ).loc main_arg0) (ix3 0 r k)
/-- The norm's gain. -/
def G (k : Fin 2048) : EReal := m ((c : Thread nD τ).loc main_arg1) (ix2 0 k)
/-- The gate weight. -/
def Wg (k : Fin 2048) (f : Fin 5632) : EReal := m ((c : Thread nD τ).loc main_arg2) (ix3 0 k f)
/-- The up weight. -/
def Wu (k : Fin 2048) (f : Fin 5632) : EReal := m ((c : Thread nD τ).loc main_arg3) (ix3 0 k f)
/-- The down weight. -/
def Wd (f : Fin 5632) (l : Fin 2048) : EReal := m ((c : Thread nD τ).loc main_arg4) (ix3 0 f l)

/-- The normalised row `r`. -/
def N (r : Fin 16384) : Fin 2048 → EReal := rms len2048 (X m c r) (G m c)

theorem x_arr (r : Fin 16384) (k : Fin 2048) : V m c main_v0 (ix2 r k) = X m c r k := by
  entry_read
  exact shapeCast_apply _ shapeCasts_S1x16384x2048_S16384x2048 (ix2 r k) (ix3 0 r k)
    (by rw [Shape.rowMajor_val_three, Shape.rowMajor_val_two]; show (0 * 16384 + r.val) * 2048 + k.val = r.val * 2048 + k.val; omega)

theorem gain_arr (k : Fin 2048) : V m c main_v2 (ix2 0 k) = G m c k := by
  entry_read
  pointwise
  rfl

theorem gate_arr (k : Fin 2048) (f : Fin 5632) : V m c main_v4 (ix2 k f) = Wg m c k f := by
  entry_read
  exact shapeCast_apply _ shapeCasts_S1x2048x5632_S2048x5632 (ix2 k f) (ix3 0 k f)
    (by rw [Shape.rowMajor_val_three, Shape.rowMajor_val_two]; show (0 * 2048 + k.val) * 5632 + f.val = k.val * 5632 + f.val; omega)

theorem up_arr (k : Fin 2048) (f : Fin 5632) : V m c main_v6 (ix2 k f) = Wu m c k f := by
  entry_read
  exact shapeCast_apply _ shapeCasts_S1x2048x5632_S2048x5632 (ix2 k f) (ix3 0 k f)
    (by rw [Shape.rowMajor_val_three, Shape.rowMajor_val_two]; show (0 * 2048 + k.val) * 5632 + f.val = k.val * 5632 + f.val; omega)

theorem down_arr (f : Fin 5632) (l : Fin 2048) : V m c main_v8 (ix2 f l) = Wd m c f l := by
  entry_read
  exact shapeCast_apply _ shapeCasts_S1x5632x2048_S5632x2048 (ix2 f l) (ix3 0 f l)
    (by rw [Shape.rowMajor_val_three, Shape.rowMajor_val_two]; show (0 * 5632 + f.val) * 2048 + l.val = f.val * 2048 + l.val; omega)

/-- Where each window's block lies at point `t`: the row block is `t / 11`, the tile of hidden units `t % 11`. -/
theorem idx (t : Fin cfg0.N) :
    (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ win0_4.index t 0 = t.val % 11 ∧ win0_4.index t 1 = 0 :=
  (by decide +kernel : ∀ t : Fin grid0.N, (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ win0_4.index t 0 = t.val % 11 ∧ win0_4.index t 1 = 0) t

theorem lt_N (t : Fin cfg0.N) : t.val < 352 := lt_of_lt_of_eq t.isLt (show cfg0.N = 352 from N_0)

/-- The array row that row `r` of point `t`'s block is. -/
abbrev row (t : Fin cfg0.N) (r : Fin 512) : Fin 16384 := rowOf t.val (lt_N t) r

theorem x_blk (t : Fin cfg0.N) (r : Fin 512) (k : Fin 2048) : iblk m c 0 t (ix2 r k) = X m c (row t r) k := by
  obtain ⟨⟨e0, e1⟩, -⟩ := idx t
  rw [← x_arr]
  unfold iblk
  rw [View.read_apply]
  show V m c main_v0 _ = _
  congr 1
  funext a
  apply Fin.ext
  match a with
  | ⟨0, _⟩ => show win0_0.index t 0 * 512 + 1 * r.val = 512 * (t.val / 11) + r.val; rw [e0]; omega
  | ⟨1, _⟩ => show win0_0.index t 1 * 2048 + 1 * k.val = k.val; rw [e1]; omega

theorem g_blk (t : Fin cfg0.N) (k : Fin 2048) : iblk m c 1 t (ix2 0 k) = G m c k := by
  obtain ⟨-, ⟨e0, e1⟩, -⟩ := idx t
  rw [← gain_arr]
  unfold iblk
  rw [View.read_apply]
  show V m c main_v2 _ = _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem wg_blk (t : Fin cfg0.N) (k : Fin 2048) (s : Fin 512) :
    iblk m c 2 t (ix2 k s) = Wg m c k (unit (t.val % 11) (Nat.mod_lt _ (by decide)) s) := by
  obtain ⟨-, -, ⟨e0, e1⟩, -⟩ := idx t
  rw [← gate_arr]
  unfold iblk
  rw [View.read_apply]
  show V m c main_v4 _ = _
  congr 1
  funext a
  apply Fin.ext
  match a with
  | ⟨0, _⟩ => show win0_2.index t 0 * 2048 + 1 * k.val = k.val; rw [e0]; omega
  | ⟨1, _⟩ => show win0_2.index t 1 * 512 + 1 * s.val = 512 * (t.val % 11) + s.val; rw [e1]; omega

theorem wu_blk (t : Fin cfg0.N) (k : Fin 2048) (s : Fin 512) :
    iblk m c 3 t (ix2 k s) = Wu m c k (unit (t.val % 11) (Nat.mod_lt _ (by decide)) s) := by
  obtain ⟨-, -, -, ⟨e0, e1⟩, -⟩ := idx t
  rw [← up_arr]
  unfold iblk
  rw [View.read_apply]
  show V m c main_v6 _ = _
  congr 1
  funext a
  apply Fin.ext
  match a with
  | ⟨0, _⟩ => show win0_3.index t 0 * 2048 + 1 * k.val = k.val; rw [e0]; omega
  | ⟨1, _⟩ => show win0_3.index t 1 * 512 + 1 * s.val = 512 * (t.val % 11) + s.val; rw [e1]; omega

theorem wd_blk (t : Fin cfg0.N) (s : Fin 512) (l : Fin 2048) :
    iblk m c 4 t (ix2 s l) = Wd m c (unit (t.val % 11) (Nat.mod_lt _ (by decide)) s) l := by
  obtain ⟨-, -, -, -, e0, e1⟩ := idx t
  rw [← down_arr]
  unfold iblk
  rw [View.read_apply]
  show V m c main_v8 _ = _
  congr 1
  funext a
  apply Fin.ext
  match a with
  | ⟨0, _⟩ => show win0_4.index t 0 * 512 + 1 * s.val = 512 * (t.val % 11) + s.val; rw [e0]; omega
  | ⟨1, _⟩ => show win0_4.index t 1 * 2048 + 1 * l.val = l.val; rw [e1]; omega

/-! ## The walk over the points -/

/-- The normalised rows of the point's row block. -/
theorem norm_blk (t : Fin cfg0.N) (r : Fin 512) (k : Fin 2048) :
    (k0_pay1 (F := Ideal) (iblk m c 0 t) (iblk m c 1 t)) (ix2 r k) = N m c (row t r) k := by
  rw [norm_at]
  simp only [x_blk, g_blk]
  rfl

/-- One tile's product added at point `t`. -/
theorem tile_blk (t : Fin cfg0.N) (n : Vec Ideal S512x2048 .bf16) (o : Vec Ideal S512x2048 .f32) (r : Fin 512) (l : Fin 2048) :
    (k0_pay3 (F := Ideal) n (iblk m c 2 t) (iblk m c 3 t) o (iblk m c 4 t)) (ix2 r l)
      = o (ix2 r l) + tile (Wg m c) (Wu m c) (Wd m c) t.val (fun k => n (ix2 r k)) l := by
  rw [tile_at]
  simp only [wg_blk, wu_blk, wd_blk]
  rfl

theorem of_lt {n : ℕ} (h : n < 352) : n < cfg0.N := lt_of_lt_of_eq h (show cfg0.N = 352 from N_0).symm

/-- What the scratch block holds after point `n`, by row and entry. -/
def S (n : ℕ) (h : n < 352) (r : Fin 512) (k : Fin 2048) : EReal := (outsAt0 m c n (of_lt h)).2 (ix2 r k)
/-- What the output block holds after point `n`, by row and entry. -/
def O (n : ℕ) (h : n < 352) (r : Fin 512) (l : Fin 2048) : EReal := (outsAt0 m c n (of_lt h)).1 (ix2 r l)

theorem S_first (n : ℕ) (h : n < 352) (h0 : n % 11 = 0) (r : Fin 512) (k : Fin 2048) : S m c n h r k = N m c (rowOf n h r) k := by
  unfold S
  rw [outsAt0_A m c ⟨n, of_lt h⟩ h0 (by dsimp only; omega)]
  dsimp only
  rw [scratch_first]
  exact norm_blk m c ⟨n, of_lt h⟩ r k

theorem S_keep (n : ℕ) (h : n + 1 < 352) (h0 : (n + 1) % 11 ≠ 0) : S m c (n + 1) h = S m c n (Nat.lt_of_succ_lt h) := by
  funext r k
  unfold S
  by_cases h1 : (n + 1) % 11 = 10
  · rw [outsAt0_C m c ⟨n + 1, of_lt h⟩ h0 h1]; rfl
  · rw [outsAt0_B m c ⟨n + 1, of_lt h⟩ h0 h1]; rfl

/-- The scratch block always holds the normalised rows of the point's row block. -/
theorem S_at : ∀ n h r k, S m c n h r k = N m c (rowOf n h r) k :=
  walk_scratch (by decide) (N m c) (S m c) (S_first m c) (S_keep m c)

theorem O_first (n : ℕ) (h : n < 352) (h0 : n % 11 = 0) (r : Fin 512) (l : Fin 2048) :
    O m c n h r l = 0 + tile (Wg m c) (Wu m c) (Wd m c) n (S m c n h r) l := by
  rw [funext (S_first m c n h h0 r), ← funext (norm_blk m c ⟨n, of_lt h⟩ r)]
  unfold O
  rw [outsAt0_A m c ⟨n, of_lt h⟩ h0 (by dsimp only; omega)]
  dsimp only
  rw [out_first]
  refine (tile_blk m c ⟨n, of_lt h⟩ _ _ r l).trans ?_
  rw [zero_at]

theorem O_step (n : ℕ) (h : n + 1 < 352) (h0 : (n + 1) % 11 ≠ 0) (h1 : (n + 1) % 11 ≠ 10) (r : Fin 512) (l : Fin 2048) :
    O m c (n + 1) h r l
      = O m c n (Nat.lt_of_succ_lt h) r l + tile (Wg m c) (Wu m c) (Wd m c) (n + 1) (S m c n (Nat.lt_of_succ_lt h) r) l := by
  unfold O
  rw [outsAt0_B m c ⟨n + 1, of_lt h⟩ h0 h1]
  dsimp only
  rw [out_middle]
  exact tile_blk m c ⟨n + 1, of_lt h⟩ _ _ r l

/-- The output block holds the contribution of the tiles so far. -/
theorem O_at : ∀ n h, n % 11 ≠ 10 → ∀ r l,
    O m c n h r l = ffnPart (N m c (rowOf n h r)) (Wg m c) (Wu m c) (Wd m c) (512 * (n % 11 + 1)) l :=
  walk_out (by decide) (N m c) (Wg m c) (Wu m c) (Wd m c) (S m c) (O m c) (S_at m c) (O_first m c) (O_step m c)

/-- The residual plus half of the feed-forward block. -/
def H (r : Fin 16384) (l : Fin 2048) : EReal := halfStep (X m c r l) (ffn (N m c r) (Wg m c) (Wu m c) (Wd m c) l)

/-- What the last point of a row block leaves in the output block. -/
theorem out_end (n : ℕ) (h : n + 1 < 352) (h1 : (n + 1) % 11 = 10) (r : Fin 512) (l : Fin 2048) :
    O m c (n + 1) h r l = H m c (rowOf (n + 1) h r) l := by
  unfold O
  rw [outsAt0_C m c ⟨n + 1, of_lt h⟩ (by dsimp only; omega) h1]
  dsimp only
  rw [out_last, last_at]
  simp only [tile_blk, x_blk]
  unfold H
  simp only [← walk_last (by decide) (N m c) (Wg m c) (Wu m c) (Wd m c) (S m c) (O m c) (S_at m c) (O_at m c) n h h1 r]
  rfl

/-- The kernel's result array at an element. -/
theorem result_at (r : Fin 16384) (l : Fin 2048) :
    (Value.G6 m c) (ix2 r l) = H m c r l := by
  have hr : r.val < 16384 := r.isLt
  have hl : l.val < 2048 := l.isLt
  have hp : Value.pt6Of (ix2 r l) = 11 * (r.val / 512) + 9 + 1 := by
    show 11 * (1 * (r.val / 512 - 0) + 1 * (l.val / 2048 - 0)) + 10 = _; omega
  have hlt : Value.pt6Of (ix2 r l) < cfg0.N := by rw [hp]; exact of_lt (by omega)
  unfold Value.G6
  rw [dif_pos hlt, ← Value.outsAt0_sweep m c _ (by omega)]
  have hloc : Value.loc6Of (ix2 r l) = ix2 (⟨r.val % 512, Nat.mod_lt _ (by decide)⟩ : Fin 512) l := by
    funext a; apply Fin.ext
    match a with
    | ⟨0, _⟩ => rfl
    | ⟨1, _⟩ => exact Nat.mod_eq_of_lt hl
  rw [hloc]
  have key : ∀ (p : ℕ) (h : p < cfg0.N), p = 11 * (r.val / 512) + 9 + 1 →
      (outsAt0 m c p h).1 (ix2 (⟨r.val % 512, Nat.mod_lt _ (by decide)⟩ : Fin 512) l) = H m c r l := by
    intro p h e
    subst e
    refine (out_end m c _ (by omega) (by omega) _ l).trans ?_
    congr 1
    exact Fin.ext (by show 512 * ((11 * (r.val / 512) + 9 + 1) / 11) + r.val % 512 = r.val; omega)
  exact key _ _ hp

end Cert.FfnIdeal.Rows

/-! ## The reference -/

namespace Cert.FfnRefIdeal.Rows

open Cert.FfnRefIdeal Cert.FfnRefIdeal.Read Cert.Dense

variable (x0 : (⟨S1x16384x2048, .f32⟩ : BufTy).Contents (Elt Ideal)) (x1 : (⟨S1x2048, .f32⟩ : BufTy).Contents (Elt Ideal))
  (x2 x3 : (⟨S1x2048x5632, .f32⟩ : BufTy).Contents (Elt Ideal)) (x4 : (⟨S1x5632x2048, .f32⟩ : BufTy).Contents (Elt Ideal))

/-- The normalised rows. -/
theorem norm_ref (r : Fin 16384) (k : Fin 2048) :
    val_main_v13 (F := Ideal) x0 x1 (ix3 0 r k) = rms len2048 (fun k => x0 (ix3 0 r k)) (fun k => x1 (ix2 0 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem gate_ref (k : Fin 2048) (f : Fin 5632) : val_main_v14 (F := Ideal) x2 (ix2 k f) = x2 (ix3 0 k f) := by
  rw [val_main_v14_apply]
  congr 1
  funext a; apply Fin.ext
  have hf := f.isLt; have hk := k.isLt
  match a with
  | ⟨0, _⟩ => rfl
  | ⟨1, _⟩ => show (k.val * 5632 + f.val) / 5632 % 2048 = k.val; omega
  | ⟨2, _⟩ => show (k.val * 5632 + f.val) % 5632 = f.val; omega

theorem up_ref (k : Fin 2048) (f : Fin 5632) : val_main_v15 (F := Ideal) x3 (ix2 k f) = x3 (ix3 0 k f) := gate_ref x3 k f

theorem down_ref (f : Fin 5632) (l : Fin 2048) : val_main_v16 (F := Ideal) x4 (ix2 f l) = x4 (ix3 0 f l) := by
  rw [val_main_v16_apply]
  congr 1
  funext a; apply Fin.ext
  have hf := f.isLt; have hl := l.isLt
  match a with
  | ⟨0, _⟩ => rfl
  | ⟨1, _⟩ => show (f.val * 2048 + l.val) / 2048 % 5632 = f.val; omega
  | ⟨2, _⟩ => show (f.val * 2048 + l.val) % 2048 = l.val; omega

/-- The gated activations. -/
theorem act_ref (r : Fin 16384) (f : Fin 5632) :
    val_main_v20 (F := Ideal) x0 x1 x2 x3 (ix3 0 r f)
      = act (rms len2048 (fun k => x0 (ix3 0 r k)) (fun k => x1 (ix2 0 k))) (fun k => x2 (ix3 0 k f)) (fun k => x3 (ix3 0 k f)) := by
  have e17 : val_main_v17 (F := Ideal) x0 x1 x2 (ix3 0 r f)
      = ∑ k, rms len2048 (fun k => x0 (ix3 0 r k)) (fun k => x1 (ix2 0 k)) k * x2 (ix3 0 k f) := by
    pointwise [val_main_v17]
    exact Finset.sum_congr rfl fun k _ => by rw [norm_ref, gate_ref]
  have e19 : val_main_v19 (F := Ideal) x0 x1 x3 (ix3 0 r f)
      = ∑ k, rms len2048 (fun k => x0 (ix3 0 r k)) (fun k => x1 (ix2 0 k)) k * x3 (ix3 0 k f) := by
    pointwise [val_main_v19]
    exact Finset.sum_congr rfl fun k _ => by rw [norm_ref, up_ref]
  pointwise [val_main_v20, val_main_v18, val_main_call0_v5, val_main_call0_v4, val_main_call0_v3, val_main_call0_v2, val_main_call0_v1,
    val_main_call0_v0, val_main_call0_cst, val_main_call0_cst_0]
  rw [e17, e19]
  unfold act Ideal.logistic
  simp only [one_bits]

/-- The residual plus half of the block. -/
theorem half_ref (r : Fin 16384) (l : Fin 2048) :
    val_main_v24 (F := Ideal) x0 x1 x2 x3 x4 (ix3 0 r l)
      = halfStep (x0 (ix3 0 r l)) (ffn (rms len2048 (fun k => x0 (ix3 0 r k)) (fun k => x1 (ix2 0 k)))
          (fun k f => x2 (ix3 0 k f)) (fun k f => x3 (ix3 0 k f)) (fun f l => x4 (ix3 0 f l)) l) := by
  have e21 : val_main_v21 (F := Ideal) x0 x1 x2 x3 x4 (ix3 0 r l)
      = ffn (rms len2048 (fun k => x0 (ix3 0 r k)) (fun k => x1 (ix2 0 k)))
          (fun k f => x2 (ix3 0 k f)) (fun k f => x3 (ix3 0 k f)) (fun f l => x4 (ix3 0 f l)) l := by
    pointwise [val_main_v21]
    exact Finset.sum_congr rfl fun f _ => by rw [act_ref, down_ref]
  pointwise [val_main_v24, val_main_v23, val_main_v22, val_main_cst_2]
  rw [e21]
  rfl

/-- The reference's result at an element. -/
theorem result_ref (r : Fin 16384) (l : Fin 2048) :
    val_main_v25 (F := Ideal) x0 x1 x2 x3 x4 (ix2 r l)
      = halfStep (x0 (ix3 0 r l)) (ffn (rms len2048 (fun k => x0 (ix3 0 r k)) (fun k => x1 (ix2 0 k)))
          (fun k f => x2 (ix3 0 k f)) (fun k f => x3 (ix3 0 k f)) (fun f l => x4 (ix3 0 f l)) l) := by
  rw [← half_ref]
  unfold val_main_v25
  exact shapeCast_apply _ _ (ix2 r l) (ix3 0 r l)
    (by rw [Shape.rowMajor_val_three, Shape.rowMajor_val_two]; show (0 * 16384 + r.val) * 2048 + l.val = r.val * 2048 + l.val; omega)

end Cert.FfnRefIdeal.Rows

/-! ## The claim -/

namespace Cert.FfnIdeal.Rows

/-- The kernel's idealization and the reference's leave equal results on equal arguments. -/
theorem algebraic : Cert.algebraic_FfnIdeal_FfnRefIdeal
    (hFfnIdeal := Cert.FfnIdeal.Gen.facts) (hFfnRefIdeal := Cert.FfnRefIdeal.Gen.facts) := by
  pair_intro
  · run_from (Cert.FfnIdeal.Value.run (F := Ideal) m g)
  · run_from (Cert.FfnRefIdeal.Value.run (F := Ideal) m' g')
    rw [Cert.FfnRefIdeal.Read.val_main_v25_eq]
    refine funext fun i => ?_
    obtain ⟨r, l, rfl⟩ : ∃ (r : Fin 16384) (l : Fin 2048), i = ix2 r l :=
      ⟨i 0, i 1, funext fun a => by match a with | ⟨0, _⟩ => rfl | ⟨1, _⟩ => rfl⟩
    exact (Cert.FfnRefIdeal.Rows.result_ref _ _ _ _ _ r l).trans (result_at m c r l).symm

end Cert.FfnIdeal.Rows

end
-- ==== Proof.FfnFinalPieces.lean ====
/-
  The feed-forward kernel with the final norm (`FfnFinal`): what one grid point leaves in the output block and in the
  scratch block that carries the normalised rows, as the kernel's own stored expressions of the point's input blocks.
-/
module

public import proofs.«01_k».proof.Proof.Gen.FfnFinalIdeal.Value
public import Idealize.ShloMosaic.Lib.Pointwise

@[expose] public section

set_option maxRecDepth 16384

noncomputable section

open Idealize.ShloMosaic Idealize.ShloMosaic.TcCoe Idealize.SL.Sem

namespace Cert.FfnFinalIdeal.Pieces

open Cert.FfnFinalIdeal Cert.FfnFinalIdeal.Gen

variable {F : FTy → Type} [FloatOps F]

theorem hz : (![0, 0] : Fin 2 → Nat) = fun _ => 0 := funext fun a => by fin_cases a <;> rfl

section
variable (c : Dev nD) (i : grid0.Coords) (a2 : Memref sig .tc .vmem S512x2048 .f32) (h2 : a2.IsWhole)
  (a3 : Memref sig .tc .vmem S1x2048 .f32) (h3 : a3.IsWhole) (a4 : Memref sig .tc .vmem S2048x512 .bf16) (h4 : a4.IsWhole)
  (a5 : Memref sig .tc .vmem S2048x512 .bf16) (h5 : a5.IsWhole) (a6 : Memref sig .tc .vmem S512x2048 .bf16) (h6 : a6.IsWhole)
  (a7 : Memref sig .tc .vmem S1x2048 .f32) (h7 : a7.IsWhole) (a8 : Memref sig .tc .vmem S512x2048 .f32) (h8 : a8.IsWhole)
  (a9 : Memref sig .tc .vmem S512x2048 .bf16) (h9 : a9.IsWhole)
  (x0 : Vec F S512x2048 .f32) (x1 : Vec F S1x2048 .f32) (x2 : Vec F S2048x512 .bf16) (x3 : Vec F S2048x512 .bf16)
  (x4 : Vec F S512x2048 .bf16) (x5 : Vec F S1x2048 .f32)

/-- At the first of a row block's points the scratch block is left at the normalised rows. -/
theorem scratch_first (hc0 : cond0_0 i) (hc1 : ¬cond0_1 i) :
    sout0_A_0 c i a2 h2 a3 h3 a4 h4 a5 h5 a6 h6 a7 h7 a8 h8 a9 h9 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- At the first of a row block's points the output block is left at the first tile's partial product over zero. -/
theorem out_first (hc0 : cond0_0 i) (hc1 : ¬cond0_1 i) :
    out0_A_6 c i a2 h2 a3 h3 a4 h4 a5 h5 a6 h6 a7 h7 a8 h8 a9 h9 hc0 hc1 x0 x1 x2 x3 x4 x5
      = k0_pay3 (k0_pay1 x0 x1) x2 x3 k0_pay2 x4 := by
  unfold out0_A_6
  rw [View.read_writes_eq_canon _ _ _ (cover0_A_6 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S512x2048) hz]
  simp only [View.readCov_unit_zero (S := S512x2048) _ hz, View.readAt_eq_ld, h2.read_unread, h3.read_unread,
    h4.read_unread, h5.read_unread, h6.read_unread,
    View.ld_unit_zero (S := S512x2048) hz, View.ld_unit_zero (S := S1x2048) hz, View.ld_unit_zero (S := S2048x512) hz]

variable (xo : Vec F S512x2048 .f32) (xs : Vec F S512x2048 .bf16)

/-- At a middle point one more tile's partial product is added to what the output block held. -/
theorem out_middle (hc0 : ¬cond0_0 i) (hc1 : ¬cond0_1 i) :
    out0_B_6 c i a2 h2 a3 h3 a4 h4 a5 h5 a6 h6 a7 h7 a8 h8 a9 h9 hc0 hc1 x0 x1 x2 x3 x4 x5 xo xs
      = k0_pay3 xs x2 x3 xo x4 := by
  unfold out0_B_6
  rw [View.read_writes_eq_canon _ _ _ (cover0_B_6 c i a2 h2 a3 h3 a4 h4 a5 h5 a6 h6 a7 h7 a8 h8 a9 h9 hc0 hc1 x0 x1 x2 x3 x4 x5 xo xs)]
  unfold kernelRun0_B
  dsimp only
  sl_unfold_words
  rw [View.canon_unit_zero hz]
  simp only [View.readAt_eq_ld, h4.read_unread, h5.read_unread, h6.read_unread, h8.read_unread, h9.read_unread,
    View.ld_unit_zero (S := S512x2048) hz, View.ld_unit_zero (S := S2048x512) hz]

/-- At the last point the last tile's partial product is added and the half residual and the final norm are applied. -/
theorem out_last (hc0 : ¬cond0_0 i) (hc1 : cond0_1 i) :
    out0_C_6 c i a2 h2 a3 h3 a4 h4 a5 h5 a6 h6 a7 h7 a8 h8 a9 h9 hc0 hc1 x0 x1 x2 x3 x4 x5 xo xs
      = k0_pay4 x0 (k0_pay3 xs x2 x3 xo x4) x5 := by
  unfold out0_C_6
  rw [View.read_writes_eq_canon _ _ _ (cover0_C_6 c i a2 h2 a3 h3 a4 h4 a5 h5 a6 h6 a7 h7 a8 h8 a9 h9 hc0 hc1 x0 x1 x2 x3 x4 x5 xo xs)]
  unfold kernelRun0_C
  dsimp only
  sl_unfold_words
  rw [View.canon_cons_unit_zero (S := S512x2048) hz]
  simp only [View.readCov_unit_zero (S := S512x2048) _ hz, View.readAt_eq_ld, h2.read_unread, h4.read_unread, h5.read_unread,
    h6.read_unread, h7.read_unread, h8.read_unread, h9.read_unread,
    View.ld_unit_zero (S := S512x2048) hz, View.ld_unit_zero (S := S1x2048) hz, View.ld_unit_zero (S := S2048x512) hz]

end

end Cert.FfnFinalIdeal.Pieces

end
-- ==== Proof.FfnFinalValue.lean ====
/-
  The feed-forward kernel with the final norm (`FfnFinal`): the array it leaves, element by element, over the extended
  reals, and its equality with the plain reference's result.
-/
module

public import proofs.«01_k».proof.Proof.FfnFinalPieces
public import proofs.«01_k».proof.Proof.Dense
public import proofs.«01_k».proof.Proof.Gen.FfnFinalRefIdeal.Run
public import proofs.«01_k».proof.Proof.Gen.FfnFinalRefIdeal.Read
public import proofs.«01_k».proof.Defs
public import Idealize.ShloMosaic.Lib.Claim

@[expose] public section

set_option maxRecDepth 16384

noncomputable section

open Idealize.ShloMosaic Idealize.ShloMosaic.TcCoe Idealize.SL.Sem

namespace Cert.FfnFinalIdeal.Rows

open Cert.FfnFinalIdeal Cert.FfnFinalIdeal.Gen Cert.FfnFinalIdeal.Pieces Cert.Dense

/-! ## The stored expressions at an element -/

/-- The normalised rows. -/
theorem norm_at (x : Vec Ideal S512x2048 .f32) (g : Vec Ideal S1x2048 .f32) (r : Fin 512) (l : Fin 2048) :
    (k0_pay1 (F := Ideal) x g) (ix2 r l) = rms len2048 (fun k => x (ix2 r k)) (fun k => g (ix2 0 k)) l := by
  pointwise [k0_pay1]
  rfl

/-- The zero block. -/
theorem zero_at (r : Fin 512) (l : Fin 2048) : (k0_pay2 (F := Ideal)) (ix2 r l) = 0 := by
  pointwise [k0_pay2]

/-- One tile's partial product added to what was there. -/
theorem tile_at (n : Vec Ideal S512x2048 .bf16) (wg wu : Vec Ideal S2048x512 .bf16) (o : Vec Ideal S512x2048 .f32)
    (wd : Vec Ideal S512x2048 .bf16) (r : Fin 512) (l : Fin 2048) :
    (k0_pay3 (F := Ideal) n wg wu o wd) (ix2 r l)
      = o (ix2 r l) + ∑ f : Fin 512, act (fun k => n (ix2 r k)) (fun k => wg (ix2 k f)) (fun k => wu (ix2 k f)) * wd (ix2 f l) := by
  pointwise [k0_pay3]
  rfl

/-- The half residual step and the final norm. -/
theorem last_at (x o : Vec Ideal S512x2048 .f32) (g : Vec Ideal S1x2048 .f32) (r : Fin 512) (l : Fin 2048) :
    (k0_pay4 (F := Ideal) x o g) (ix2 r l)
      = rms len2048 (fun k => halfStep (x (ix2 r k)) (o (ix2 r k))) (fun k => g (ix2 0 k)) l := by
  pointwise [k0_pay4]
  rfl

/-! ## The arguments, and what each window reads of them -/

variable (m : (ℓ : Loc nD τ sig) → Buf (Elt Ideal) ℓ) (c : Dev nD)

/-- Row `r` of the layer input. -/
def X (r : Fin 16384) (k : Fin 2048) : EReal := m ((c : Thread nD τ).loc main_arg0) (ix2 r k)
/-- The norm's gain. -/
def G (k : Fin 2048) : EReal := m ((c : Thread nD τ).loc main_arg1) (ix2 0 k)
/-- The gate weight. -/
def Wg (k : Fin 2048) (f : Fin 5632) : EReal := m ((c : Thread nD τ).loc main_arg2) (ix3 0 k f)
/-- The up weight. -/
def Wu (k : Fin 2048) (f : Fin 5632) : EReal := m ((c : Thread nD τ).loc main_arg3) (ix3 0 k f)
/-- The down weight. -/
def Wd (f : Fin 5632) (l : Fin 2048) : EReal := m ((c : Thread nD τ).loc main_arg4) (ix3 0 f l)
/-- The final norm's gain. -/
def Gf (k : Fin 2048) : EReal := m ((c : Thread nD τ).loc main_arg5) (ix1 k)

/-- The normalised row `r`. -/
def N (r : Fin 16384) : Fin 2048 → EReal := rms len2048 (X m c r) (G m c)

theorem gain_arr (k : Fin 2048) : V m c main_v1 (ix2 0 k) = G m c k := by
  entry_read
  pointwise
  rfl

theorem gate_arr (k : Fin 2048) (f : Fin 5632) : V m c main_v3 (ix2 k f) = Wg m c k f := by
  entry_read
  exact shapeCast_apply _ shapeCasts_S1x2048x5632_S2048x5632 (ix2 k f) (ix3 0 k f)
    (by rw [Shape.rowMajor_val_three, Shape.rowMajor_val_two]; show (0 * 2048 + k.val) * 5632 + f.val = k.val * 5632 + f.val; omega)

theorem up_arr (k : Fin 2048) (f : Fin 5632) : V m c main_v5 (ix2 k f) = Wu m c k f := by
  entry_read
  exact shapeCast_apply _ shapeCasts_S1x2048x5632_S2048x5632 (ix2 k f) (ix3 0 k f)
    (by rw [Shape.rowMajor_val_three, Shape.rowMajor_val_two]; show (0 * 2048 + k.val) * 5632 + f.val = k.val * 5632 + f.val; omega)

theorem down_arr (f : Fin 5632) (l : Fin 2048) : V m c main_v7 (ix2 f l) = Wd m c f l := by
  entry_read
  exact shapeCast_apply _ shapeCasts_S1x5632x2048_S5632x2048 (ix2 f l) (ix3 0 f l)
    (by rw [Shape.rowMajor_val_three, Shape.rowMajor_val_two]; show (0 * 5632 + f.val) * 2048 + l.val = f.val * 2048 + l.val; omega)

theorem fgain_arr (k : Fin 2048) : V m c main_v8 (ix2 0 k) = Gf m c k := by
  entry_read
  pointwise
  rfl

/-- Where each window's block lies at point `t`: the row block is `t / 11`, the tile of hidden units `t % 11`. -/
theorem idx (t : Fin cfg0.N) :
    (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) ∧ (win0_5.index t 0 = 0 ∧ win0_5.index t 1 = 0) :=
  (by decide +kernel : ∀ t : Fin grid0.N, (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) ∧ (win0_5.index t 0 = 0 ∧ win0_5.index t 1 = 0)) t

theorem lt_N (t : Fin cfg0.N) : t.val < 352 := lt_of_lt_of_eq t.isLt (show cfg0.N = 352 from N_0)

/-- The array row that row `r` of point `t`'s block is. -/
abbrev row (t : Fin cfg0.N) (r : Fin 512) : Fin 16384 := rowOf t.val (lt_N t) r

theorem x_blk (t : Fin cfg0.N) (r : Fin 512) (k : Fin 2048) : iblk m c 0 t (ix2 r k) = X m c (row t r) k := by
  obtain ⟨⟨e0, e1⟩, -⟩ := idx t
  unfold iblk X
  rw [View.read_apply]
  show V m c main_arg0 _ = _
  rw [V_main_arg0]
  congr 1
  funext a
  apply Fin.ext
  match a with
  | ⟨0, _⟩ => show win0_0.index t 0 * 512 + 1 * r.val = 512 * (t.val / 11) + r.val; rw [e0]; omega
  | ⟨1, _⟩ => show win0_0.index t 1 * 2048 + 1 * k.val = k.val; rw [e1]; omega

theorem g_blk (t : Fin cfg0.N) (k : Fin 2048) : iblk m c 1 t (ix2 0 k) = G m c k := by
  obtain ⟨-, ⟨e0, e1⟩, -⟩ := idx t
  rw [← gain_arr]
  unfold iblk
  rw [View.read_apply]
  show V m c main_v1 _ = _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem wg_blk (t : Fin cfg0.N) (k : Fin 2048) (s : Fin 512) :
    iblk m c 2 t (ix2 k s) = Wg m c k (unit (t.val % 11) (Nat.mod_lt _ (by decide)) s) := by
  obtain ⟨-, -, ⟨e0, e1⟩, -⟩ := idx t
  rw [← gate_arr]
  unfold iblk
  rw [View.read_apply]
  show V m c main_v3 _ = _
  congr 1
  funext a
  apply Fin.ext
  match a with
  | ⟨0, _⟩ => show win0_2.index t 0 * 2048 + 1 * k.val = k.val; rw [e0]; omega
  | ⟨1, _⟩ => show win0_2.index t 1 * 512 + 1 * s.val = 512 * (t.val % 11) + s.val; rw [e1]; omega

theorem wu_blk (t : Fin cfg0.N) (k : Fin 2048) (s : Fin 512) :
    iblk m c 3 t (ix2 k s) = Wu m c k (unit (t.val % 11) (Nat.mod_lt _ (by decide)) s) := by
  obtain ⟨-, -, -, ⟨e0, e1⟩, -⟩ := idx t
  rw [← up_arr]
  unfold iblk
  rw [View.read_apply]
  show V m c main_v5 _ = _
  congr 1
  funext a
  apply Fin.ext
  match a with
  | ⟨0, _⟩ => show win0_3.index t 0 * 2048 + 1 * k.val = k.val; rw [e0]; omega
  | ⟨1, _⟩ => show win0_3.index t 1 * 512 + 1 * s.val = 512 * (t.val % 11) + s.val; rw [e1]; omega

theorem wd_blk (t : Fin cfg0.N) (s : Fin 512) (l : Fin 2048) :
    iblk m c 4 t (ix2 s l) = Wd m c (unit (t.val % 11) (Nat.mod_lt _ (by decide)) s) l := by
  obtain ⟨-, -, -, -, ⟨e0, e1⟩, -⟩ := idx t
  rw [← down_arr]
  unfold iblk
  rw [View.read_apply]
  show V m c main_v7 _ = _
  congr 1
  funext a
  apply Fin.ext
  match a with
  | ⟨0, _⟩ => show win0_4.index t 0 * 512 + 1 * s.val = 512 * (t.val % 11) + s.val; rw [e0]; omega
  | ⟨1, _⟩ => show win0_4.index t 1 * 2048 + 1 * l.val = l.val; rw [e1]; omega

theorem gf_blk (t : Fin cfg0.N) (k : Fin 2048) : iblk m c 5 t (ix2 0 k) = Gf m c k := by
  obtain ⟨-, -, -, -, -, e0, e1⟩ := idx t
  rw [← fgain_arr]
  unfold iblk
  rw [View.read_apply]
  show V m c main_v8 _ = _
  congr 1
  funext a
  apply Fin.ext
  match a with
  | ⟨0, _⟩ => show win0_5.index t 0 * 1 + 1 * 0 = 0; rw [e0]
  | ⟨1, _⟩ => show win0_5.index t 1 * 2048 + 1 * k.val = k.val; rw [e1]; omega

/-! ## The walk over the points -/

/-- The normalised rows of the point's row block. -/
theorem norm_blk (t : Fin cfg0.N) (r : Fin 512) (k : Fin 2048) :
    (k0_pay1 (F := Ideal) (iblk m c 0 t) (iblk m c 1 t)) (ix2 r k) = N m c (row t r) k := by
  rw [norm_at]
  simp only [x_blk, g_blk]
  rfl

/-- One tile's product added at point `t`. -/
theorem tile_blk (t : Fin cfg0.N) (n : Vec Ideal S512x2048 .bf16) (o : Vec Ideal S512x2048 .f32) (r : Fin 512) (l : Fin 2048) :
    (k0_pay3 (F := Ideal) n (iblk m c 2 t) (iblk m c 3 t) o (iblk m c 4 t)) (ix2 r l)
      = o (ix2 r l) + tile (Wg m c) (Wu m c) (Wd m c) t.val (fun k => n (ix2 r k)) l := by
  rw [tile_at]
  simp only [wg_blk, wu_blk, wd_blk]
  rfl

theorem of_lt {n : ℕ} (h : n < 352) : n < cfg0.N := lt_of_lt_of_eq h (show cfg0.N = 352 from N_0).symm

/-- What the scratch block holds after point `n`, by row and entry. -/
def S (n : ℕ) (h : n < 352) (r : Fin 512) (k : Fin 2048) : EReal := (outsAt0 m c n (of_lt h)).2 (ix2 r k)
/-- What the output block holds after point `n`, by row and entry. -/
def O (n : ℕ) (h : n < 352) (r : Fin 512) (l : Fin 2048) : EReal := (outsAt0 m c n (of_lt h)).1 (ix2 r l)

theorem S_first (n : ℕ) (h : n < 352) (h0 : n % 11 = 0) (r : Fin 512) (k : Fin 2048) : S m c n h r k = N m c (rowOf n h r) k := by
  unfold S
  rw [outsAt0_A m c ⟨n, of_lt h⟩ h0 (by dsimp only; omega)]
  dsimp only
  rw [scratch_first]
  exact norm_blk m c ⟨n, of_lt h⟩ r k

theorem S_keep (n : ℕ) (h : n + 1 < 352) (h0 : (n + 1) % 11 ≠ 0) : S m c (n + 1) h = S m c n (Nat.lt_of_succ_lt h) := by
  funext r k
  unfold S
  by_cases h1 : (n + 1) % 11 = 10
  · rw [outsAt0_C m c ⟨n + 1, of_lt h⟩ h0 h1]; rfl
  · rw [outsAt0_B m c ⟨n + 1, of_lt h⟩ h0 h1]; rfl

/-- The scratch block always holds the normalised rows of the point's row block. -/
theorem S_at : ∀ n h r k, S m c n h r k = N m c (rowOf n h r) k :=
  walk_scratch (by decide) (N m c) (S m c) (S_first m c) (S_keep m c)

theorem O_first (n : ℕ) (h : n < 352) (h0 : n % 11 = 0) (r : Fin 512) (l : Fin 2048) :
    O m c n h r l = 0 + tile (Wg m c) (Wu m c) (Wd m c) n (S m c n h r) l := by
  rw [funext (S_first m c n h h0 r), ← funext (norm_blk m c ⟨n, of_lt h⟩ r)]
  unfold O
  rw [outsAt0_A m c ⟨n, of_lt h⟩ h0 (by dsimp only; omega)]
  dsimp only
  rw [out_first]
  refine (tile_blk m c ⟨n, of_lt h⟩ _ _ r l).trans ?_
  rw [zero_at]

theorem O_step (n : ℕ) (h : n + 1 < 352) (h0 : (n + 1) % 11 ≠ 0) (h1 : (n + 1) % 11 ≠ 10) (r : Fin 512) (l : Fin 2048) :
    O m c (n + 1) h r l
      = O m c n (Nat.lt_of_succ_lt h) r l + tile (Wg m c) (Wu m c) (Wd m c) (n + 1) (S m c n (Nat.lt_of_succ_lt h) r) l := by
  unfold O
  rw [outsAt0_B m c ⟨n + 1, of_lt h⟩ h0 h1]
  dsimp only
  rw [out_middle]
  exact tile_blk m c ⟨n + 1, of_lt h⟩ _ _ r l

/-- The output block holds the contribution of the tiles so far. -/
theorem O_at : ∀ n h, n % 11 ≠ 10 → ∀ r l,
    O m c n h r l = ffnPart (N m c (rowOf n h r)) (Wg m c) (Wu m c) (Wd m c) (512 * (n % 11 + 1)) l :=
  walk_out (by decide) (N m c) (Wg m c) (Wu m c) (Wd m c) (S m c) (O m c) (S_at m c) (O_first m c) (O_step m c)

/-- The residual plus half of the feed-forward block. -/
def H (r : Fin 16384) (l : Fin 2048) : EReal := halfStep (X m c r l) (ffn (N m c r) (Wg m c) (Wu m c) (Wd m c) l)

/-- What the last point of a row block leaves in the output block. -/
theorem out_end (n : ℕ) (h : n + 1 < 352) (h1 : (n + 1) % 11 = 10) (r : Fin 512) (l : Fin 2048) :
    O m c (n + 1) h r l = rms len2048 (H m c (rowOf (n + 1) h r)) (Gf m c) l := by
  unfold O
  rw [outsAt0_C m c ⟨n + 1, of_lt h⟩ (by dsimp only; omega) h1]
  dsimp only
  rw [out_last, last_at]
  simp only [tile_blk, x_blk, gf_blk]
  unfold H
  simp only [← walk_last (by decide) (N m c) (Wg m c) (Wu m c) (Wd m c) (S m c) (O m c) (S_at m c) (O_at m c) n h h1 r]
  rfl

/-- The kernel's result array at an element. -/
theorem result_at (r : Fin 16384) (l : Fin 2048) :
    (Value.G6 m c) (ix2 r l) = rms len2048 (H m c r) (Gf m c) l := by
  have hr : r.val < 16384 := r.isLt
  have hl : l.val < 2048 := l.isLt
  have hp : Value.pt6Of (ix2 r l) = 11 * (r.val / 512) + 9 + 1 := by
    show 11 * (1 * (r.val / 512 - 0) + 1 * (l.val / 2048 - 0)) + 10 = _; omega
  have hlt : Value.pt6Of (ix2 r l) < cfg0.N := by rw [hp]; exact of_lt (by omega)
  unfold Value.G6
  rw [dif_pos hlt, ← Value.outsAt0_sweep m c _ (by omega)]
  have hloc : Value.loc6Of (ix2 r l) = ix2 (⟨r.val % 512, Nat.mod_lt _ (by decide)⟩ : Fin 512) l := by
    funext a; apply Fin.ext
    match a with
    | ⟨0, _⟩ => rfl
    | ⟨1, _⟩ => exact Nat.mod_eq_of_lt hl
  rw [hloc]
  have key : ∀ (p : ℕ) (h : p < cfg0.N), p = 11 * (r.val / 512) + 9 + 1 →
      (outsAt0 m c p h).1 (ix2 (⟨r.val % 512, Nat.mod_lt _ (by decide)⟩ : Fin 512) l) = rms len2048 (H m c r) (Gf m c) l := by
    intro p h e
    subst e
    refine (out_end m c _ (by omega) (by omega) _ l).trans ?_
    congr 2
    exact Fin.ext (by show 512 * ((11 * (r.val / 512) + 9 + 1) / 11) + r.val % 512 = r.val; omega)
  exact key _ _ hp

end Cert.FfnFinalIdeal.Rows

/-! ## The reference -/

namespace Cert.FfnFinalRefIdeal.Rows

open Cert.FfnFinalRefIdeal Cert.FfnFinalRefIdeal.Read Cert.Dense

variable (x0 : (⟨S16384x2048, .f32⟩ : BufTy).Contents (Elt Ideal)) (x1 : (⟨S1x2048, .f32⟩ : BufTy).Contents (Elt Ideal))
  (x2 x3 : (⟨S1x2048x5632, .f32⟩ : BufTy).Contents (Elt Ideal)) (x4 : (⟨S1x5632x2048, .f32⟩ : BufTy).Contents (Elt Ideal))
  (x5 : (⟨S2048, .f32⟩ : BufTy).Contents (Elt Ideal))

/-- The normalised rows. -/
theorem norm_ref (r : Fin 16384) (k : Fin 2048) :
    val_main_v13 (F := Ideal) x0 x1 (ix2 r k) = rms len2048 (fun k => x0 (ix2 r k)) (fun k => x1 (ix2 0 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem gate_ref (k : Fin 2048) (f : Fin 5632) : val_main_v14 (F := Ideal) x2 (ix2 k f) = x2 (ix3 0 k f) := by
  rw [val_main_v14_apply]
  congr 1
  funext a; apply Fin.ext
  have hf := f.isLt; have hk := k.isLt
  match a with
  | ⟨0, _⟩ => rfl
  | ⟨1, _⟩ => show (k.val * 5632 + f.val) / 5632 % 2048 = k.val; omega
  | ⟨2, _⟩ => show (k.val * 5632 + f.val) % 5632 = f.val; omega

theorem up_ref (k : Fin 2048) (f : Fin 5632) : val_main_v15 (F := Ideal) x3 (ix2 k f) = x3 (ix3 0 k f) := gate_ref x3 k f

theorem down_ref (f : Fin 5632) (l : Fin 2048) : val_main_v16 (F := Ideal) x4 (ix2 f l) = x4 (ix3 0 f l) := by
  rw [val_main_v16_apply]
  congr 1
  funext a; apply Fin.ext
  have hf := f.isLt; have hl := l.isLt
  match a with
  | ⟨0, _⟩ => rfl
  | ⟨1, _⟩ => show (f.val * 2048 + l.val) / 2048 % 5632 = f.val; omega
  | ⟨2, _⟩ => show (f.val * 2048 + l.val) % 2048 = l.val; omega

/-- The gated activations. -/
theorem act_ref (r : Fin 16384) (f : Fin 5632) :
    val_main_v20 (F := Ideal) x0 x1 x2 x3 (ix2 r f)
      = act (rms len2048 (fun k => x0 (ix2 r k)) (fun k => x1 (ix2 0 k))) (fun k => x2 (ix3 0 k f)) (fun k => x3 (ix3 0 k f)) := by
  have e17 : val_main_v17 (F := Ideal) x0 x1 x2 (ix2 r f)
      = ∑ k, rms len2048 (fun k => x0 (ix2 r k)) (fun k => x1 (ix2 0 k)) k * x2 (ix3 0 k f) := by
    pointwise [val_main_v17]
    exact Finset.sum_congr rfl fun k _ => by rw [norm_ref, gate_ref]
  have e19 : val_main_v19 (F := Ideal) x0 x1 x3 (ix2 r f)
      = ∑ k, rms len2048 (fun k => x0 (ix2 r k)) (fun k => x1 (ix2 0 k)) k * x3 (ix3 0 k f) := by
    pointwise [val_main_v19]
    exact Finset.sum_congr rfl fun k _ => by rw [norm_ref, up_ref]
  pointwise [val_main_v20, val_main_v18, val_main_call0_v5, val_main_call0_v4, val_main_call0_v3, val_main_call0_v2, val_main_call0_v1,
    val_main_call0_v0, val_main_call0_cst, val_main_call0_cst_0]
  rw [e17, e19]
  unfold act Ideal.logistic
  simp only [one_bits]

/-- The residual plus half of the block. -/
theorem half_ref (r : Fin 16384) (l : Fin 2048) :
    val_main_v24 (F := Ideal) x0 x1 x2 x3 x4 (ix2 r l)
      = halfStep (x0 (ix2 r l)) (ffn (rms len2048 (fun k => x0 (ix2 r k)) (fun k => x1 (ix2 0 k)))
          (fun k f => x2 (ix3 0 k f)) (fun k f => x3 (ix3 0 k f)) (fun f l => x4 (ix3 0 f l)) l) := by
  have e21 : val_main_v21 (F := Ideal) x0 x1 x2 x3 x4 (ix2 r l)
      = ffn (rms len2048 (fun k => x0 (ix2 r k)) (fun k => x1 (ix2 0 k)))
          (fun k f => x2 (ix3 0 k f)) (fun k f => x3 (ix3 0 k f)) (fun f l => x4 (ix3 0 f l)) l := by
    pointwise [val_main_v21]
    exact Finset.sum_congr rfl fun f _ => by rw [act_ref, down_ref]
  pointwise [val_main_v24, val_main_v23, val_main_v22, val_main_cst_2]
  rw [e21]
  rfl

/-- The reference's result at an element. -/
theorem result_ref (r : Fin 16384) (l : Fin 2048) :
    val_main_v37 (F := Ideal) x0 x1 x2 x3 x4 x5 (ix2 r l)
      = rms len2048 (fun l => halfStep (x0 (ix2 r l)) (ffn (rms len2048 (fun k => x0 (ix2 r k)) (fun k => x1 (ix2 0 k)))
          (fun k f => x2 (ix3 0 k f)) (fun k f => x3 (ix3 0 k f)) (fun f l => x4 (ix3 0 f l)) l)) (fun k => x5 (ix1 k)) l := by
  pointwise [val_main_v37, val_main_v36, val_main_v35, val_main_v34, val_main_v33, val_main_v32, val_main_v31, val_main_v30, val_main_v29,
    val_main_v28, val_main_v27, val_main_v26, val_main_v25, val_main_cst_3, val_main_cst_4, val_main_cst_5]
  simp only [half_ref]
  rfl

end Cert.FfnFinalRefIdeal.Rows

/-! ## The claim -/

namespace Cert.FfnFinalIdeal.Rows

/-- The kernel's idealization and the reference's leave equal results on equal arguments. -/
theorem algebraic : Cert.algebraic_FfnFinalIdeal_FfnFinalRefIdeal
    (hFfnFinalIdeal := Cert.FfnFinalIdeal.Gen.facts) (hFfnFinalRefIdeal := Cert.FfnFinalRefIdeal.Gen.facts) := by
  pair_intro
  · run_from (Cert.FfnFinalIdeal.Value.run (F := Ideal) m g)
  · run_from (Cert.FfnFinalRefIdeal.Value.run (F := Ideal) m' g')
    rw [Cert.FfnFinalRefIdeal.Read.val_main_v37_eq]
    simp only [hagree c]
    refine funext fun i => ?_
    obtain ⟨r, l, rfl⟩ : ∃ (r : Fin 16384) (l : Fin 2048), i = ix2 r l :=
      ⟨i 0, i 1, funext fun a => by match a with | ⟨0, _⟩ => rfl | ⟨1, _⟩ => rfl⟩
    exact (Cert.FfnFinalRefIdeal.Rows.result_ref _ _ _ _ _ _ r l).trans (result_at m c r l).symm

end Cert.FfnFinalIdeal.Rows

end
-- ==== Proof.FfnFinalSamplePieces.lean ====
/-
  The feed-forward kernel with the final norm on the sample batch (`FfnFinalSample`): what one grid point leaves in the output block and in the
  scratch block that carries the normalised rows, as the kernel's own stored expressions of the point's input blocks.
-/
module

public import proofs.«01_k».proof.Proof.Gen.FfnFinalSampleIdeal.Value
public import Idealize.ShloMosaic.Lib.Pointwise

@[expose] public section

set_option maxRecDepth 16384

noncomputable section

open Idealize.ShloMosaic Idealize.ShloMosaic.TcCoe Idealize.SL.Sem

namespace Cert.FfnFinalSampleIdeal.Pieces

open Cert.FfnFinalSampleIdeal Cert.FfnFinalSampleIdeal.Gen

variable {F : FTy → Type} [FloatOps F]

theorem hz : (![0, 0] : Fin 2 → Nat) = fun _ => 0 := funext fun a => by fin_cases a <;> rfl

section
variable (c : Dev nD) (i : grid0.Coords) (a2 : Memref sig .tc .vmem S512x2048 .f32) (h2 : a2.IsWhole)
  (a3 : Memref sig .tc .vmem S1x2048 .f32) (h3 : a3.IsWhole) (a4 : Memref sig .tc .vmem S2048x512 .bf16) (h4 : a4.IsWhole)
  (a5 : Memref sig .tc .vmem S2048x512 .bf16) (h5 : a5.IsWhole) (a6 : Memref sig .tc .vmem S512x2048 .bf16) (h6 : a6.IsWhole)
  (a7 : Memref sig .tc .vmem S1x2048 .f32) (h7 : a7.IsWhole) (a8 : Memref sig .tc .vmem S512x2048 .f32) (h8 : a8.IsWhole)
  (a9 : Memref sig .tc .vmem S512x2048 .bf16) (h9 : a9.IsWhole)
  (x0 : Vec F S512x2048 .f32) (x1 : Vec F S1x2048 .f32) (x2 : Vec F S2048x512 .bf16) (x3 : Vec F S2048x512 .bf16)
  (x4 : Vec F S512x2048 .bf16) (x5 : Vec F S1x2048 .f32)

/-- At the first of a row block's points the scratch block is left at the normalised rows. -/
theorem scratch_first (hc0 : cond0_0 i) (hc1 : ¬cond0_1 i) :
    sout0_A_0 c i a2 h2 a3 h3 a4 h4 a5 h5 a6 h6 a7 h7 a8 h8 a9 h9 hc0 hc1 x0 x1 x2 x3 x4 x5 = k0_pay1 x0 x1 := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_unit_zero hz]
  simp only [View.readAt_eq_ld, h2.read_unread, h3.read_unread, View.ld_unit_zero (S := S512x2048) hz, View.ld_unit_zero (S := S1x2048) hz]

/-- At the first of a row block's points the output block is left at the first tile's partial product over zero. -/
theorem out_first (hc0 : cond0_0 i) (hc1 : ¬cond0_1 i) :
    out0_A_6 c i a2 h2 a3 h3 a4 h4 a5 h5 a6 h6 a7 h7 a8 h8 a9 h9 hc0 hc1 x0 x1 x2 x3 x4 x5
      = k0_pay3 (k0_pay1 x0 x1) x2 x3 k0_pay2 x4 := by
  unfold out0_A_6
  rw [View.read_writes_eq_canon _ _ _ (cover0_A_6 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S512x2048) hz]
  simp only [View.readCov_unit_zero (S := S512x2048) _ hz, View.readAt_eq_ld, h2.read_unread, h3.read_unread,
    h4.read_unread, h5.read_unread, h6.read_unread,
    View.ld_unit_zero (S := S512x2048) hz, View.ld_unit_zero (S := S1x2048) hz, View.ld_unit_zero (S := S2048x512) hz]

variable (xo : Vec F S512x2048 .f32) (xs : Vec F S512x2048 .bf16)

/-- At a middle point one more tile's partial product is added to what the output block held. -/
theorem out_middle (hc0 : ¬cond0_0 i) (hc1 : ¬cond0_1 i) :
    out0_B_6 c i a2 h2 a3 h3 a4 h4 a5 h5 a6 h6 a7 h7 a8 h8 a9 h9 hc0 hc1 x0 x1 x2 x3 x4 x5 xo xs
      = k0_pay3 xs x2 x3 xo x4 := by
  unfold out0_B_6
  rw [View.read_writes_eq_canon _ _ _ (cover0_B_6 c i a2 h2 a3 h3 a4 h4 a5 h5 a6 h6 a7 h7 a8 h8 a9 h9 hc0 hc1 x0 x1 x2 x3 x4 x5 xo xs)]
  unfold kernelRun0_B
  dsimp only
  sl_unfold_words
  rw [View.canon_unit_zero hz]
  simp only [View.readAt_eq_ld, h4.read_unread, h5.read_unread, h6.read_unread, h8.read_unread, h9.read_unread,
    View.ld_unit_zero (S := S512x2048) hz, View.ld_unit_zero (S := S2048x512) hz]

/-- At the last point the last tile's partial product is added and the half residual and the final norm are applied. -/
theorem out_last (hc0 : ¬cond0_0 i) (hc1 : cond0_1 i) :
    out0_C_6 c i a2 h2 a3 h3 a4 h4 a5 h5 a6 h6 a7 h7 a8 h8 a9 h9 hc0 hc1 x0 x1 x2 x3 x4 x5 xo xs
      = k0_pay4 x0 (k0_pay3 xs x2 x3 xo x4) x5 := by
  unfold out0_C_6
  rw [View.read_writes_eq_canon _ _ _ (cover0_C_6 c i a2 h2 a3 h3 a4 h4 a5 h5 a6 h6 a7 h7 a8 h8 a9 h9 hc0 hc1 x0 x1 x2 x3 x4 x5 xo xs)]
  unfold kernelRun0_C
  dsimp only
  sl_unfold_words
  rw [View.canon_cons_unit_zero (S := S512x2048) hz]
  simp only [View.readCov_unit_zero (S := S512x2048) _ hz, View.readAt_eq_ld, h2.read_unread, h4.read_unread, h5.read_unread,
    h6.read_unread, h7.read_unread, h8.read_unread, h9.read_unread,
    View.ld_unit_zero (S := S512x2048) hz, View.ld_unit_zero (S := S1x2048) hz, View.ld_unit_zero (S := S2048x512) hz]

end

end Cert.FfnFinalSampleIdeal.Pieces

end
-- ==== Proof.FfnFinalSampleValue.lean ====
/-
  The feed-forward kernel with the final norm on the sample batch (`FfnFinalSample`): the array it leaves, element by element, over the extended
  reals, and its equality with the plain reference's result.
-/
module

public import proofs.«01_k».proof.Proof.FfnFinalSamplePieces
public import proofs.«01_k».proof.Proof.FfnFinalValue
public import proofs.«01_k».proof.Proof.Gen.FfnFinalSampleRefIdeal.Run
public import proofs.«01_k».proof.Proof.Gen.FfnFinalSampleRefIdeal.Read
public import proofs.«01_k».proof.Defs
public import Idealize.ShloMosaic.Lib.Claim

@[expose] public section

set_option maxRecDepth 16384

noncomputable section

open Idealize.ShloMosaic Idealize.ShloMosaic.TcCoe Idealize.SL.Sem

namespace Cert.FfnFinalSampleIdeal.Rows

open Cert.FfnFinalSampleIdeal Cert.FfnFinalSampleIdeal.Gen Cert.FfnFinalSampleIdeal.Pieces Cert.Dense

/-! ## The stored expressions at an element -/

/-- The normalised rows. -/
theorem norm_at (x : Vec Ideal S512x2048 .f32) (g : Vec Ideal S1x2048 .f32) (r : Fin 512) (l : Fin 2048) :
    (k0_pay1 (F := Ideal) x g) (ix2 r l) = rms len2048 (fun k => x (ix2 r k)) (fun k => g (ix2 0 k)) l :=
  Cert.FfnFinalIdeal.Rows.norm_at x g r l

/-- The zero block. -/
theorem zero_at (r : Fin 512) (l : Fin 2048) : (k0_pay2 (F := Ideal)) (ix2 r l) = 0 :=
  Cert.FfnFinalIdeal.Rows.zero_at r l

/-- One tile's partial product added to what was there. -/
theorem tile_at (n : Vec Ideal S512x2048 .bf16) (wg wu : Vec Ideal S2048x512 .bf16) (o : Vec Ideal S512x2048 .f32)
    (wd : Vec Ideal S512x2048 .bf16) (r : Fin 512) (l : Fin 2048) :
    (k0_pay3 (F := Ideal) n wg wu o wd) (ix2 r l)
      = o (ix2 r l) + ∑ f : Fin 512, act (fun k => n (ix2 r k)) (fun k => wg (ix2 k f)) (fun k => wu (ix2 k f)) * wd (ix2 f l) :=
  Cert.FfnFinalIdeal.Rows.tile_at n wg wu o wd r l

/-- The half residual step and the final norm. -/
theorem last_at (x o : Vec Ideal S512x2048 .f32) (g : Vec Ideal S1x2048 .f32) (r : Fin 512) (l : Fin 2048) :
    (k0_pay4 (F := Ideal) x o g) (ix2 r l)
      = rms len2048 (fun k => halfStep (x (ix2 r k)) (o (ix2 r k))) (fun k => g (ix2 0 k)) l :=
  Cert.FfnFinalIdeal.Rows.last_at x o g r l

/-! ## The arguments, and what each window reads of them -/

variable (m : (ℓ : Loc nD τ sig) → Buf (Elt Ideal) ℓ) (c : Dev nD)

/-- Row `r` of the layer input. -/
def X (r : Fin 8192) (k : Fin 2048) : EReal := m ((c : Thread nD τ).loc main_arg0) (ix2 r k)
/-- The norm's gain. -/
def G (k : Fin 2048) : EReal := m ((c : Thread nD τ).loc main_arg1) (ix2 0 k)
/-- The gate weight. -/
def Wg (k : Fin 2048) (f : Fin 5632) : EReal := m ((c : Thread nD τ).loc main_arg2) (ix3 0 k f)
/-- The up weight. -/
def Wu (k : Fin 2048) (f : Fin 5632) : EReal := m ((c : Thread nD τ).loc main_arg3) (ix3 0 k f)
/-- The down weight. -/
def Wd (f : Fin 5632) (l : Fin 2048) : EReal := m ((c : Thread nD τ).loc main_arg4) (ix3 0 f l)
/-- The final norm's gain. -/
def Gf (k : Fin 2048) : EReal := m ((c : Thread nD τ).loc main_arg5) (ix1 k)

/-- The normalised row `r`. -/
def N (r : Fin 8192) : Fin 2048 → EReal := rms len2048 (X m c r) (G m c)

theorem gain_arr (k : Fin 2048) : V m c main_v1 (ix2 0 k) = G m c k := by
  entry_read
  pointwise
  rfl

theorem gate_arr (k : Fin 2048) (f : Fin 5632) : V m c main_v3 (ix2 k f) = Wg m c k f := by
  entry_read
  exact shapeCast_apply _ shapeCasts_S1x2048x5632_S2048x5632 (ix2 k f) (ix3 0 k f)
    (by rw [Shape.rowMajor_val_three, Shape.rowMajor_val_two]; show (0 * 2048 + k.val) * 5632 + f.val = k.val * 5632 + f.val; omega)

theorem up_arr (k : Fin 2048) (f : Fin 5632) : V m c main_v5 (ix2 k f) = Wu m c k f := by
  entry_read
  exact shapeCast_apply _ shapeCasts_S1x2048x5632_S2048x5632 (ix2 k f) (ix3 0 k f)
    (by rw [Shape.rowMajor_val_three, Shape.rowMajor_val_two]; show (0 * 2048 + k.val) * 5632 + f.val = k.val * 5632 + f.val; omega)

theorem down_arr (f : Fin 5632) (l : Fin 2048) : V m c main_v7 (ix2 f l) = Wd m c f l := by
  entry_read
  exact shapeCast_apply _ shapeCasts_S1x5632x2048_S5632x2048 (ix2 f l) (ix3 0 f l)
    (by rw [Shape.rowMajor_val_three, Shape.rowMajor_val_two]; show (0 * 5632 + f.val) * 2048 + l.val = f.val * 2048 + l.val; omega)

theorem fgain_arr (k : Fin 2048) : V m c main_v8 (ix2 0 k) = Gf m c k := by
  entry_read
  pointwise
  rfl

/-- Where each window's block lies at point `t`: the row block is `t / 11`, the tile of hidden units `t % 11`. -/
theorem idx (t : Fin cfg0.N) :
    (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) ∧ (win0_5.index t 0 = 0 ∧ win0_5.index t 1 = 0) :=
  (by decide +kernel : ∀ t : Fin grid0.N, (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) ∧ (win0_5.index t 0 = 0 ∧ win0_5.index t 1 = 0)) t

theorem lt_N (t : Fin cfg0.N) : t.val < 176 := lt_of_lt_of_eq t.isLt (show cfg0.N = 176 from N_0)

/-- The array row that row `r` of point `t`'s block is. -/
abbrev row (t : Fin cfg0.N) (r : Fin 512) : Fin 8192 := rowOf t.val (lt_N t) r

theorem x_blk (t : Fin cfg0.N) (r : Fin 512) (k : Fin 2048) : iblk m c 0 t (ix2 r k) = X m c (row t r) k := by
  obtain ⟨⟨e0, e1⟩, -⟩ := idx t
  unfold iblk X
  rw [View.read_apply]
  show V m c main_arg0 _ = _
  rw [V_main_arg0]
  congr 1
  funext a
  apply Fin.ext
  match a with
  | ⟨0, _⟩ => show win0_0.index t 0 * 512 + 1 * r.val = 512 * (t.val / 11) + r.val; rw [e0]; omega
  | ⟨1, _⟩ => show win0_0.index t 1 * 2048 + 1 * k.val = k.val; rw [e1]; omega

theorem g_blk (t : Fin cfg0.N) (k : Fin 2048) : iblk m c 1 t (ix2 0 k) = G m c k := by
  obtain ⟨-, ⟨e0, e1⟩, -⟩ := idx t
  rw [← gain_arr]
  unfold iblk
  rw [View.read_apply]
  show V m c main_v1 _ = _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem wg_blk (t : Fin cfg0.N) (k : Fin 2048) (s : Fin 512) :
    iblk m c 2 t (ix2 k s) = Wg m c k (unit (t.val % 11) (Nat.mod_lt _ (by decide)) s) := by
  obtain ⟨-, -, ⟨e0, e1⟩, -⟩ := idx t
  rw [← gate_arr]
  unfold iblk
  rw [View.read_apply]
  show V m c main_v3 _ = _
  congr 1
  funext a
  apply Fin.ext
  match a with
  | ⟨0, _⟩ => show win0_2.index t 0 * 2048 + 1 * k.val = k.val; rw [e0]; omega
  | ⟨1, _⟩ => show win0_2.index t 1 * 512 + 1 * s.val = 512 * (t.val % 11) + s.val; rw [e1]; omega

theorem wu_blk (t : Fin cfg0.N) (k : Fin 2048) (s : Fin 512) :
    iblk m c 3 t (ix2 k s) = Wu m c k (unit (t.val % 11) (Nat.mod_lt _ (by decide)) s) := by
  obtain ⟨-, -, -, ⟨e0, e1⟩, -⟩ := idx t
  rw [← up_arr]
  unfold iblk
  rw [View.read_apply]
  show V m c main_v5 _ = _
  congr 1
  funext a
  apply Fin.ext
  match a with
  | ⟨0, _⟩ => show win0_3.index t 0 * 2048 + 1 * k.val = k.val; rw [e0]; omega
  | ⟨1, _⟩ => show win0_3.index t 1 * 512 + 1 * s.val = 512 * (t.val % 11) + s.val; rw [e1]; omega

theorem wd_blk (t : Fin cfg0.N) (s : Fin 512) (l : Fin 2048) :
    iblk m c 4 t (ix2 s l) = Wd m c (unit (t.val % 11) (Nat.mod_lt _ (by decide)) s) l := by
  obtain ⟨-, -, -, -, ⟨e0, e1⟩, -⟩ := idx t
  rw [← down_arr]
  unfold iblk
  rw [View.read_apply]
  show V m c main_v7 _ = _
  congr 1
  funext a
  apply Fin.ext
  match a with
  | ⟨0, _⟩ => show win0_4.index t 0 * 512 + 1 * s.val = 512 * (t.val % 11) + s.val; rw [e0]; omega
  | ⟨1, _⟩ => show win0_4.index t 1 * 2048 + 1 * l.val = l.val; rw [e1]; omega

theorem gf_blk (t : Fin cfg0.N) (k : Fin 2048) : iblk m c 5 t (ix2 0 k) = Gf m c k := by
  obtain ⟨-, -, -, -, -, e0, e1⟩ := idx t
  rw [← fgain_arr]
  unfold iblk
  rw [View.read_apply]
  show V m c main_v8 _ = _
  congr 1
  funext a
  apply Fin.ext
  match a with
  | ⟨0, _⟩ => show win0_5.index t 0 * 1 + 1 * 0 = 0; rw [e0]
  | ⟨1, _⟩ => show win0_5.index t 1 * 2048 + 1 * k.val = k.val; rw [e1]; omega

/-! ## The walk over the points -/

/-- The normalised rows of the point's row block. -/
theorem norm_blk (t : Fin cfg0.N) (r : Fin 512) (k : Fin 2048) :
    (k0_pay1 (F := Ideal) (iblk m c 0 t) (iblk m c 1 t)) (ix2 r k) = N m c (row t r) k := by
  rw [norm_at]
  simp only [x_blk, g_blk]
  rfl

/-- One tile's product added at point `t`. -/
theorem tile_blk (t : Fin cfg0.N) (n : Vec Ideal S512x2048 .bf16) (o : Vec Ideal S512x2048 .f32) (r : Fin 512) (l : Fin 2048) :
    (k0_pay3 (F := Ideal) n (iblk m c 2 t) (iblk m c 3 t) o (iblk m c 4 t)) (ix2 r l)
      = o (ix2 r l) + tile (Wg m c) (Wu m c) (Wd m c) t.val (fun k => n (ix2 r k)) l := by
  rw [tile_at]
  simp only [wg_blk, wu_blk, wd_blk]
  rfl

theorem of_lt {n : ℕ} (h : n < 176) : n < cfg0.N := lt_of_lt_of_eq h (show cfg0.N = 176 from N_0).symm

/-- What the scratch block holds after point `n`, by row and entry. -/
def S (n : ℕ) (h : n < 176) (r : Fin 512) (k : Fin 2048) : EReal := (outsAt0 m c n (of_lt h)).2 (ix2 r k)
/-- What the output block holds after point `n`, by row and entry. -/
def O (n : ℕ) (h : n < 176) (r : Fin 512) (l : Fin 2048) : EReal := (outsAt0 m c n (of_lt h)).1 (ix2 r l)

theorem S_first (n : ℕ) (h : n < 176) (h0 : n % 11 = 0) (r : Fin 512) (k : Fin 2048) : S m c n h r k = N m c (rowOf n h r) k := by
  unfold S
  rw [outsAt0_A m c ⟨n, of_lt h⟩ h0 (by dsimp only; omega)]
  dsimp only
  rw [scratch_first]
  exact norm_blk m c ⟨n, of_lt h⟩ r k

theorem S_keep (n : ℕ) (h : n + 1 < 176) (h0 : (n + 1) % 11 ≠ 0) : S m c (n + 1) h = S m c n (Nat.lt_of_succ_lt h) := by
  funext r k
  unfold S
  by_cases h1 : (n + 1) % 11 = 10
  · rw [outsAt0_C m c ⟨n + 1, of_lt h⟩ h0 h1]; rfl
  · rw [outsAt0_B m c ⟨n + 1, of_lt h⟩ h0 h1]; rfl

/-- The scratch block always holds the normalised rows of the point's row block. -/
theorem S_at : ∀ n h r k, S m c n h r k = N m c (rowOf n h r) k :=
  walk_scratch (by decide) (N m c) (S m c) (S_first m c) (S_keep m c)

theorem O_first (n : ℕ) (h : n < 176) (h0 : n % 11 = 0) (r : Fin 512) (l : Fin 2048) :
    O m c n h r l = 0 + tile (Wg m c) (Wu m c) (Wd m c) n (S m c n h r) l := by
  rw [funext (S_first m c n h h0 r), ← funext (norm_blk m c ⟨n, of_lt h⟩ r)]
  unfold O
  rw [outsAt0_A m c ⟨n, of_lt h⟩ h0 (by dsimp only; omega)]
  dsimp only
  rw [out_first]
  refine (tile_blk m c ⟨n, of_lt h⟩ _ _ r l).trans ?_
  rw [zero_at]

theorem O_step (n : ℕ) (h : n + 1 < 176) (h0 : (n + 1) % 11 ≠ 0) (h1 : (n + 1) % 11 ≠ 10) (r : Fin 512) (l : Fin 2048) :
    O m c (n + 1) h r l
      = O m c n (Nat.lt_of_succ_lt h) r l + tile (Wg m c) (Wu m c) (Wd m c) (n + 1) (S m c n (Nat.lt_of_succ_lt h) r) l := by
  unfold O
  rw [outsAt0_B m c ⟨n + 1, of_lt h⟩ h0 h1]
  dsimp only
  rw [out_middle]
  exact tile_blk m c ⟨n + 1, of_lt h⟩ _ _ r l

/-- The output block holds the contribution of the tiles so far. -/
theorem O_at : ∀ n h, n % 11 ≠ 10 → ∀ r l,
    O m c n h r l = ffnPart (N m c (rowOf n h r)) (Wg m c) (Wu m c) (Wd m c) (512 * (n % 11 + 1)) l :=
  walk_out (by decide) (N m c) (Wg m c) (Wu m c) (Wd m c) (S m c) (O m c) (S_at m c) (O_first m c) (O_step m c)

/-- The residual plus half of the feed-forward block. -/
def H (r : Fin 8192) (l : Fin 2048) : EReal := halfStep (X m c r l) (ffn (N m c r) (Wg m c) (Wu m c) (Wd m c) l)

/-- What the last point of a row block leaves in the output block. -/
theorem out_end (n : ℕ) (h : n + 1 < 176) (h1 : (n + 1) % 11 = 10) (r : Fin 512) (l : Fin 2048) :
    O m c (n + 1) h r l = rms len2048 (H m c (rowOf (n + 1) h r)) (Gf m c) l := by
  unfold O
  rw [outsAt0_C m c ⟨n + 1, of_lt h⟩ (by dsimp only; omega) h1]
  dsimp only
  rw [out_last, last_at]
  simp only [tile_blk, x_blk, gf_blk]
  unfold H
  simp only [← walk_last (by decide) (N m c) (Wg m c) (Wu m c) (Wd m c) (S m c) (O m c) (S_at m c) (O_at m c) n h h1 r]
  rfl

/-- The kernel's result array at an element. -/
theorem result_at (r : Fin 8192) (l : Fin 2048) :
    (Value.G6 m c) (ix2 r l) = rms len2048 (H m c r) (Gf m c) l := by
  have hr : r.val < 8192 := r.isLt
  have hl : l.val < 2048 := l.isLt
  have hp : Value.pt6Of (ix2 r l) = 11 * (r.val / 512) + 9 + 1 := by
    show 11 * (1 * (r.val / 512 - 0) + 1 * (l.val / 2048 - 0)) + 10 = _; omega
  have hlt : Value.pt6Of (ix2 r l) < cfg0.N := by rw [hp]; exact of_lt (by omega)
  unfold Value.G6
  rw [dif_pos hlt, ← Value.outsAt0_sweep m c _ (by omega)]
  have hloc : Value.loc6Of (ix2 r l) = ix2 (⟨r.val % 512, Nat.mod_lt _ (by decide)⟩ : Fin 512) l := by
    funext a; apply Fin.ext
    match a with
    | ⟨0, _⟩ => rfl
    | ⟨1, _⟩ => exact Nat.mod_eq_of_lt hl
  rw [hloc]
  have key : ∀ (p : ℕ) (h : p < cfg0.N), p = 11 * (r.val / 512) + 9 + 1 →
      (outsAt0 m c p h).1 (ix2 (⟨r.val % 512, Nat.mod_lt _ (by decide)⟩ : Fin 512) l) = rms len2048 (H m c r) (Gf m c) l := by
    intro p h e
    subst e
    refine (out_end m c _ (by omega) (by omega) _ l).trans ?_
    congr 2
    exact Fin.ext (by show 512 * ((11 * (r.val / 512) + 9 + 1) / 11) + r.val % 512 = r.val; omega)
  exact key _ _ hp

end Cert.FfnFinalSampleIdeal.Rows

/-! ## The reference -/

namespace Cert.FfnFinalSampleRefIdeal.Rows

open Cert.FfnFinalSampleRefIdeal Cert.FfnFinalSampleRefIdeal.Read Cert.Dense

variable (x0 : (⟨S8192x2048, .f32⟩ : BufTy).Contents (Elt Ideal)) (x1 : (⟨S1x2048, .f32⟩ : BufTy).Contents (Elt Ideal))
  (x2 x3 : (⟨S1x2048x5632, .f32⟩ : BufTy).Contents (Elt Ideal)) (x4 : (⟨S1x5632x2048, .f32⟩ : BufTy).Contents (Elt Ideal))
  (x5 : (⟨S2048, .f32⟩ : BufTy).Contents (Elt Ideal))

/-- The normalised rows. -/
theorem norm_ref (r : Fin 8192) (k : Fin 2048) :
    val_main_v13 (F := Ideal) x0 x1 (ix2 r k) = rms len2048 (fun k => x0 (ix2 r k)) (fun k => x1 (ix2 0 k)) k := by
  pointwise [val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem gate_ref (k : Fin 2048) (f : Fin 5632) : val_main_v14 (F := Ideal) x2 (ix2 k f) = x2 (ix3 0 k f) := by
  rw [val_main_v14_apply]
  congr 1
  funext a; apply Fin.ext
  have hf := f.isLt; have hk := k.isLt
  match a with
  | ⟨0, _⟩ => rfl
  | ⟨1, _⟩ => show (k.val * 5632 + f.val) / 5632 % 2048 = k.val; omega
  | ⟨2, _⟩ => show (k.val * 5632 + f.val) % 5632 = f.val; omega

theorem up_ref (k : Fin 2048) (f : Fin 5632) : val_main_v15 (F := Ideal) x3 (ix2 k f) = x3 (ix3 0 k f) := gate_ref x3 k f

theorem down_ref (f : Fin 5632) (l : Fin 2048) : val_main_v16 (F := Ideal) x4 (ix2 f l) = x4 (ix3 0 f l) := by
  rw [val_main_v16_apply]
  congr 1
  funext a; apply Fin.ext
  have hf := f.isLt; have hl := l.isLt
  match a with
  | ⟨0, _⟩ => rfl
  | ⟨1, _⟩ => show (f.val * 2048 + l.val) / 2048 % 5632 = f.val; omega
  | ⟨2, _⟩ => show (f.val * 2048 + l.val) % 2048 = l.val; omega

/-- The gated activations. -/
theorem act_ref (r : Fin 8192) (f : Fin 5632) :
    val_main_v20 (F := Ideal) x0 x1 x2 x3 (ix2 r f)
      = act (rms len2048 (fun k => x0 (ix2 r k)) (fun k => x1 (ix2 0 k))) (fun k => x2 (ix3 0 k f)) (fun k => x3 (ix3 0 k f)) := by
  have e17 : val_main_v17 (F := Ideal) x0 x1 x2 (ix2 r f)
      = ∑ k, rms len2048 (fun k => x0 (ix2 r k)) (fun k => x1 (ix2 0 k)) k * x2 (ix3 0 k f) := by
    pointwise [val_main_v17]
    exact Finset.sum_congr rfl fun k _ => by rw [norm_ref, gate_ref]
  have e19 : val_main_v19 (F := Ideal) x0 x1 x3 (ix2 r f)
      = ∑ k, rms len2048 (fun k => x0 (ix2 r k)) (fun k => x1 (ix2 0 k)) k * x3 (ix3 0 k f) := by
    pointwise [val_main_v19]
    exact Finset.sum_congr rfl fun k _ => by rw [norm_ref, up_ref]
  pointwise [val_main_v20, val_main_v18, val_main_call0_v5, val_main_call0_v4, val_main_call0_v3, val_main_call0_v2, val_main_call0_v1,
    val_main_call0_v0, val_main_call0_cst, val_main_call0_cst_0]
  rw [e17, e19]
  unfold act Ideal.logistic
  simp only [one_bits]

/-- The residual plus half of the block. -/
theorem half_ref (r : Fin 8192) (l : Fin 2048) :
    val_main_v24 (F := Ideal) x0 x1 x2 x3 x4 (ix2 r l)
      = halfStep (x0 (ix2 r l)) (ffn (rms len2048 (fun k => x0 (ix2 r k)) (fun k => x1 (ix2 0 k)))
          (fun k f => x2 (ix3 0 k f)) (fun k f => x3 (ix3 0 k f)) (fun f l => x4 (ix3 0 f l)) l) := by
  have e21 : val_main_v21 (F := Ideal) x0 x1 x2 x3 x4 (ix2 r l)
      = ffn (rms len2048 (fun k => x0 (ix2 r k)) (fun k => x1 (ix2 0 k)))
          (fun k f => x2 (ix3 0 k f)) (fun k f => x3 (ix3 0 k f)) (fun f l => x4 (ix3 0 f l)) l := by
    pointwise [val_main_v21]
    exact Finset.sum_congr rfl fun f _ => by rw [act_ref, down_ref]
  pointwise [val_main_v24, val_main_v23, val_main_v22, val_main_cst_2]
  rw [e21]
  rfl

/-- The reference's result at an element. -/
theorem result_ref (r : Fin 8192) (l : Fin 2048) :
    val_main_v37 (F := Ideal) x0 x1 x2 x3 x4 x5 (ix2 r l)
      = rms len2048 (fun l => halfStep (x0 (ix2 r l)) (ffn (rms len2048 (fun k => x0 (ix2 r k)) (fun k => x1 (ix2 0 k)))
          (fun k f => x2 (ix3 0 k f)) (fun k f => x3 (ix3 0 k f)) (fun f l => x4 (ix3 0 f l)) l)) (fun k => x5 (ix1 k)) l := by
  pointwise [val_main_v37, val_main_v36, val_main_v35, val_main_v34, val_main_v33, val_main_v32, val_main_v31, val_main_v30, val_main_v29,
    val_main_v28, val_main_v27, val_main_v26, val_main_v25, val_main_cst_3, val_main_cst_4, val_main_cst_5]
  simp only [half_ref]
  rfl

end Cert.FfnFinalSampleRefIdeal.Rows

/-! ## The claim -/

namespace Cert.FfnFinalSampleIdeal.Rows

/-- The kernel's idealization and the reference's leave equal results on equal arguments. -/
theorem algebraic : Cert.algebraic_FfnFinalSampleIdeal_FfnFinalSampleRefIdeal
    (hFfnFinalSampleIdeal := Cert.FfnFinalSampleIdeal.Gen.facts) (hFfnFinalSampleRefIdeal := Cert.FfnFinalSampleRefIdeal.Gen.facts) := by
  pair_intro
  · run_from (Cert.FfnFinalSampleIdeal.Value.run (F := Ideal) m g)
  · run_from (Cert.FfnFinalSampleRefIdeal.Value.run (F := Ideal) m' g')
    rw [Cert.FfnFinalSampleRefIdeal.Read.val_main_v37_eq]
    simp only [hagree c]
    refine funext fun i => ?_
    obtain ⟨r, l, rfl⟩ : ∃ (r : Fin 8192) (l : Fin 2048), i = ix2 r l :=
      ⟨i 0, i 1, funext fun a => by match a with | ⟨0, _⟩ => rfl | ⟨1, _⟩ => rfl⟩
    exact (Cert.FfnFinalSampleRefIdeal.Rows.result_ref _ _ _ _ _ _ r l).trans (result_at m c r l).symm

end Cert.FfnFinalSampleIdeal.Rows

end
-- ==== Proof.MixerPieces.lean ====
module

public import proofs.«01_k».proof.Proof.Gen.MixerIdeal.Value
public import Idealize.ShloMosaic.Lib.Pointwise

@[expose] public section

/-!
# The tile of the mixer

What one instance of the mixer leaves in its output tile, written with one formula for every block: the gate of a chunk and a
group, the attention of a block and a head. The kernel's scratch buffers (the keys and the values of the tile with its
neighbours, the branch, the merged branches) are replaced by the arrays they hold.
-/

set_option maxRecDepth 65536

noncomputable section

open Idealize.ShloMosaic Idealize.ShloMosaic.TcCoe Idealize.SL.Sem

namespace Cert.MixerIdeal.Pieces

open Cert.MixerIdeal Cert.MixerIdeal.Gen

variable {F : FTy → Type} [FloatOps F] [Named F]

theorem hz : (![0, 0] : Fin 2 → Nat) = fun _ => 0 := funext fun a => by fin_cases a <;> rfl

/-- Reading all of an array is the array. -/
theorem whole_ld {Val : EltTy → Type} {e : EltTy} (a b : Nat) (inb) (X : (⟨2, ![a, b]⟩ : Shape).Idx → Val e) :
    View.ld X (Rect.unit (s := ⟨2, ![a, b]⟩) ![0, 0] ![a, b] inb) = X :=
  View.ld_unit_zero (S := ⟨2, ![a, b]⟩) hz inb X

/-- A load of what writes left, as a load of the array they left. -/
theorem readCov_eq_ld {Val : EltTy → Type} [∀ e, Nonempty (Val e)] {sig : RefSig} {κ : Kind} {sp : Space} {s : Shape} {e : EltTy}
    (v : View sig κ sp s e) (L : List (View.Piece Val s e)) (B : Rect s) :
    v.readCov L B.toLoadRect = View.ld (View.canon L) B := View.readCov_eq_canon' v L B.toLoadRect

theorem inbSq (a b : Nat) (ha : a < 4) (hb : b < 8) :
    ∀ k, (![128 * a, 128 * b] : Fin 2 → Nat) k + S128x128.size k ≤ S512x1024.size k :=
  Rect.inb₂ (by show 128 * a + 128 ≤ 512; omega) (by show 128 * b + 128 ≤ 1024; omega)

theorem inbWin (a b : Nat) (ha : a < 4) (hb : b < 2) :
    ∀ k, (![128 * a, 128 * b] : Fin 2 → Nat) k + S384x128.size k ≤ S768x256.size k :=
  Rect.inb₂ (by show 128 * a + 384 ≤ 768; omega) (by show 128 * b + 128 ≤ 256; omega)

theorem inbPl (g : Nat) (hg : g < 8) :
    ∀ k, (![g, 0, 0] : Fin 3 → Nat) k + S1x128x128.size k ≤ S8x128x128.size k := fun k =>
  match k with
  | ⟨0, _⟩ => show g + 1 ≤ 8 by omega
  | ⟨1, _⟩ => show 0 + 128 ≤ 128 by omega
  | ⟨2, _⟩ => show 0 + 128 ≤ 128 by omega

theorem inbOne (n : Nat) (hn : n < 8) : ∀ k, (![n] : Fin 1 → Nat) k + S1.size k ≤ S8.size k := fun k =>
  match k with
  | ⟨0, _⟩ => show n + 1 ≤ 8 by omega

/-- The place of block `(a, b)`, of 128 rows and 128 columns, in a tile. -/
abbrev place (a b : Nat) (ha : a < 4) (hb : b < 8) : Rect S512x1024 :=
  Rect.unit ![128 * a, 128 * b] S128x128.size (inbSq a b ha hb)

/-- Block `(a, b)` of a tile. -/
abbrev sq (x : Vec F S512x1024 .bf16) (a b : Nat) (ha : a < 4) (hb : b < 8) : Vec F S128x128 .bf16 :=
  View.ld x (place a b ha hb)

/-- Matrix `g` of the eight. -/
abbrev pl {e : EltTy} (x : Vec F S8x128x128 e) (g : Nat) (hg : g < 8) : Vec F S1x128x128 e :=
  View.ld x (Rect.unit ![g, 0, 0] S1x128x128.size (inbPl g hg))

/-- Number `n` of the eight. -/
abbrev sink (x : Vec F S8 .f32) (n : Nat) (hn : n < 8) : Elt F .f32 :=
  View.ld x (Rect.unit ![n] S1.size (inbOne n hn)) (Shape.Idx.first (by show 0 < S1.numel; decide))

/-- The gate of chunk `a`, group `b`. -/
def gateV (u vn : Vec F S512x1024 .bf16) (ws : Vec F S8x128x128 .bf16) (bs : Vec F S8x128x128 .f32)
    (a b : Nat) (ha : a < 4) (hb : b < 8) : Vec F S128x128 .f32 :=
  shapeCast S128x128 (mulf (extf .f32 (sq u a b ha hb) bitsLt_bf16_f32)
    (addf (extractStridedSlice S128x128 ![0, 128 * a]
        (k0_pay3 (sq vn 0 b (by omega) hb) (sq vn 1 b (by omega) hb) (sq vn 2 b (by omega) hb) (sq vn 3 b (by omega) hb) (pl ws b hb))
        ⟨rfl, Rect.inb₂ (by show 0 + 128 ≤ 128; omega) (by show 128 * a + 128 ≤ 512; omega)⟩)
      (shapeCast S128x128 (pl bs b hb) shapeCasts_S1x128x128_S128x128)))
    shapeCasts_S128x128_S128x128

theorem pay57 (x : Vec F S128x256 .bf16) : k0_pay57 x = x := shapeCast_self _ _
theorem pay58 (x : Vec F S512x256 .bf16) : k0_pay58 x = x := shapeCast_self _ _
theorem pay59 (x : Vec F S128x256 .bf16) : k0_pay59 x = x := shapeCast_self _ _
theorem pay60 (x : Vec F S128x256 .bf16) : k0_pay60 x = x := shapeCast_self _ _
theorem pay61 (x : Vec F S512x256 .bf16) : k0_pay61 x = x := shapeCast_self _ _
theorem pay62 (x : Vec F S128x256 .bf16) : k0_pay62 x = x := shapeCast_self _ _

/-- A tile's keys (or values) between its two neighbouring blocks. -/
def around (next : Vec F S128x256 .bf16) (own : Vec F S512x256 .bf16) (prev : Vec F S128x256 .bf16) :
    Vec F S768x256 .bf16 :=
  View.canon [⟨Rect.unit ![640, 0] S128x256.size inb_S768x256_S128x256_640_0, next⟩,
    ⟨Rect.unit ![128, 0] S512x256.size inb_S768x256_S512x256_128_0, own⟩,
    ⟨Rect.unit ![0, 0] S128x256.size inb_S768x256_S128x256_0_0, prev⟩]

/-- The three blocks of 128 keys that the queries of block `a` see, for one group of heads. -/
def window (x : Vec F S768x256 .bf16) (a b : Nat) (ha : a < 4) (hb : b < 2) : Vec F S384x128 .bf16 :=
  View.ld x (Rect.unit ![128 * a, 128 * b] S384x128.size (inbWin a b ha hb))

/-- The number of the tile in its sequence. -/
def tileNo (i : grid0.Coords) : BitVec 32 :=
  Scalar.select
    (Scalar.andi
      (Scalar.xori (Scalar.cmpi .slt (Scalar.remsi (BitVec.ofNat 32 (i 0).val) 32#32) 0#32) 0#1)
      (Scalar.cmpi .ne (Scalar.remsi (BitVec.ofNat 32 (i 0).val) 32#32) 0#32))
    (Scalar.addi (Scalar.remsi (BitVec.ofNat 32 (i 0).val) 32#32) 32#32)
    (Scalar.remsi (BitVec.ofNat 32 (i 0).val) 32#32)

/-- From where on the keys of the block before count: from nowhere at the start of the sequence. -/
def lo (i : grid0.Coords) (a : Nat) : BitVec 32 :=
  match a with
  | 0 => Scalar.select (Scalar.cmpi .eq (tileNo i) 0#32) 256#32 0#32
  | _ + 1 => 0#32

/-- Up to where the keys of the block after count: up to nowhere at the end of the sequence. -/
def hi (i : grid0.Coords) (a : Nat) : BitVec 32 :=
  match a with
  | 3 => Scalar.select (Scalar.cmpi .eq (tileNo i) 31#32) 4294967040#32 0#32
  | _ => 0#32

/-- The attention of the four heads of one group, their 128 queries one after another. -/
def attU (pthr nthr : BitVec 32) (q0 q1 q2 q3 : Vec F S128x128 .bf16) (kw vw : Vec F S384x128 .bf16)
    (s0 s1 s2 s3 : Elt F .f32) : FVec F S512x128 .f32 :=
  k0_pay71 vw (k0_pay77 pthr k0_pay63 q0 q1 q2 q3 kw) (k0_pay78 q0 q1 q2 q3 kw) (k0_pay146 nthr k0_pay63 q0 q1 q2 q3 kw)
    (k0_pay68 s0) (k0_pay68 s1) (k0_pay68 s2) s3

/-- The attention of block `a`, head `4 * h + g`. -/
def attV (i : grid0.Coords) (sk : Vec F S8 .f32) (q : Vec F S512x1024 .bf16) (ka va : Vec F S768x256 .bf16)
    (a h g : Nat) (ha : a < 4) (hh : h < 2) (hg : g < 4) : Vec F S128x128 .f32 :=
  shapeCast S128x128 (extractStridedSlice S128x128 ![128 * g, 0]
      (attU (lo i a) (hi i a) (sq q a (4 * h) ha (by omega)) (sq q a (4 * h + 1) ha (by omega))
        (sq q a (4 * h + 2) ha (by omega)) (sq q a (4 * h + 3) ha (by omega)) (window ka a h ha hh) (window va a h ha hh)
        (sink sk (4 * h) (by omega)) (sink sk (4 * h + 1) (by omega)) (sink sk (4 * h + 2) (by omega))
        (sink sk (4 * h + 3) (by omega)))
      ⟨rfl, Rect.inb₂ (by show 128 * g + 128 ≤ 512; omega) (by show 0 + 128 ≤ 128; omega)⟩)
    shapeCasts_S128x128_S128x128

/-- The 32 blocks of a tile, the last one first. -/
def order : List (Fin 32) :=
  [31, 30, 29, 28, 27, 26, 25, 24, 23, 22, 21, 20, 19, 18, 17, 16, 15, 14, 13, 12, 11, 10, 9, 8, 7, 6, 5, 4, 3, 2, 1, 0]

/-- The gates as they are written: the chunks of a group one after another. -/
def gateL (u vn : Vec F S512x1024 .bf16) (ws : Vec F S8x128x128 .bf16) (bs : Vec F S8x128x128 .f32) :
    List (View.Piece (Elt F) S512x1024 .f32) :=
  order.map fun n => ⟨place (n.val % 4) (n.val / 4) (by omega) (by omega), gateV u vn ws bs (n.val % 4) (n.val / 4) (by omega) (by omega)⟩

/-- The attentions as they are written: the heads of a block one after another. -/
def attL (i : grid0.Coords) (sk : Vec F S8 .f32) (q : Vec F S512x1024 .bf16) (ka va : Vec F S768x256 .bf16) :
    List (View.Piece (Elt F) S512x1024 .f32) :=
  order.map fun n => ⟨place (n.val / 8) (n.val % 8) (by omega) (by omega),
    attV i sk q ka va (n.val / 8) (n.val % 8 / 4) (n.val % 8 % 4) (by omega) (by omega) (by omega)⟩

/-- The merged branches: the gating in columns 0 to 1023, the attention in columns 1024 to 2047, each normalized. -/
def mergedV (gate att : Vec F S512x1024 .f32) (ga gb : Vec F S1x1024 .f32) : Vec F S512x2048 .bf16 :=
  View.canon [⟨Rect.unit ![0, 1024] S512x1024.size inb_S512x2048_S512x1024_0_1024, k0_pay1 (k0_pay158 gb) (k0_pay159 att)⟩,
    ⟨Rect.unit ![0, 0] S512x1024.size inb_S512x2048_S512x1024_0_0, k0_pay56 gate ga⟩]

variable (c : Dev nD) (i : grid0.Coords) (arg1 : Memref sig .tc .smem S8 .f32) (harg1 : arg1.IsWhole) (arg2 : Memref sig .tc .vmem S512x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S128x256 .bf16) (harg8 : arg8.IsWhole) (arg9 : Memref sig .tc .vmem S128x256 .bf16) (harg9 : arg9.IsWhole) (arg10 : Memref sig .tc .vmem S128x256 .bf16) (harg10 : arg10.IsWhole) (arg11 : Memref sig .tc .vmem S128x256 .bf16) (harg11 : arg11.IsWhole) (arg12 : Memref sig .tc .vmem S8x128x128 .bf16) (harg12 : arg12.IsWhole) (arg13 : Memref sig .tc .vmem S8x128x128 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S2048x2048 .bf16) (harg16 : arg16.IsWhole) (arg17 : Memref sig .tc .vmem S512x2048 .f32) (harg17 : arg17.IsWhole) (arg18 : Memref sig .tc .vmem S512x1024 .f32) (harg18 : arg18.IsWhole) (arg19 : Memref sig .tc .vmem S512x2048 .bf16) (harg19 : arg19.IsWhole) (arg20 : Memref sig .tc .vmem S768x256 .bf16) (harg20 : arg20.IsWhole) (arg21 : Memref sig .tc .vmem S768x256 .bf16) (harg21 : arg21.IsWhole)
    (x0 : Vec F S8 .f32) (x1 : Vec F S512x2048 .f32) (x2 : Vec F S512x1024 .bf16) (x3 : Vec F S512x1024 .bf16) (x4 : Vec F S512x1024 .bf16) (x5 : Vec F S512x256 .bf16) (x6 : Vec F S512x256 .bf16) (x7 : Vec F S128x256 .bf16) (x8 : Vec F S128x256 .bf16) (x9 : Vec F S128x256 .bf16) (x10 : Vec F S128x256 .bf16) (x11 : Vec F S8x128x128 .bf16) (x12 : Vec F S8x128x128 .f32) (x13 : Vec F S1x1024 .f32) (x14 : Vec F S1x1024 .f32) (x15 : Vec F S2048x2048 .bf16)

/-- The output tile of one instance, by its input tiles. -/
def outV : Vec F S512x2048 .f32 :=
  k0_pay2 x1
    (mergedV (View.canon (gateL x2 x3 x11 x12))
      (View.canon (attL i x0 x4 (around x9 x5 x7) (around x10 x6 x8) ++ gateL x2 x3 x11 x12)) x13 x14) x15

set_option maxHeartbeats 4000000 in
theorem out_eq : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 = outV i x0 x1 x2 x3 x4 x5 x6 x7 x8 x9 x10 x11 x12 x13 x14 x15 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15)]
  unfold kernelRun0_A
  dsimp only
  sl_unfold_words
  rw [View.canon_unit_zero hz]
  simp only [readCov_eq_ld, View.readAt_eq_ld, Memref.IsWhole.read_unread]
  simp only [whole_ld, pay57, pay58, pay59, pay60, pay61, pay62]
  simp only [outV, mergedV, gateL, attL, order, List.map_cons, List.map_nil, List.cons_append, List.nil_append]
  refine congrArg (fun z => k0_pay2 x1 z x15) (congrArg View.canon ?_)
  refine List.cons_eq_cons.mpr ⟨Sigma.ext rfl (heq_of_eq ?_), ?_⟩
  · refine congrArg (fun z => k0_pay1 (k0_pay158 x14) (k0_pay159 (View.canon z))) ?_
    iterate 32
      refine List.cons_eq_cons.mpr ⟨Sigma.ext rfl (heq_of_eq ?_), ?_⟩
      · dsimp only [attV, window, around]
        rfl
    iterate 32
      refine List.cons_eq_cons.mpr ⟨Sigma.ext rfl (heq_of_eq ?_), ?_⟩
      · rfl
    rfl
  refine List.cons_eq_cons.mpr ⟨Sigma.ext rfl (heq_of_eq ?_), rfl⟩
  refine congrArg (fun z => k0_pay56 (View.canon z) x13) ?_
  iterate 32
    refine List.cons_eq_cons.mpr ⟨Sigma.ext rfl (heq_of_eq ?_), ?_⟩
    · rfl
  rfl

end Cert.MixerIdeal.Pieces
end
-- ==== Proof.Softmax.lean ====
/-
  A softmax of 384 scores and one sink, over the extended reals and free of any program: the sum of the values under the
  weights may be divided by the denominator at the end or weight by weight, a masked score (of minus infinity) takes no
  part whatever its value is, and the 384 scores may be visited in three blocks of 128.
-/
module

public import Idealize.ShloMosaic.Lib.Pointwise

@[expose] public section

noncomputable section

open Idealize.ShloMosaic

namespace Cert.Softmax

variable (x : Fin 384 → EReal) (s : EReal) (v : Fin 384 → EReal)

/-- The greatest of the scores and the sink. -/
def top : EReal := max (Finset.univ.fold max ⊥ x) s

/-- The weight of a score before it is normalized. -/
def weight (j : Fin 384) : EReal := Ideal.exp (x j - top x s)

/-- The denominator: all weights and the sink's. -/
def total : EReal := ∑ j, weight x s j + Ideal.exp (s - top x s)

/-- The values under the normalized weights. -/
def out : EReal := ∑ j, Ideal.div (weight x s j) (total x s) * v j

/-- A score is masked or finite. -/
def Proper : Prop := ∀ j, x j = ⊥ ∨ ∃ r : ℝ, x j = r

section blocks

/-- Entry `l` of block `b` of three. -/
abbrev at3 (b : ℕ) (hb : b < 3) (l : Fin 128) : Fin 384 := ⟨128 * b + l.val, by have := l.isLt; omega⟩

theorem forall_blocks (P : Fin 384 → Prop) :
    (∀ j, P j) ↔ ∀ l : Fin 128, (P (at3 0 (by omega) l) ∧ P (at3 1 (by omega) l)) ∧ P (at3 2 (by omega) l) := by
  constructor
  · intro h l; exact ⟨⟨h _, h _⟩, h _⟩
  · intro h j
    have hj := j.isLt
    by_cases h0 : j.val < 128
    · have := (h ⟨j.val, h0⟩).1.1
      rwa [show at3 0 (by omega) ⟨j.val, h0⟩ = j from Fin.ext (by simp [at3])] at this
    by_cases h1 : j.val < 256
    · have := (h ⟨j.val - 128, by omega⟩).1.2
      rwa [show at3 1 (by omega) ⟨j.val - 128, by omega⟩ = j from Fin.ext (by simp [at3]; omega)] at this
    · have := (h ⟨j.val - 256, by omega⟩).2
      rwa [show at3 2 (by omega) ⟨j.val - 256, by omega⟩ = j from Fin.ext (by simp [at3]; omega)] at this

/-- The greatest score, taken lane by lane over the three blocks. -/
theorem top_blocks :
    max (Finset.univ.fold max ⊥ fun l : Fin 128 => max (max (x (at3 0 (by omega) l)) (x (at3 1 (by omega) l))) (x (at3 2 (by omega) l))) s
      = top x s := by
  refine eq_of_forall_ge_iff fun c => ?_
  simp only [top, max_le_iff, Finset.fold_max_le, Finset.mem_univ, true_imp_iff]
  rw [forall_blocks fun j => x j ≤ c]

/-- A sum of 384, taken lane by lane over the three blocks. -/
theorem sum_blocks (f : Fin 384 → EReal) :
    ∑ l : Fin 128, (f (at3 0 (by omega) l) + f (at3 1 (by omega) l) + f (at3 2 (by omega) l)) = ∑ j, f j := by
  rw [Finset.sum_add_distrib, Finset.sum_add_distrib]
  rw [show (∑ j : Fin 384, f j) = ∑ j : Fin (128 + 128 + 128), f j from rfl, Fin.sum_univ_add, Fin.sum_univ_add]
  refine congrArg₂ (· + ·) (congrArg₂ (· + ·) (Finset.sum_congr rfl fun l _ => ?_) (Finset.sum_congr rfl fun l _ => ?_))
    (Finset.sum_congr rfl fun l _ => ?_) <;> exact congrArg f (Fin.ext (by simp [at3, Fin.castAdd, Fin.natAdd]))

end blocks

section proper
variable {x s} (hx : Proper x) (hs : ∃ r : ℝ, s = r)
include hx hs

theorem top_real : ∃ m : ℝ, top x s = m := by
  obtain ⟨r, rfl⟩ := hs
  have h1 : top x r ≠ ⊥ := fun h => by
    have : (r : EReal) ≤ top x r := le_max_right _ _
    rw [h] at this
    exact EReal.coe_ne_bot r (le_bot_iff.mp this)
  have h2 : top x r < ⊤ := by
    refine max_lt ?_ (EReal.coe_lt_top r)
    rw [Finset.fold_max_lt]
    refine ⟨bot_lt_top, fun j _ => ?_⟩
    rcases hx j with h | ⟨q, h⟩ <;> rw [h]
    · exact bot_lt_top
    · exact EReal.coe_lt_top q
  exact ⟨(top x r).toReal, (EReal.coe_toReal h2.ne h1).symm⟩

theorem weight_real (j : Fin 384) : ∃ w : ℝ, 0 ≤ w ∧ weight x s j = w := by
  obtain ⟨m, hm⟩ := top_real hx hs
  unfold weight
  rw [hm]
  rcases hx j with h | ⟨q, h⟩ <;> rw [h]
  · exact ⟨0, le_rfl, by rw [EReal.bot_sub]; rfl⟩
  · exact ⟨Real.exp (q - m), (Real.exp_pos _).le, by rw [← EReal.coe_sub]; rfl⟩

theorem weight_masked (j : Fin 384) (h : x j = ⊥) : weight x s j = 0 := by
  obtain ⟨m, hm⟩ := top_real hx hs
  unfold weight
  rw [hm, h, EReal.bot_sub]; rfl

theorem total_real : ∃ d : ℝ, 0 < d ∧ total x s = d := by
  obtain ⟨m, hm⟩ := top_real hx hs
  choose w hw hwe using weight_real hx hs
  obtain ⟨r, hr⟩ := hs
  refine ⟨∑ j, w j + Real.exp (r - m), add_pos_of_nonneg_of_pos (Finset.sum_nonneg fun j _ => hw j) (Real.exp_pos _), ?_⟩
  have hsum : ∀ t : Finset (Fin 384), ((∑ j ∈ t, w j : ℝ) : EReal) = ∑ j ∈ t, (w j : EReal) := by
    intro t
    induction t using Finset.induction_on with
    | empty => rfl
    | insert a t ha ih => rw [Finset.sum_insert ha, Finset.sum_insert ha, EReal.coe_add, ih]
  unfold total
  rw [hm, Finset.sum_congr rfl fun j _ => hwe j, hr, ← EReal.coe_sub, EReal.coe_add, hsum]
  rfl

/-- A quotient by the denominator. -/
theorem div_total : ∃ c : ℝ, 0 ≤ c ∧ ∀ a, Ideal.div a (total x s) = a * c := by
  obtain ⟨d, hd, he⟩ := total_real hx hs
  refine ⟨d⁻¹, (inv_pos.mpr hd).le, fun a => ?_⟩
  rw [he, Ideal.div, if_neg (by exact_mod_cast hd.ne'), ← EReal.coe_inv]

/-- Dividing the weighted sum is dividing every weight. -/
theorem out_of_div : Ideal.div (∑ j, weight x s j * v j) (total x s) = out x s v := by
  obtain ⟨c, hc, h⟩ := div_total hx hs
  unfold out
  simp only [h]
  have hsum : ∀ t : Finset (Fin 384), (∑ j ∈ t, weight x s j * v j) * (c : EReal) = ∑ j ∈ t, weight x s j * c * v j := by
    intro t
    induction t using Finset.induction_on with
    | empty => simp
    | insert a t ha ih =>
      rw [Finset.sum_insert ha, Finset.sum_insert ha, EReal.right_distrib_of_nonneg_of_ne_top (by exact_mod_cast hc) (EReal.coe_ne_top c), ih,
        mul_right_comm]
  exact hsum Finset.univ

/-- The values of masked scores do not matter. -/
theorem out_congr (v' : Fin 384 → EReal) (h : ∀ j, x j ≠ ⊥ → v j = v' j) : out x s v = out x s v' := by
  obtain ⟨c, _, hd⟩ := div_total hx hs
  unfold out
  refine Finset.sum_congr rfl fun j _ => ?_
  by_cases hj : x j = ⊥
  · rw [weight_masked hx hs j hj, hd]; simp
  · rw [h j hj]

end proper

end Cert.Softmax

end
-- ==== Proof.Word.lean ====
/-
  Arithmetic of 32-bit words that hold small integers: differences, absolute values and signed comparisons are the integers.
-/
module

public import Idealize.ShloMosaic.Lib.Pointwise

@[expose] public section
open Idealize.ShloMosaic
namespace Cert.Word

theorem toInt_ofInt {a : ℤ} (h1 : -2147483648 ≤ a) (h2 : a < 2147483648) : (BitVec.ofInt 32 a).toInt = a := by
  rw [BitVec.toInt_ofInt]
  exact Int.bmod_eq_of_le (by norm_num; omega) (by norm_num; omega)

theorem ofNat_eq (n : ℕ) : BitVec.ofNat 32 n = BitVec.ofInt 32 n := (BitVec.ofInt_natCast 32 n).symm

theorem sub_eq (a b : ℤ) : BitVec.ofInt 32 a - BitVec.ofInt 32 b = BitVec.ofInt 32 (a - b) := by
  rw [sub_eq_add_neg a, BitVec.ofInt_add, BitVec.ofInt_neg, BitVec.sub_eq_add_neg]

theorem sle_iff {a b : ℤ} (h1 : -2147483648 ≤ a) (h2 : a < 2147483648) (h3 : -2147483648 ≤ b) (h4 : b < 2147483648) :
    IntOp.cmpi .sle (BitVec.ofInt 32 a) (BitVec.ofInt 32 b) = 1#1 ↔ a ≤ b := by
  show BitVec.ofBool ((BitVec.ofInt 32 a).sle (BitVec.ofInt 32 b)) = 1#1 ↔ _
  rw [show (BitVec.ofInt 32 a).sle (BitVec.ofInt 32 b) = decide (a ≤ b) from by
    rw [BitVec.sle, toInt_ofInt h1 h2, toInt_ofInt h3 h4]]
  by_cases h : a ≤ b <;> simp [h]

theorem slt_iff {a b : ℤ} (h1 : -2147483648 ≤ a) (h2 : a < 2147483648) (h3 : -2147483648 ≤ b) (h4 : b < 2147483648) :
    IntOp.cmpi .slt (BitVec.ofInt 32 a) (BitVec.ofInt 32 b) = 1#1 ↔ a < b := by
  show BitVec.ofBool ((BitVec.ofInt 32 a).slt (BitVec.ofInt 32 b)) = 1#1 ↔ _
  rw [show (BitVec.ofInt 32 a).slt (BitVec.ofInt 32 b) = decide (a < b) from by
    rw [BitVec.slt, toInt_ofInt h1 h2, toInt_ofInt h3 h4]]
  by_cases h : a < b <;> simp [h]

theorem abs_eq {a : ℤ} (h1 : -2147483648 < a) (h2 : a < 2147483648) :
    IntOp.absi (BitVec.ofInt 32 a) = BitVec.ofInt 32 |a| := by
  unfold IntOp.absi
  rw [BitVec.msb_eq_toInt, toInt_ofInt h1.le h2]
  by_cases h : a < 0
  · rw [decide_eq_true h, if_pos rfl, abs_of_neg h, BitVec.ofInt_neg]
  · rw [decide_eq_false h, if_neg (by decide), abs_of_nonneg (by omega)]

theorem and_iff (x y : BitVec 1) : IntOp.andi x y = 1#1 ↔ x = 1#1 ∧ y = 1#1 := by revert x y; decide

theorem and_127 : ∀ R : Fin 512, IntOp.andi (BitVec.ofNat 32 R.val) 127#32 = BitVec.ofNat 32 (R.val % 128) := by decide +kernel

/-- A choice by a comparison is the choice by the integers' comparison. -/
theorem select_le {α : Type} {a b : ℤ} (h1 : -2147483648 ≤ a) (h2 : a < 2147483648) (h3 : -2147483648 ≤ b) (h4 : b < 2147483648) (x y : α)
    {P : Prop} [Decidable P] (hP : P ↔ a ≤ b) :
    Scalar.select (IntOp.cmpi .sle (BitVec.ofInt 32 a) (BitVec.ofInt 32 b)) x y = if P then x else y := by
  show (if IntOp.cmpi .sle (BitVec.ofInt 32 a) (BitVec.ofInt 32 b) = 1#1 then x else y) = _
  by_cases h : P
  · rw [if_pos h, if_pos ((sle_iff h1 h2 h3 h4).mpr (hP.mp h))]
  · rw [if_neg h, if_neg fun e => h (hP.mpr ((sle_iff h1 h2 h3 h4).mp e))]

end Cert.Word
-- ==== Proof.MixerTile.lean ====
/-
  The mixer kernel (`Mixer`) inside one tile of 512 rows, over the extended reals: what its two branches, the norms and the
  output projection hold at an element, in terms of the tile's inputs.
-/
module

public import proofs.«01_k».proof.Proof.MixerPieces
public import proofs.«01_k».proof.Proof.Dense
public import proofs.«01_k».proof.Proof.Softmax
public import proofs.«01_k».proof.Proof.Word
public import Idealize.ShloMosaic.Lib.Pointwise
public import Idealize.ShloMosaic.Lib.Pipeline.CanonAppend
public import Idealize.ShloMosaic.Lib.Pipeline.ValueKit.Tiles

@[expose] public section

set_option maxRecDepth 65536

noncomputable section

open Idealize.ShloMosaic Idealize.ShloMosaic.TcCoe Idealize.SL.Sem

namespace Cert.MixerIdeal.Pieces

open Cert.MixerIdeal Cert.MixerIdeal.Gen

/-! ## The 32 blocks of a branch -/

/-- Row `p` of block `a` of the four. -/
abbrev row4 (a : Nat) (ha : a < 4) (p : Fin 128) : Fin 512 := ⟨128 * a + p.val, by have := p.isLt; omega⟩

/-- Column `d` of block `b` of the eight. -/
abbrev col8 (b : Nat) (hb : b < 8) (d : Fin 128) : Fin 1024 := ⟨128 * b + d.val, by have := d.isLt; omega⟩

theorem block_congr {α : Type} (P : ∀ a b : Nat, a < 4 → b < 8 → S128x128.Idx → α) {a a' b b' : Nat} (ha : a < 4) (hb : b < 8) (ha' : a' < 4) (hb' : b' < 8)
    (h : a = a') (h' : b = b') {x x' : S128x128.Idx} (hx : x = x') : P a b ha hb x = P a' b' ha' hb' x' := by
  subst h; subst h'; subst hx; rfl

theorem mem_order : ∀ n, n ∈ order := by decide

/-- Where the 32 blocks of a branch are written one by one, each place holds what its block's write put there. -/
theorem grid_at (P : ∀ a b : Nat, a < 4 → b < 8 → Vec Ideal S128x128 .f32) (r c : Fin 32 → Nat) (hr : ∀ n, r n < 4) (hc : ∀ n, c n < 8)
    (hs : ∀ a b, a < 4 → b < 8 → ∃ n, r n = a ∧ c n = b) (L' : List (View.Piece (Elt Ideal) S512x1024 .f32))
    (a b : Nat) (ha : a < 4) (hb : b < 8) (p d : Fin 128) :
    View.canon ((order.map fun n => (⟨place (r n) (c n) (hr n) (hc n), P (r n) (c n) (hr n) (hc n)⟩ : View.Piece (Elt Ideal) S512x1024 .f32)) ++ L')
      (ix2 (row4 a ha p) (col8 b hb d)) = P a b ha hb (ix2 p d) := by
  have hy0 : ∀ y : S512x1024.Idx, (y 0).val < 512 := fun y => (y 0).isLt
  have hy1 : ∀ y : S512x1024.Idx, (y 1).val < 1024 := fun y => (y 1).isLt
  rw [View.canon_append_of_pieces (fun y => P ((y 0).val / 128) ((y 1).val / 128) (by have := hy0 y; omega) (by have := hy1 y; omega)
    (ix2 ⟨(y 0).val % 128, by omega⟩ ⟨(y 1).val % 128, by omega⟩))]
  · refine block_congr P _ _ _ _ ?_ ?_ ?_
    · show (128 * a + p.val) / 128 = a; omega
    · show (128 * b + d.val) / 128 = b; omega
    · refine congrArg₂ ix2 (Fin.ext ?_) (Fin.ext ?_)
      · show (128 * a + p.val) % 128 = p.val; omega
      · show (128 * b + d.val) % 128 = d.val; omega
  · intro q hq x
    obtain ⟨n, -, rfl⟩ := List.mem_map.mp hq
    have h0 : (((place (r n) (c n) (hr n) (hc n)).emb x) 0).val = 128 * r n + (x 0).val := by
      rw [Rect.emb_apply]; show 128 * r n + 1 * (x 0).val = _; omega
    have h1 : (((place (r n) (c n) (hr n) (hc n)).emb x) 1).val = 128 * c n + (x 1).val := by
      rw [Rect.emb_apply]; show 128 * c n + 1 * (x 1).val = _; omega
    have hx0 : (x 0).val < 128 := (x 0).isLt
    have hx1 : (x 1).val < 128 := (x 1).isLt
    refine block_congr P _ _ _ _ ?_ ?_ ?_
    · rw [h0]; omega
    · rw [h1]; omega
    · refine funext fun k => Fin.ext ?_
      match k with
      | ⟨0, _⟩ => show (x 0).val = _ % 128; rw [h0]; omega
      | ⟨1, _⟩ => show (x 1).val = _ % 128; rw [h1]; omega
  · obtain ⟨n, hn, hn'⟩ := hs a b ha hb
    refine ⟨_, List.mem_map.mpr ⟨n, mem_order n, rfl⟩, ?_⟩
    · refine (Rect.mem_set_unit (inb := Pieces.inbSq _ _ (hr n) (hc n))).mpr fun k => ?_
      match k with
      | ⟨0, _⟩ => exact ⟨show 128 * r n ≤ 128 * a + p.val by omega, show 128 * a + p.val < 128 * r n + 128 by omega⟩
      | ⟨1, _⟩ => exact ⟨show 128 * c n ≤ 128 * b + d.val by omega, show 128 * b + d.val < 128 * c n + 128 by omega⟩

theorem gateL_at (u vn : Vec Ideal S512x1024 .bf16) (ws : Vec Ideal S8x128x128 .bf16) (bs : Vec Ideal S8x128x128 .f32)
    (a b : Nat) (ha : a < 4) (hb : b < 8) (p d : Fin 128) :
    View.canon (gateL u vn ws bs) (ix2 (row4 a ha p) (col8 b hb d)) = gateV u vn ws bs a b ha hb (ix2 p d) := by
  have := grid_at (gateV u vn ws bs) (fun n => n.val % 4) (fun n => n.val / 4) (fun n => by omega) (fun n => by omega)
    (fun a b ha hb => ⟨⟨4 * b + a, by omega⟩, by show (4 * b + a) % 4 = a; omega, by show (4 * b + a) / 4 = b; omega⟩) [] a b ha hb p d
  rwa [List.append_nil] at this

theorem attL_at (i : grid0.Coords) (sk : Vec Ideal S8 .f32) (q : Vec Ideal S512x1024 .bf16) (ka va : Vec Ideal S768x256 .bf16)
    (L' : List (View.Piece (Elt Ideal) S512x1024 .f32))
    (a b : Nat) (ha : a < 4) (hb : b < 8) (p d : Fin 128) :
    View.canon (attL i sk q ka va ++ L') (ix2 (row4 a ha p) (col8 b hb d))
      = attV i sk q ka va a (b / 4) (b % 4) ha (by omega) (by omega) (ix2 p d) :=
  grid_at (fun a b ha hb => attV i sk q ka va a (b / 4) (b % 4) ha (by omega) (by omega)) (fun n => n.val / 8) (fun n => n.val % 8)
    (fun n => by omega) (fun n => by omega)
    (fun a b ha hb => ⟨⟨8 * a + b, by omega⟩, by show (8 * a + b) / 8 = a; omega, by show (8 * a + b) % 8 = b; omega⟩) L' a b ha hb p d

/-! ## A gate -/

theorem sq_at (x : Vec Ideal S512x1024 .bf16) (a b : Nat) (ha : a < 4) (hb : b < 8) (p d : Fin 128) :
    sq x a b ha hb (ix2 p d) = x (ix2 (row4 a ha p) (col8 b hb d)) :=
  View.ld_unit_apply_of x _ _ _ _ _ fun k => match k with | ⟨0, _⟩ => rfl | ⟨1, _⟩ => rfl

theorem pl_at {e : EltTy} (x : Vec Ideal S8x128x128 e) (g : Nat) (hg : g < 8) (p d : Fin 128) :
    pl x g hg (ix3 0 p d) = x (ix3 ⟨g, hg⟩ p d) :=
  View.ld_unit_apply_of x _ _ _ _ _ fun k => match k with
    | ⟨0, _⟩ => rfl
    | ⟨1, _⟩ => (Nat.zero_add _).symm
    | ⟨2, _⟩ => (Nat.zero_add _).symm

theorem sink_at (x : Vec Ideal S8 .f32) (n : Nat) (hn : n < 8) : sink x n hn = x (ix1 ⟨n, hn⟩) :=
  View.ld_unit_apply_of x _ _ _ _ _ fun k => match k with | ⟨0, _⟩ => rfl

theorem pay3_at (v0 v1 v2 v3 : Vec Ideal S128x128 .bf16) (ws : Vec Ideal S1x128x128 .bf16) (p : Fin 128) (l : Fin 512) :
    k0_pay3 v0 v1 v2 v3 ws (ix2 p l) = ∑ q, ws (ix3 0 p q) * (if h : l.val < 128 then v0 (ix2 q ⟨l.val, h⟩)
        else if h : l.val - 128 < 128 then v1 (ix2 q ⟨l.val - 128, h⟩)
        else if h : l.val - 128 - 128 < 128 then v2 (ix2 q ⟨l.val - 128 - 128, h⟩) else v3 (ix2 q ⟨l.val - 128 - 128 - 128, by omega⟩)) := by
  pointwise [k0_pay3]

theorem gateV_at (u vn : Vec Ideal S512x1024 .bf16) (ws : Vec Ideal S8x128x128 .bf16) (bs : Vec Ideal S8x128x128 .f32)
    (a b : Nat) (ha : a < 4) (hb : b < 8) (p d : Fin 128) :
    gateV u vn ws bs a b ha hb (ix2 p d)
      = u (ix2 (row4 a ha p) (col8 b hb d))
        * ((∑ q : Fin 128, ws (ix3 ⟨b, hb⟩ p q) * vn (ix2 (row4 a ha q) (col8 b hb d))) + bs (ix3 ⟨b, hb⟩ p d)) := by
  have h : gateV u vn ws bs a b ha hb (ix2 p d) = sq u a b ha hb (ix2 p d)
        * (k0_pay3 (sq vn 0 b (by omega) hb) (sq vn 1 b (by omega) hb) (sq vn 2 b (by omega) hb) (sq vn 3 b (by omega) hb) (pl ws b hb)
            (ix2 p ⟨128 * a + d.val, by have := d.isLt; omega⟩) + pl bs b hb (ix3 0 p d)) := by
    pointwise [gateV]
  rw [h, sq_at, pl_at, pay3_at]
  refine congrArg (fun z => _ * (z + _)) (Finset.sum_congr rfl fun q _ => ?_)
  rw [pl_at]
  refine congrArg _ ?_
  have hd := d.isLt
  have key : ∀ a' (ha' : a' < 4) (l : Fin 128), a' = a → l.val = d.val →
      sq vn a' b ha' hb (ix2 q l) = vn (ix2 (row4 a ha q) (col8 b hb d)) := fun a' ha' l e e' => by
    subst e
    exact (sq_at vn _ b _ hb q _).trans (congrArg vn (congrArg (ix2 _) (Fin.ext (by show 128 * b + l.val = 128 * b + d.val; omega))))
  split
  next h1 => exact key 0 _ _ (by have : 128 * a + d.val < 128 := h1; omega) (by have : 128 * a + d.val < 128 := h1; show 128 * a + d.val = _; omega)
  next h1 =>
    have h1 : ¬ 128 * a + d.val < 128 := h1
    split
    next h2 =>
      have h2 : 128 * a + d.val - 128 < 128 := h2
      exact key 1 _ _ (by omega) (by show 128 * a + d.val - 128 = _; omega)
    next h2 =>
      have h2 : ¬ 128 * a + d.val - 128 < 128 := h2
      split
      next h3 =>
        have h3 : 128 * a + d.val - 128 - 128 < 128 := h3
        exact key 2 _ _ (by omega) (by show 128 * a + d.val - 128 - 128 = _; omega)
      next h3 =>
        have h3 : ¬ 128 * a + d.val - 128 - 128 < 128 := h3
        exact key 3 _ _ (by omega) (by show 128 * a + d.val - 128 - 128 - 128 = _; omega)

/-! ## The attention of a group of heads -/

section att

variable (p n : BitVec 32) (Q : Vec Ideal S512x128 .bf16) (kw vw : Vec Ideal S384x128 .bf16) (SK : Vec Ideal S512x1 .f32)

/-- The scores of the 512 queries against the 384 keys. -/
def scoresC : FVec Ideal S512x384 .f32 :=
  mulf (matmul (φ₁ := .bf16) (φ₂ := .bf16) dot_S512x128_S384x128_S512x384_1_1_0_0_n_n none Q kw (constant S512x384 .f32 0x00000000#32))
    (broadcast S512x384 (Scalar.ofBits .f32 0x3DB504F3#32))

/-- The three blocks of scores, the first and the last masked. -/
def prevC : FVec Ideal S512x128 .f32 :=
  select (cmpi .sge k0_pay63 (broadcast S512x128 p)) (extractStridedSlice S512x128 ![0, 0] (scoresC Q kw) slices_S512x384_o0_0_S512x128)
    (broadcast S512x128 (Named.named κ "mask" 0xF149F2CA#32))

def midC : FVec Ideal S512x128 .f32 :=
  extractStridedSlice S512x128 ![0, 128] (scoresC Q kw) slices_S512x384_o0_128_S512x128

def nextC : FVec Ideal S512x128 .f32 :=
  select (cmpi .sle k0_pay63 (broadcast S512x128 n)) (extractStridedSlice S512x128 ![0, 256] (scoresC Q kw) slices_S512x384_o0_256_S512x128)
    (broadcast S512x128 (Named.named κ "mask" 0xF149F2CA#32))

/-- The greatest score of every query, its sink's included. -/
def maxC (x y z : FVec Ideal S512x128 .f32) : FVec Ideal S512x1 .f32 :=
  maximumf (shapeCast S512x1 (multiReduction .maximumf [1] S512 (maximumf (maximumf x y) z) 0xFF800000#32 reduces_S512x128_S512 (.inl rfl) rfl)
    shapeCasts_S512_S512x1) SK

/-- The weights of one block of keys. -/
def weightC (m : FVec Ideal S512x1 .f32) (x : FVec Ideal S512x128 .f32) : FVec Ideal S512x128 .f32 :=
  exp (subf x (broadcastTo S512x128 m broadcasts_S512x1_S512x128))

/-- The attention from the three blocks of weights. -/
def outC (m : FVec Ideal S512x1 .f32) (x y z : FVec Ideal S512x128 .f32) : FVec Ideal S512x128 .f32 :=
  divf (matmul (φ₁ := .bf16) (φ₂ := .bf16) dot_S512x384_S384x128_S512x128_1_0_0_1_n_n none
      (truncf .bf16 (concatenate S512x384 1 [⟨S512x128, x⟩, ⟨S512x128, y⟩, ⟨S512x128, z⟩] concatenates_S512x128_S512x128_S512x128_S512x384_d1) bitsLt_bf16_f32)
      vw (constant S512x128 .f32 0x00000000#32))
    (broadcastTo S512x128 (addf (shapeCast S512x1 (multiReduction .add [1] S512 (addf (addf x y) z) 0x00000000#32 reduces_S512x128_S512 (.inl rfl) rfl)
      shapeCasts_S512_S512x1) (exp (subf SK m))) broadcasts_S512x1_S512x128)

def attC : FVec Ideal S512x128 .f32 :=
  outC vw SK (maxC SK (prevC p Q kw) (midC Q kw) (nextC n Q kw))
    (weightC (maxC SK (prevC p Q kw) (midC Q kw) (nextC n Q kw)) (prevC p Q kw))
    (weightC (maxC SK (prevC p Q kw) (midC Q kw) (nextC n Q kw)) (midC Q kw))
    (weightC (maxC SK (prevC p Q kw) (midC Q kw) (nextC n Q kw)) (nextC n Q kw))

def four (q0 q1 q2 q3 : Vec Ideal S128x128 .bf16) : Vec Ideal S512x128 .bf16 :=
  concatenate S512x128 0 [⟨S128x128, q0⟩, ⟨S128x128, q1⟩, ⟨S128x128, q2⟩, ⟨S128x128, q3⟩] concatenates_S128x128_S128x128_S128x128_S128x128_S512x128_d0

def fourSinks (s0 s1 s2 s3 : Elt Ideal .f32) : Vec Ideal S512x1 .f32 :=
  concatenate S512x1 0 [⟨S128x1, broadcast S128x1 s0⟩, ⟨S128x1, broadcast S128x1 s1⟩, ⟨S128x1, broadcast S128x1 s2⟩, ⟨S128x1, broadcast S128x1 s3⟩]
    concatenates_S128x1_S128x1_S128x1_S128x1_S512x1_d0

theorem attU_eq (q0 q1 q2 q3 : Vec Ideal S128x128 .bf16) (s0 s1 s2 s3 : Elt Ideal .f32) :
    attU p n q0 q1 q2 q3 kw vw s0 s1 s2 s3 = attC p n (four q0 q1 q2 q3) kw vw (fourSinks s0 s1 s2 s3) := rfl

theorem scoresC_at (r : Fin 512) (j : Fin 384) :
    scoresC Q kw (ix2 r j) = (∑ k : Fin 128, Q (ix2 r k) * kw (ix2 j k)) * Ideal.ofBits .f32 0x3DB504F3#32 := by
  pointwise [scoresC]

theorem mask_named : Named.named κ "mask" (F := Ideal) (φ := .f32) 0xF149F2CA#32 = (⊥ : EReal) := rfl

theorem prevC_at (r : Fin 512) (j : Fin 128) :
    prevC p Q kw (ix2 r j) = Scalar.select (IntOp.cmpi .sge (IntOp.subi (BitVec.ofNat 32 j.val) (IntOp.andi (BitVec.ofNat 32 r.val) 127#32)) p)
      (scoresC Q kw (ix2 r (Softmax.at3 0 (by omega) j))) (⊥ : EReal) := by
  pointwise [prevC, k0_pay63]
  exact congrArg₂ (Scalar.select _) (congrArg (scoresC Q kw) (congrArg (ix2 r) (Fin.ext (by simp)))) mask_named

theorem midC_at (r : Fin 512) (j : Fin 128) : midC Q kw (ix2 r j) = scoresC Q kw (ix2 r (Softmax.at3 1 (by omega) j)) := by
  pointwise [midC]

theorem nextC_at (r : Fin 512) (j : Fin 128) :
    nextC n Q kw (ix2 r j) = Scalar.select (IntOp.cmpi .sle (IntOp.subi (BitVec.ofNat 32 j.val) (IntOp.andi (BitVec.ofNat 32 r.val) 127#32)) n)
      (scoresC Q kw (ix2 r (Softmax.at3 2 (by omega) j))) (⊥ : EReal) := by
  pointwise [nextC, k0_pay63]
  exact congrArg₂ (Scalar.select _) (congrArg (scoresC Q kw) (congrArg (ix2 r) (Fin.ext (by simp)))) mask_named

theorem bot_bits : Ideal.ofBits .f32 0xFF800000#32 = ⊥ := by
  simp [Ideal.ofBits, Ideal.ieee]

theorem maxC_at (x y z : FVec Ideal S512x128 .f32) (r : Fin 512) :
    maxC SK x y z (ix2 r 0) = max (Finset.univ.fold max ⊥ fun l : Fin 128 => max (max (x (ix2 r l)) (y (ix2 r l))) (z (ix2 r l))) (SK (ix2 r 0)) := by
  rw [← bot_bits]
  pointwise [maxC]

theorem weightC_at (m : FVec Ideal S512x1 .f32) (x : FVec Ideal S512x128 .f32) (r : Fin 512) (j : Fin 128) :
    weightC m x (ix2 r j) = Ideal.exp (x (ix2 r j) - m (ix2 r 0)) := by
  pointwise [weightC]

theorem outC_at (m : FVec Ideal S512x1 .f32) (x y z : FVec Ideal S512x128 .f32) (r : Fin 512) (d : Fin 128) :
    outC vw SK m x y z (ix2 r d)
      = Ideal.div (∑ j : Fin 384, (if h : j.val < 128 then x (ix2 r ⟨j.val, h⟩) else if h : j.val - 128 < 128 then y (ix2 r ⟨j.val - 128, h⟩)
            else z (ix2 r ⟨j.val - 128 - 128, by omega⟩)) * vw (ix2 j d))
          (∑ l : Fin 128, (x (ix2 r l) + y (ix2 r l) + z (ix2 r l)) + Ideal.exp (SK (ix2 r 0) - m (ix2 r 0))) := by
  pointwise [outC]

open Softmax in
/-- The attention at one query, its masked scores being `X`. -/
theorem attC_at (X : Fin 384 → EReal) (r : Fin 512) (h0 : ∀ l, prevC p Q kw (ix2 r l) = X (at3 0 (by omega) l))
    (h1 : ∀ l, midC Q kw (ix2 r l) = X (at3 1 (by omega) l)) (h2 : ∀ l, nextC n Q kw (ix2 r l) = X (at3 2 (by omega) l)) (d : Fin 128) :
    attC p n Q kw vw SK (ix2 r d)
      = Ideal.div (∑ j, weight X (SK (ix2 r 0)) j * vw (ix2 j d)) (total X (SK (ix2 r 0))) := by
  have hm : maxC SK (prevC p Q kw) (midC Q kw) (nextC n Q kw) (ix2 r 0) = top X (SK (ix2 r 0)) := by
    rw [maxC_at, ← top_blocks]
    simp only [h0, h1, h2]
  unfold attC
  rw [outC_at]
  simp only [weightC_at, hm, h0, h1, h2]
  unfold total
  rw [← sum_blocks (weight X (SK (ix2 r 0)))]
  refine congrArg₂ Ideal.div (Finset.sum_congr rfl fun j _ => congrArg (· * _) ?_) rfl
  unfold weight
  have hj := j.isLt
  split
  · exact congrArg (fun j => Ideal.exp (X j - _)) (Fin.ext (by simp only; omega))
  · split
    · exact congrArg (fun j => Ideal.exp (X j - _)) (Fin.ext (by simp only; omega))
    · exact congrArg (fun j => Ideal.exp (X j - _)) (Fin.ext (by simp only; omega))

theorem four_at (q0 q1 q2 q3 : Vec Ideal S128x128 .bf16) (r : Fin 512) (j : Fin 128) :
    four q0 q1 q2 q3 (ix2 r j) = if h : r.val < 128 then q0 (ix2 ⟨r.val, h⟩ j)
        else if h : r.val - 128 < 128 then q1 (ix2 ⟨r.val - 128, h⟩ j)
        else if h : r.val - 128 - 128 < 128 then q2 (ix2 ⟨r.val - 128 - 128, h⟩ j) else q3 (ix2 ⟨r.val - 128 - 128 - 128, by omega⟩ j) := by
  pointwise [four]

theorem fourSinks_at (s0 s1 s2 s3 : Elt Ideal .f32) (r : Fin 512) :
    fourSinks s0 s1 s2 s3 (ix2 r 0) = if r.val < 128 then s0 else if r.val - 128 < 128 then s1 else if r.val - 128 - 128 < 128 then s2 else s3 := by
  pointwise [fourSinks]
  split_ifs <;> rfl

end att

/-! ## The masks -/

theorem tileNo_eq : ∀ t : Fin grid0.N, tileNo (grid0.coords t) = BitVec.ofNat 32 t.val := by decide +kernel

theorem lo_eq : ∀ (t : Fin grid0.N) (a : Fin 4), lo (grid0.coords t) a.val = BitVec.ofInt 32 (if a.val = 0 ∧ t.val = 0 then 256 else 0) := by decide +kernel

theorem hi_eq : ∀ (t : Fin grid0.N) (a : Fin 4), hi (grid0.coords t) a.val = BitVec.ofInt 32 (if a.val = 3 ∧ t.val = 31 then -256 else 0) := by decide +kernel

theorem pay56_at (x : Vec Ideal S512x1024 .f32) (g : Vec Ideal S1x1024 .f32) (r : Fin 512) (l : Fin 1024) :
    k0_pay56 x g (ix2 r l) = Dense.rms (Ideal.ofBits .f32 0x44800000#32) (fun k => x (ix2 r k)) (fun k => g (ix2 0 k)) l := by
  pointwise [k0_pay56]
  rfl

theorem pay1_at (x : Vec Ideal S512x1024 .f32) (g : Vec Ideal S1x1024 .f32) (r : Fin 512) (l : Fin 1024) :
    k0_pay1 (k0_pay158 g) (k0_pay159 x) (ix2 r l) = Dense.rms (Ideal.ofBits .f32 0x44800000#32) (fun k => x (ix2 r k)) (fun k => g (ix2 0 k)) l := by
  pointwise [k0_pay1, k0_pay158, k0_pay159]
  rfl

theorem pay2_at (x : Vec Ideal S512x2048 .f32) (m : Vec Ideal S512x2048 .bf16) (w : Vec Ideal S2048x2048 .bf16) (r : Fin 512) (l : Fin 2048) :
    k0_pay2 x m w (ix2 r l) = x (ix2 r l) + ∑ k, m (ix2 r k) * w (ix2 k l) := by
  pointwise [k0_pay2]

/-! ## One query of one head -/

open Softmax

/-- Row `j` of the 384 keys that block `a` sees, in the tile's keys and their neighbours. -/
abbrev row6 (a : Nat) (ha : a < 4) (j : Fin 384) : Fin 768 := ⟨128 * a + j.val, by have := j.isLt; omega⟩

/-- Column `d` of the keys of head `b`'s group. -/
abbrev col2 (b : Nat) (hb : b < 8) (d : Fin 128) : Fin 256 := ⟨128 * (b / 4) + d.val, by have := d.isLt; omega⟩

/-- The score of query `p` of block `a` for key `j`, head `b`; none where the key is out of the window or of the sequence. -/
def scoreT (t : Fin grid0.N) (q : Vec Ideal S512x1024 .bf16) (ka : Vec Ideal S768x256 .bf16) (a b : Nat) (ha : a < 4) (hb : b < 8) (p : Fin 128)
    (j : Fin 384) : EReal :=
  if (j.val < 128 → p.val ≤ j.val ∧ ¬ (a = 0 ∧ t.val = 0)) ∧ (256 ≤ j.val → j.val ≤ p.val + 256 ∧ ¬ (a = 3 ∧ t.val = 31)) then
    (∑ k : Fin 128, q (ix2 (row4 a ha p) (col8 b hb k)) * ka (ix2 (row6 a ha j) (col2 b hb k))) * Ideal.ofBits .f32 0x3DB504F3#32
  else ⊥

theorem window_at (x : Vec Ideal S768x256 .bf16) (a b : Nat) (ha : a < 4) (hb : b < 8) (j : Fin 384) (d : Fin 128) :
    window x a (b / 4) ha (by omega) (ix2 j d) = x (ix2 (row6 a ha j) (col2 b hb d)) :=
  View.ld_unit_apply_of x _ _ _ _ _ fun k => match k with | ⟨0, _⟩ => rfl | ⟨1, _⟩ => rfl

/-- The four heads' queries one after another: row `128 g + p` is query `p` of head `g` of the group. -/
theorem four_sq (q : Vec Ideal S512x1024 .bf16) (a b : Nat) (ha : a < 4) (hb : b < 8) (p : Fin 128) (k : Fin 128) :
    four (sq q a (4 * (b / 4)) ha (by omega)) (sq q a (4 * (b / 4) + 1) ha (by omega)) (sq q a (4 * (b / 4) + 2) ha (by omega))
        (sq q a (4 * (b / 4) + 3) ha (by omega)) (ix2 ⟨128 * (b % 4) + p.val, by omega⟩ k)
      = q (ix2 (row4 a ha p) (col8 b hb k)) := by
  have key : ∀ b' (hb' : b' < 8) (l : Fin 128), b' = b → l.val = p.val →
      sq q a b' ha hb' (ix2 l k) = q (ix2 (row4 a ha p) (col8 b hb k)) := fun b' hb' l e e' => by
    subst e
    rw [show l = p from Fin.ext e']
    exact sq_at q a _ ha _ p k
  rw [four_at]
  split
  next h1 =>
    have h1 : 128 * (b % 4) + p.val < 128 := h1
    exact key _ _ _ (by omega) (by show 128 * (b % 4) + p.val = _; omega)
  next h1 =>
    have h1 : ¬ 128 * (b % 4) + p.val < 128 := h1
    split
    next h2 =>
      have h2 : 128 * (b % 4) + p.val - 128 < 128 := h2
      exact key _ _ _ (by omega) (by show 128 * (b % 4) + p.val - 128 = _; omega)
    next h2 =>
      have h2 : ¬ 128 * (b % 4) + p.val - 128 < 128 := h2
      split
      next h3 =>
        have h3 : 128 * (b % 4) + p.val - 128 - 128 < 128 := h3
        exact key _ _ _ (by omega) (by show 128 * (b % 4) + p.val - 128 - 128 = _; omega)
      next h3 =>
        have h3 : ¬ 128 * (b % 4) + p.val - 128 - 128 < 128 := h3
        exact key _ _ _ (by omega) (by show 128 * (b % 4) + p.val - 128 - 128 - 128 = _; omega)

theorem fourSinks_sink (sk : Vec Ideal S8 .f32) (b : Nat) (hb : b < 8) (p : Fin 128) :
    fourSinks (sink sk (4 * (b / 4)) (by omega)) (sink sk (4 * (b / 4) + 1) (by omega)) (sink sk (4 * (b / 4) + 2) (by omega))
        (sink sk (4 * (b / 4) + 3) (by omega)) (ix2 ⟨128 * (b % 4) + p.val, by omega⟩ 0)
      = sk (ix1 ⟨b, hb⟩) := by
  have key : ∀ b' (hb' : b' < 8), b' = b → sink sk b' hb' = sk (ix1 ⟨b, hb⟩) := fun b' hb' e => by
    subst e; exact sink_at sk _ _
  rw [fourSinks_at]
  dsimp only
  split_ifs <;> exact key _ _ (by omega)

/-- The difference of a key's place in its block and its query's. -/
theorem rel_eq (r : Fin 512) (j : Fin 128) :
    IntOp.subi (BitVec.ofNat 32 j.val) (IntOp.andi (BitVec.ofNat 32 r.val) 127#32) = BitVec.ofInt 32 ((j.val : ℤ) - (r.val % 128 : ℕ)) := by
  rw [Word.and_127, Word.ofNat_eq, Word.ofNat_eq]
  exact Word.sub_eq _ _

/-- What a tile's attention branch holds at query `p` of block `a`, head `b`, column `d`. -/
theorem attV_at (t : Fin grid0.N) (sk : Vec Ideal S8 .f32) (q : Vec Ideal S512x1024 .bf16) (ka va : Vec Ideal S768x256 .bf16)
    (a b : Nat) (ha : a < 4) (hb : b < 8) (p d : Fin 128) :
    attV (grid0.coords t) sk q ka va a (b / 4) (b % 4) ha (by omega) (by omega) (ix2 p d)
      = Ideal.div (∑ j, weight (scoreT t q ka a b ha hb p) (sk (ix1 ⟨b, hb⟩)) j * va (ix2 (row6 a ha j) (col2 b hb d)))
          (total (scoreT t q ka a b ha hb p) (sk (ix1 ⟨b, hb⟩))) := by
  have h : ∀ u : Vec Ideal S512x128 .f32, ∀ hsl, shapeCast S128x128 (extractStridedSlice S128x128 ![128 * (b % 4), 0] u hsl) shapeCasts_S128x128_S128x128 (ix2 p d)
      = u (ix2 ⟨128 * (b % 4) + p.val, by omega⟩ d) := fun u hsl => by
    pointwise []
  unfold attV
  refine (h _ _).trans ?_
  have hs : ∀ j : Fin 384, scoresC (four (sq q a (4 * (b / 4)) ha (by omega)) (sq q a (4 * (b / 4) + 1) ha (by omega)) (sq q a (4 * (b / 4) + 2) ha (by omega))
      (sq q a (4 * (b / 4) + 3) ha (by omega))) (window ka a (b / 4) ha (by omega)) (ix2 ⟨128 * (b % 4) + p.val, by omega⟩ j)
        = (∑ k : Fin 128, q (ix2 (row4 a ha p) (col8 b hb k)) * ka (ix2 (row6 a ha j) (col2 b hb k))) * Ideal.ofBits .f32 0x3DB504F3#32 := fun j => by
    rw [scoresC_at]
    simp only [four_sq q a b ha hb, window_at ka a b ha hb]
  have hp := p.isLt
  have hr : (128 * (b % 4) + p.val) % 128 = p.val := by omega
  rw [attU_eq, attC_at (X := scoreT t q ka a b ha hb p)]
  · rw [fourSinks_sink sk b hb]
    simp only [window_at va a b ha hb]
  · intro l
    have hl := l.isLt
    rw [prevC_at, rel_eq, lo_eq t ⟨a, ha⟩, hs]
    refine (Word.select_le (P := p.val ≤ l.val ∧ ¬ (a = 0 ∧ t.val = 0)) (by split <;> omega) (by split <;> omega) (by dsimp only; omega) (by dsimp only; omega) _ _ ?_).trans ?_
    · show _ ↔ (if a = 0 ∧ t.val = 0 then (256 : ℤ) else 0) ≤ (l.val : ℤ) - ((128 * (b % 4) + p.val) % 128 : ℕ)
      rw [hr]
      by_cases h0 : a = 0 ∧ t.val = 0
      · rw [if_pos h0]; constructor
        · exact fun h => absurd h0 h.2
        · intro h; omega
      · rw [if_neg h0]; constructor
        · intro h; have := h.1; omega
        · intro h; exact ⟨by omega, h0⟩
    · unfold scoreT
      refine if_congr ⟨fun h => ⟨fun _ => ⟨by show p.val ≤ 128 * 0 + l.val; omega, h.2⟩, fun h => absurd h (by show ¬ 256 ≤ 128 * 0 + l.val; omega)⟩,
        fun h => ⟨?_, (h.1 (by show 128 * 0 + l.val < 128; omega)).2⟩⟩ rfl rfl
      have := (h.1 (by show 128 * 0 + l.val < 128; omega)).1
      have : p.val ≤ 128 * 0 + l.val := this
      omega
  · intro l
    rw [midC_at, hs, scoreT, if_pos ⟨fun h => absurd h (by show ¬ 128 * 1 + l.val < 128; omega), fun h => absurd h (by show ¬ 256 ≤ 128 * 1 + l.val; omega)⟩]
  · intro l
    have hl := l.isLt
    rw [nextC_at, rel_eq, hi_eq t ⟨a, ha⟩, hs]
    refine (Word.select_le (P := l.val ≤ p.val ∧ ¬ (a = 3 ∧ t.val = 31)) (by dsimp only; omega) (by dsimp only; omega) (by split <;> omega) (by split <;> omega) _ _ ?_).trans ?_
    · show _ ↔ (l.val : ℤ) - ((128 * (b % 4) + p.val) % 128 : ℕ) ≤ (if a = 3 ∧ t.val = 31 then (-256 : ℤ) else 0)
      rw [hr]
      by_cases h0 : a = 3 ∧ t.val = 31
      · rw [if_pos h0]; constructor
        · exact fun h => absurd h0 h.2
        · intro h; omega
      · rw [if_neg h0]; constructor
        · intro h; have := h.1; omega
        · intro h; exact ⟨by omega, h0⟩
    · unfold scoreT
      refine if_congr ⟨fun h => ⟨fun h => absurd h (by show ¬ 128 * 2 + l.val < 128; omega), fun _ => ⟨by show 128 * 2 + l.val ≤ p.val + 256; omega, h.2⟩⟩,
        fun h => ⟨?_, (h.2 (by show 256 ≤ 128 * 2 + l.val; omega)).2⟩⟩ rfl rfl
      have := (h.2 (by show 256 ≤ 128 * 2 + l.val; omega)).1
      have : 128 * 2 + l.val ≤ p.val + 256 := this
      omega

theorem around_at (next : Vec Ideal S128x256 .bf16) (own : Vec Ideal S512x256 .bf16) (prev : Vec Ideal S128x256 .bf16) (j : Fin 768) (d : Fin 256) :
    around next own prev (ix2 j d) = if h : j.val < 128 then prev (ix2 ⟨j.val, h⟩ d)
      else if h' : j.val < 640 then own (ix2 ⟨j.val - 128, by omega⟩ d) else next (ix2 ⟨j.val - 640, by omega⟩ d) := by
  have hj := j.isLt
  have hd := d.isLt
  unfold around
  by_cases h : j.val < 128
  · rw [dif_pos h, View.canon_cons_of_not_mem, View.canon_cons_of_not_mem]
    · rw [show (ix2 j d : S768x256.Idx) = (Rect.unit (s := S768x256) ![0, 0] S128x256.size inb_S768x256_S128x256_0_0).emb (ix2 ⟨j.val, h⟩ d) from
        funext fun k => Fin.ext (match k with
          | ⟨0, _⟩ => by rw [Rect.emb_apply]; show j.val = 0 + 1 * j.val; omega
          | ⟨1, _⟩ => by rw [Rect.emb_apply]; show d.val = 0 + 1 * d.val; omega), View.canon_cons_emb]
    · intro hm
      have : 128 ≤ j.val := ((Rect.mem_set_unit (inb := inb_S768x256_S512x256_128_0)).mp hm 0).1
      omega
    · intro hm
      have : 640 ≤ j.val := ((Rect.mem_set_unit (inb := inb_S768x256_S128x256_640_0)).mp hm 0).1
      omega
  · by_cases h' : j.val < 640
    · rw [dif_neg h, dif_pos h', View.canon_cons_of_not_mem]
      · rw [show (ix2 j d : S768x256.Idx)
            = (Rect.unit (s := S768x256) ![128, 0] S512x256.size inb_S768x256_S512x256_128_0).emb (ix2 ⟨j.val - 128, by omega⟩ d) from
          funext fun k => Fin.ext (match k with
            | ⟨0, _⟩ => by rw [Rect.emb_apply]; show j.val = 128 + 1 * (j.val - 128); omega
            | ⟨1, _⟩ => by rw [Rect.emb_apply]; show d.val = 0 + 1 * d.val; omega), View.canon_cons_emb]
      · intro hm
        have : 640 ≤ j.val := ((Rect.mem_set_unit (inb := inb_S768x256_S128x256_640_0)).mp hm 0).1
        omega
    · rw [dif_neg h, dif_neg h', show (ix2 j d : S768x256.Idx)
            = (Rect.unit (s := S768x256) ![640, 0] S128x256.size inb_S768x256_S128x256_640_0).emb (ix2 ⟨j.val - 640, by omega⟩ d) from
          funext fun k => Fin.ext (match k with
            | ⟨0, _⟩ => by rw [Rect.emb_apply]; show j.val = 640 + 1 * (j.val - 640); omega
            | ⟨1, _⟩ => by rw [Rect.emb_apply]; show d.val = 0 + 1 * d.val; omega), View.canon_cons_emb]

theorem mergedV_at (gate att : Vec Ideal S512x1024 .f32) (ga gb : Vec Ideal S1x1024 .f32) (r : Fin 512) (l : Fin 2048) :
    mergedV gate att ga gb (ix2 r l) = if h : l.val < 1024 then
        Dense.rms (Ideal.ofBits .f32 0x44800000#32) (fun k => gate (ix2 r k)) (fun k => ga (ix2 0 k)) ⟨l.val, h⟩
      else Dense.rms (Ideal.ofBits .f32 0x44800000#32) (fun k => att (ix2 r k)) (fun k => gb (ix2 0 k)) ⟨l.val - 1024, by omega⟩ := by
  have hl := l.isLt
  have hr := r.isLt
  unfold mergedV
  by_cases h : l.val < 1024
  · rw [dif_pos h, View.canon_cons_of_not_mem]
    · rw [show (ix2 r l : S512x2048.Idx) = (Rect.unit (s := S512x2048) ![0, 0] S512x1024.size inb_S512x2048_S512x1024_0_0).emb (ix2 r ⟨l.val, h⟩) from
        funext fun k => Fin.ext (match k with
          | ⟨0, _⟩ => by rw [Rect.emb_apply]; show r.val = 0 + 1 * r.val; omega
          | ⟨1, _⟩ => by rw [Rect.emb_apply]; show l.val = 0 + 1 * l.val; omega), View.canon_cons_emb]
      exact pay56_at gate ga r ⟨l.val, h⟩
    · intro hm
      have := ((Rect.mem_set_unit (inb := inb_S512x2048_S512x1024_0_1024)).mp hm 1).1
      have : 1024 ≤ l.val := this
      omega
  · rw [dif_neg h, show (ix2 r l : S512x2048.Idx)
        = (Rect.unit (s := S512x2048) ![0, 1024] S512x1024.size inb_S512x2048_S512x1024_0_1024).emb (ix2 r ⟨l.val - 1024, by omega⟩) from
        funext fun k => Fin.ext (match k with
          | ⟨0, _⟩ => by rw [Rect.emb_apply]; show r.val = 0 + 1 * r.val; omega
          | ⟨1, _⟩ => by rw [Rect.emb_apply]; show l.val = 1024 + 1 * (l.val - 1024); omega), View.canon_cons_emb]
    exact pay1_at att gb r ⟨l.val - 1024, by omega⟩

end Cert.MixerIdeal.Pieces
end
-- ==== Proof.MixerSpec.lean ====
/-
  The mixer's formulas on its whole arrays, over the extended reals and free of any program: the spatial gating of chunks of 128
  rows, the windowed attention with a sink, the norm of each branch, and the output projection with its residual.
-/
module

public import proofs.«01_k».proof.Proof.Dense
public import proofs.«01_k».proof.Proof.Softmax

@[expose] public section

noncomputable section

open Idealize.ShloMosaic

namespace Cert.Mix

variable (h : Fin 16384 → Fin 2048 → EReal) (u vn q : Fin 16384 → Fin 1024 → EReal) (k v : Fin 16384 → Fin 256 → EReal)
  (sk : Fin 8 → EReal) (ws : Fin 8 → Fin 128 → Fin 128 → EReal) (bs : Fin 8 → Fin 128 → EReal) (ga gb : Fin 1024 → EReal)
  (wo : Fin 2048 → Fin 2048 → EReal)

/-- Row `p` of the chunk that row `r` lies in. -/
abbrev mate (r : Fin 16384) (p : Fin 128) : Fin 16384 := ⟨128 * (r.val / 128) + p.val, by omega⟩

/-- The row's place in its chunk. -/
abbrev place (r : Fin 16384) : Fin 128 := ⟨r.val % 128, by omega⟩

/-- The head (or gating group) of a column. -/
abbrev head (l : Fin 1024) : Fin 8 := ⟨l.val / 128, by omega⟩

/-- Column `d` of head `b`. -/
abbrev ofHead (b : Fin 8) (d : Fin 128) : Fin 1024 := ⟨128 * b.val + d.val, by omega⟩

/-- Column `d` of the keys that head `b` shares with three more. -/
abbrev ofGroup (b : Fin 8) (d : Fin 128) : Fin 256 := ⟨128 * (b.val / 4) + d.val, by omega⟩

/-- The gating at row `r`, column `l`. -/
def gate (r : Fin 16384) (l : Fin 1024) : EReal :=
  u r l * (∑ p, ws (head l) (place r) p * vn (mate r p) l + bs (head l) (place r))

/-- Whether row `r` sees key `j` of the 384 around its chunk: at most 128 rows away and inside the sequence. -/
abbrev Sees (r : Fin 16384) (j : Fin 384) : Prop :=
  (r.val % 128 ≤ j.val ∧ j.val ≤ r.val % 128 + 256) ∧ (128 ≤ 128 * (r.val / 128) + j.val ∧ 128 * (r.val / 128) + j.val < 16512)

/-- The row of key `j` of the 384 around the chunk of row `r`. -/
abbrev key (r : Fin 16384) (j : Fin 384) : Fin 16384 := ⟨min (128 * (r.val / 128) + j.val - 128) 16383, by omega⟩

/-- The score of row `r` for key `j`, head `b`; none for a key it does not see. -/
def score (r : Fin 16384) (b : Fin 8) (j : Fin 384) : EReal :=
  if Sees r j then (∑ d, q r (ofHead b d) * k (key r j) (ofGroup b d)) * Ideal.ofBits .f32 0x3DB504F3#32 else ⊥

/-- The attention at row `r`, column `l`. -/
def att (r : Fin 16384) (l : Fin 1024) : EReal :=
  Softmax.out (score q k r (head l)) (sk (head l)) fun j => v (key r j) (ofGroup (head l) ⟨l.val % 128, by omega⟩)

/-- The two branches, each normalized, side by side. -/
def merged (r : Fin 16384) (l : Fin 2048) : EReal :=
  if h : l.val < 1024 then Dense.rms (Ideal.ofBits .f32 0x44800000#32) (gate u vn ws bs r) ga ⟨l.val, h⟩
  else Dense.rms (Ideal.ofBits .f32 0x44800000#32) (att q k v sk r) gb ⟨l.val - 1024, by omega⟩

/-- The mixer's result. -/
def out (r : Fin 16384) (l : Fin 2048) : EReal := h r l + ∑ j, merged u vn q k v sk ws bs ga gb r j * wo j l

theorem sum_real {n : ℕ} (f g : Fin n → EReal) (hf : ∀ i, ∃ x : ℝ, f i = x) (hg : ∀ i, ∃ x : ℝ, g i = x) : ∃ x : ℝ, ∑ i, f i * g i = x := by
  choose a ha using hf
  choose b hb using hg
  have : ∀ s : Finset (Fin n), ∑ i ∈ s, f i * g i = ((∑ i ∈ s, a i * b i : ℝ) : EReal) := by
    intro s
    induction s using Finset.induction with
    | empty => simp
    | insert i s hi ih => rw [Finset.sum_insert hi, Finset.sum_insert hi, ih, ha, hb, EReal.coe_add, EReal.coe_mul]
  exact ⟨_, this _⟩

theorem scale_real : ∃ x : ℝ, Ideal.ofBits .f32 0x3DB504F3#32 = x := by
  unfold Ideal.ofBits Ideal.ieee
  simp [-EReal.coe_mul]

/-- With finite queries and keys a score is finite or masked. -/
theorem proper (hq : ∀ r l, ∃ x : ℝ, q r l = x) (hk : ∀ r l, ∃ x : ℝ, k r l = x) (r : Fin 16384) (b : Fin 8) : Softmax.Proper (score q k r b) := by
  intro j
  unfold score
  by_cases h : Sees r j
  · right
    rw [if_pos h]
    obtain ⟨x, hx⟩ := sum_real (fun d => q r (ofHead b d)) (fun d => k (key r j) (ofGroup b d)) (fun _ => hq _ _) (fun _ => hk _ _)
    obtain ⟨y, hy⟩ := scale_real
    exact ⟨x * y, by rw [hx, hy, EReal.coe_mul]⟩
  · left
    rw [if_neg h]

end Cert.Mix

end
-- ==== Proof.MixerValue.lean ====
/-
  The mixer kernel (`Mixer`): the array it leaves, element by element, over the extended reals and for finite queries, keys and
  sinks.
-/
module

public import proofs.«01_k».proof.Proof.MixerTile
public import proofs.«01_k».proof.Proof.MixerSpec
public import proofs.«01_k».proof.Proof.Gen.MixerIdeal.Value
public import Idealize.ShloMosaic.Lib.Claim

@[expose] public section

set_option maxRecDepth 16384

noncomputable section

open Idealize.ShloMosaic Idealize.ShloMosaic.TcCoe Idealize.SL.Sem

namespace Cert.MixerIdeal.Rows

open Cert.MixerIdeal Cert.MixerIdeal.Gen Cert.MixerIdeal.Pieces

/-! ## One tile against the formulas on whole arrays -/

section tile

variable (h : Fin 16384 → Fin 2048 → EReal) (u vn q : Fin 16384 → Fin 1024 → EReal) (k v : Fin 16384 → Fin 256 → EReal)
  (sk : Fin 8 → EReal) (ws : Fin 8 → Fin 128 → Fin 128 → EReal) (bs : Fin 8 → Fin 128 → EReal) (ga gb : Fin 1024 → EReal)
  (wo : Fin 2048 → Fin 2048 → EReal)

theorem lt_N (t : Fin grid0.N) : t.val < 32 := lt_of_lt_of_eq t.isLt (show grid0.N = 32 from N_0)

/-- The array row that row `r` of tile `t` is. -/
abbrev row (t : Fin grid0.N) (r : Fin 512) : Fin 16384 := ⟨512 * t.val + r.val, by have := lt_N t; omega⟩

/-- The row before the tile that row `j` of the 128 taken before it is; at the start of the sequence the first rows stand in. -/
abbrev rowPrev (t : Fin grid0.N) (j : Fin 128) : Fin 16384 := ⟨128 * (4 * t.val - 1) + j.val, by have := lt_N t; omega⟩

/-- The row after the tile that row `j` of the 128 taken after it is; at the end of the sequence the last rows stand in. -/
abbrev rowNext (t : Fin grid0.N) (j : Fin 128) : Fin 16384 := ⟨128 * min (4 * t.val + 4) 127 + j.val, by omega⟩

theorem row_cut (t : Fin grid0.N) (r : Fin 512) : ∃ (a : Nat) (ha : a < 4) (p : Fin 128), r = row4 a ha p :=
  ⟨r.val / 128, by omega, ⟨r.val % 128, by omega⟩, Fin.ext (by show r.val = 128 * (r.val / 128) + r.val % 128; omega)⟩

theorem col_cut (l : Fin 1024) : ∃ (b : Nat) (hb : b < 8) (d : Fin 128), l = col8 b hb d :=
  ⟨l.val / 128, by omega, ⟨l.val % 128, by omega⟩, Fin.ext (by show l.val = 128 * (l.val / 128) + l.val % 128; omega)⟩

/-- The keys (or values) around a tile: where a query sees a key, the tile holds that key's row. -/
theorem around_seen (t : Fin grid0.N) (k : Fin 16384 → Fin 256 → EReal) (next prev : Vec Ideal S128x256 .bf16) (own : Vec Ideal S512x256 .bf16)
    (hn : ∀ j d, next (ix2 j d) = k (rowNext t j) d) (hp : ∀ j d, prev (ix2 j d) = k (rowPrev t j) d) (ho : ∀ j d, own (ix2 j d) = k (row t j) d)
    (a : Nat) (ha : a < 4) (p : Fin 128) (j : Fin 384) (d : Fin 256) (hs : Mix.Sees (row t (row4 a ha p)) j) :
    around next own prev (ix2 (row6 a ha j) d) = k (Mix.key (row t (row4 a ha p)) j) d := by
  have ht := lt_N t
  have hpl := p.isLt
  have hjl := j.isLt
  have hr : (512 * t.val + (128 * a + p.val)) / 128 = 4 * t.val + a := by omega
  have h1 : 128 ≤ 128 * ((512 * t.val + (128 * a + p.val)) / 128) + j.val := hs.2.1
  have h2 : 128 * ((512 * t.val + (128 * a + p.val)) / 128) + j.val < 16512 := hs.2.2
  rw [hr] at h1 h2
  have hk : ∀ R : Fin 16384, R.val = 128 * (4 * t.val + a) + j.val - 128 → k R d = k (Mix.key (row t (row4 a ha p)) j) d := fun R e =>
    congrArg (k · d) (Fin.ext (by
      show R.val = min (128 * ((512 * t.val + (128 * a + p.val)) / 128) + j.val - 128) 16383
      rw [hr]; omega))
  rw [around_at]
  split
  next c =>
    have c : 128 * a + j.val < 128 := c
    rw [hp]
    exact hk _ (by show 128 * (4 * t.val - 1) + (128 * a + j.val) = _; omega)
  next c =>
    have c : ¬ 128 * a + j.val < 128 := c
    split
    next c' =>
      have c' : 128 * a + j.val < 640 := c'
      rw [ho]
      exact hk _ (by show 512 * t.val + (128 * a + j.val - 128) = _; omega)
    next c' =>
      have c' : ¬ 128 * a + j.val < 640 := c'
      rw [hn]
      exact hk _ (by show 128 * min (4 * t.val + 4) 127 + (128 * a + j.val - 640) = _; omega)

theorem sees_iff (t : Fin grid0.N) (a : Nat) (ha : a < 4) (p : Fin 128) (j : Fin 384) :
    ((j.val < 128 → p.val ≤ j.val ∧ ¬ (a = 0 ∧ t.val = 0)) ∧ (256 ≤ j.val → j.val ≤ p.val + 256 ∧ ¬ (a = 3 ∧ t.val = 31)))
      ↔ Mix.Sees (row t (row4 a ha p)) j := by
  have ht := lt_N t
  have hpl := p.isLt
  have hjl := j.isLt
  have hr : (512 * t.val + (128 * a + p.val)) / 128 = 4 * t.val + a := by omega
  have hr' : (512 * t.val + (128 * a + p.val)) % 128 = p.val := by omega
  show _ ↔ ((512 * t.val + (128 * a + p.val)) % 128 ≤ j.val ∧ j.val ≤ (512 * t.val + (128 * a + p.val)) % 128 + 256)
    ∧ (128 ≤ 128 * ((512 * t.val + (128 * a + p.val)) / 128) + j.val ∧ 128 * ((512 * t.val + (128 * a + p.val)) / 128) + j.val < 16512)
  rw [hr, hr']
  omega

theorem gate_tile (t : Fin grid0.N) (x2 x3 : Vec Ideal S512x1024 .bf16) (x11 : Vec Ideal S8x128x128 .bf16) (x12 : Vec Ideal S8x128x128 .f32)
    (h2 : ∀ r l, x2 (ix2 r l) = u (row t r) l) (h3 : ∀ r l, x3 (ix2 r l) = vn (row t r) l) (h11 : ∀ b p d, x11 (ix3 b p d) = ws b p d)
    (h12 : ∀ b p d, x12 (ix3 b p d) = bs b p) (r : Fin 512) (l : Fin 1024) :
    View.canon (gateL x2 x3 x11 x12) (ix2 r l) = Mix.gate u vn ws bs (row t r) l := by
  obtain ⟨a, ha, p, rfl⟩ := row_cut t r
  obtain ⟨b, hb, d, rfl⟩ := col_cut l
  have ht := lt_N t
  have hpl := p.isLt
  have hdl := d.isLt
  have hb' : Mix.head (col8 b hb d) = ⟨b, hb⟩ := Fin.ext (by show (128 * b + d.val) / 128 = b; omega)
  have hp' : Mix.place (row t (row4 a ha p)) = p := Fin.ext (by show (512 * t.val + (128 * a + p.val)) % 128 = p.val; omega)
  rw [gateL_at, gateV_at, h2, h12]
  unfold Mix.gate
  rw [hb', hp']
  refine congrArg (fun z => _ * (z + _)) (Finset.sum_congr rfl fun s _ => ?_)
  rw [h11, h3]
  refine congrArg (fun R => _ * vn R _) (Fin.ext ?_)
  show 512 * t.val + (128 * a + s.val) = 128 * ((512 * t.val + (128 * a + p.val)) / 128) + s.val
  omega

theorem att_tile (hq : ∀ r l, ∃ x : ℝ, q r l = x) (hk : ∀ r l, ∃ x : ℝ, k r l = x) (hsk : ∀ b, ∃ x : ℝ, sk b = x)
    (t : Fin grid0.N) (x0 : Vec Ideal S8 .f32) (x4 : Vec Ideal S512x1024 .bf16) (x5 x6 : Vec Ideal S512x256 .bf16) (x7 x8 x9 x10 : Vec Ideal S128x256 .bf16)
    (h0 : ∀ b, x0 (ix1 b) = sk b) (h4 : ∀ r l, x4 (ix2 r l) = q (row t r) l) (h5 : ∀ r l, x5 (ix2 r l) = k (row t r) l)
    (h6 : ∀ r l, x6 (ix2 r l) = v (row t r) l) (h7 : ∀ r l, x7 (ix2 r l) = k (rowPrev t r) l) (h8 : ∀ r l, x8 (ix2 r l) = v (rowPrev t r) l)
    (h9 : ∀ r l, x9 (ix2 r l) = k (rowNext t r) l) (h10 : ∀ r l, x10 (ix2 r l) = v (rowNext t r) l)
    (L : List (View.Piece (Elt Ideal) S512x1024 .f32)) (r : Fin 512) (l : Fin 1024) :
    View.canon (attL (grid0.coords t) x0 x4 (around x9 x5 x7) (around x10 x6 x8) ++ L) (ix2 r l) = Mix.att q k v sk (row t r) l := by
  obtain ⟨a, ha, p, rfl⟩ := row_cut t r
  obtain ⟨b, hb, d, rfl⟩ := col_cut l
  have hpl := p.isLt
  have hdl := d.isLt
  have hb' : Mix.head (col8 b hb d) = ⟨b, hb⟩ := Fin.ext (by show (128 * b + d.val) / 128 = b; omega)
  have hsc : scoreT t x4 (around x9 x5 x7) a b ha hb p = Mix.score q k (row t (row4 a ha p)) ⟨b, hb⟩ := by
    funext j
    unfold scoreT Mix.score
    by_cases hs : Mix.Sees (row t (row4 a ha p)) j
    · rw [if_pos hs, if_pos ((sees_iff t a ha p j).mpr hs)]
      refine congrArg (· * _) (Finset.sum_congr rfl fun e _ => ?_)
      rw [h4, around_seen t k x9 x7 x5 h9 h7 h5 a ha p j _ hs]
    · rw [if_neg hs, if_neg fun e => hs ((sees_iff t a ha p j).mp e)]
  rw [attL_at, attV_at t x0 x4 _ _ a b ha hb p d, hsc, h0, Softmax.out_of_div _ (Mix.proper q k hq hk _ _) (hsk _)]
  unfold Mix.att
  rw [hb']
  refine Softmax.out_congr _ (Mix.proper q k hq hk _ _) (hsk _) _ fun j hj => ?_
  have hs : Mix.Sees (row t (row4 a ha p)) j := by
    by_contra hs
    exact hj (by unfold Mix.score; rw [if_neg hs])
  rw [around_seen t v x10 x8 x6 h10 h8 h6 a ha p j _ hs]
  refine congrArg (v _) (Fin.ext ?_)
  show 128 * (b / 4) + d.val = 128 * (b / 4) + (128 * b + d.val) % 128
  omega

/-- The output tile at an element. -/
theorem out_tile (hq : ∀ r l, ∃ x : ℝ, q r l = x) (hk : ∀ r l, ∃ x : ℝ, k r l = x) (hsk : ∀ b, ∃ x : ℝ, sk b = x)
    (t : Fin grid0.N) (x0 : Vec Ideal S8 .f32) (x1 : Vec Ideal S512x2048 .f32) (x2 x3 x4 : Vec Ideal S512x1024 .bf16) (x5 x6 : Vec Ideal S512x256 .bf16)
    (x7 x8 x9 x10 : Vec Ideal S128x256 .bf16) (x11 : Vec Ideal S8x128x128 .bf16) (x12 : Vec Ideal S8x128x128 .f32) (x13 x14 : Vec Ideal S1x1024 .f32)
    (x15 : Vec Ideal S2048x2048 .bf16)
    (h0 : ∀ b, x0 (ix1 b) = sk b) (h1 : ∀ r l, x1 (ix2 r l) = h (row t r) l)
    (h2 : ∀ r l, x2 (ix2 r l) = u (row t r) l) (h3 : ∀ r l, x3 (ix2 r l) = vn (row t r) l)
    (h4 : ∀ r l, x4 (ix2 r l) = q (row t r) l) (h5 : ∀ r l, x5 (ix2 r l) = k (row t r) l)
    (h6 : ∀ r l, x6 (ix2 r l) = v (row t r) l) (h7 : ∀ r l, x7 (ix2 r l) = k (rowPrev t r) l) (h8 : ∀ r l, x8 (ix2 r l) = v (rowPrev t r) l)
    (h9 : ∀ r l, x9 (ix2 r l) = k (rowNext t r) l) (h10 : ∀ r l, x10 (ix2 r l) = v (rowNext t r) l)
    (h11 : ∀ b p d, x11 (ix3 b p d) = ws b p d) (h12 : ∀ b p d, x12 (ix3 b p d) = bs b p)
    (h13 : ∀ l, x13 (ix2 0 l) = ga l) (h14 : ∀ l, x14 (ix2 0 l) = gb l) (h15 : ∀ j l, x15 (ix2 j l) = wo j l) (r : Fin 512) (l : Fin 2048) :
    outV (grid0.coords t) x0 x1 x2 x3 x4 x5 x6 x7 x8 x9 x10 x11 x12 x13 x14 x15 (ix2 r l) = Mix.out h u vn q k v sk ws bs ga gb wo (row t r) l := by
  unfold outV
  rw [pay2_at, h1]
  unfold Mix.out
  refine congrArg (_ + ·) (Finset.sum_congr rfl fun j _ => ?_)
  rw [h15, mergedV_at]
  simp only [gate_tile u vn ws bs t x2 x3 x11 x12 h2 h3 h11 h12, h13, h14,
    att_tile q k v sk hq hk hsk t x0 x4 x5 x6 x7 x8 x9 x10 h0 h4 h5 h6 h7 h8 h9 h10]
  rfl

end tile

/-! ## The entry arrays and the blocks -/

variable (m : (ℓ : Loc nD τ sig) → Buf (Elt Ideal) ℓ) (c : Dev nD)

/-- The residual stream. -/
def H (r : Fin 16384) (l : Fin 2048) : EReal := m ((c : Thread nD τ).loc main_arg0) (ix2 r l)
/-- The gating branch's first half. -/
def U (r : Fin 16384) (l : Fin 1024) : EReal := m ((c : Thread nD τ).loc main_arg1) (ix2 r l)
/-- The gating branch's second half, normalized. -/
def Vn (r : Fin 16384) (l : Fin 1024) : EReal := m ((c : Thread nD τ).loc main_arg2) (ix2 r l)
/-- The queries. -/
def Q (r : Fin 16384) (l : Fin 1024) : EReal := m ((c : Thread nD τ).loc main_arg3) (ix2 r l)
/-- The keys. -/
def K (r : Fin 16384) (l : Fin 256) : EReal := m ((c : Thread nD τ).loc main_arg4) (ix2 r l)
/-- The values. -/
def Vv (r : Fin 16384) (l : Fin 256) : EReal := m ((c : Thread nD τ).loc main_arg5) (ix2 r l)
/-- The heads' sinks. -/
def Sk (b : Fin 8) : EReal := m ((c : Thread nD τ).loc main_arg6) (ix2 0 b)
/-- The spatial weights. -/
def Ws (b : Fin 8) (p d : Fin 128) : EReal := m ((c : Thread nD τ).loc main_arg7) (ix4 0 b p d)
/-- The spatial biases. -/
def Bs (b : Fin 8) (p : Fin 128) : EReal := m ((c : Thread nD τ).loc main_arg8) (ix3 0 b p)
/-- The gating branch's gain. -/
def Ga (l : Fin 1024) : EReal := m ((c : Thread nD τ).loc main_arg9) (ix2 0 l)
/-- The attention branch's gain. -/
def Gb (l : Fin 1024) : EReal := m ((c : Thread nD τ).loc main_arg10) (ix2 0 l)
/-- The output weight. -/
def Wo (j l : Fin 2048) : EReal := m ((c : Thread nD τ).loc main_arg11) (ix3 0 j l)

theorem sink_arr (b : Fin 8) : V m c main_v4 (ix1 b) = Sk m c b := by
  entry_read
  pointwise
  rfl

theorem ws_arr (b : Fin 8) (p d : Fin 128) : V m c main_v6 (ix3 b p d) = Ws m c b p d := by
  entry_read
  exact shapeCast_apply _ shapeCasts_S1x8x128x128_S8x128x128 (ix3 b p d) (ix4 0 b p d)
    (by rw [Shape.rowMajor_val_four, Shape.rowMajor_val_three]; show ((0 * 8 + b.val) * 128 + p.val) * 128 + d.val = (b.val * 128 + p.val) * 128 + d.val; omega)

theorem bs_arr (b : Fin 8) (p d : Fin 128) : V m c main_v3 (ix3 b p d) = Bs m c b p := by
  entry_read
  pointwise
  rfl

theorem ga_arr (l : Fin 1024) : V m c main_v8 (ix2 0 l) = Ga m c l := by
  entry_read
  pointwise
  rfl

theorem gb_arr (l : Fin 1024) : V m c main_v10 (ix2 0 l) = Gb m c l := by
  entry_read
  pointwise
  rfl

theorem wo_arr (j l : Fin 2048) : V m c main_v12 (ix2 j l) = Wo m c j l := by
  entry_read
  exact shapeCast_apply _ shapeCasts_S1x2048x2048_S2048x2048 (ix2 j l) (ix3 0 j l)
    (by rw [Shape.rowMajor_val_three, Shape.rowMajor_val_two]; show (0 * 2048 + j.val) * 2048 + l.val = j.val * 2048 + l.val; omega)

/-- Where each window's block lies at tile `t`. -/
theorem idx :
    ∀ t : Fin grid0.N, (win0_0.index t 0 = 0)
      ∧ (win0_1.index t 0 = t.val ∧ win0_1.index t 1 = 0)
      ∧ (win0_2.index t 0 = t.val ∧ win0_2.index t 1 = 0)
      ∧ (win0_3.index t 0 = t.val ∧ win0_3.index t 1 = 0)
      ∧ (win0_4.index t 0 = t.val ∧ win0_4.index t 1 = 0)
      ∧ (win0_5.index t 0 = t.val ∧ win0_5.index t 1 = 0)
      ∧ (win0_6.index t 0 = t.val ∧ win0_6.index t 1 = 0)
      ∧ (win0_7.index t 0 = 4 * t.val - 1 ∧ win0_7.index t 1 = 0)
      ∧ (win0_8.index t 0 = 4 * t.val - 1 ∧ win0_8.index t 1 = 0)
      ∧ (win0_9.index t 0 = min (4 * t.val + 4) 127 ∧ win0_9.index t 1 = 0)
      ∧ (win0_10.index t 0 = min (4 * t.val + 4) 127 ∧ win0_10.index t 1 = 0)
      ∧ (win0_11.index t 0 = 0 ∧ win0_11.index t 1 = 0 ∧ win0_11.index t 2 = 0)
      ∧ (win0_12.index t 0 = 0 ∧ win0_12.index t 1 = 0 ∧ win0_12.index t 2 = 0)
      ∧ (win0_13.index t 0 = 0 ∧ win0_13.index t 1 = 0)
      ∧ (win0_14.index t 0 = 0 ∧ win0_14.index t 1 = 0)
      ∧ (win0_15.index t 0 = 0 ∧ win0_15.index t 1 = 0)
      ∧ (win0_16.index t 0 = t.val ∧ win0_16.index t 1 = 0) := by
  decide +kernel

theorem sink_blk (t : Fin cfg0.N) (b : Fin 8) : iblk m c 0 t (ix1 b) = Sk m c b := by
  obtain ⟨e0, -⟩ := idx t
  rw [← sink_arr]
  unfold iblk
  rw [View.read_apply]
  show V m c main_v4 _ = _
  congr 1
  funext a
  apply Fin.ext
  match a with
  | ⟨0, _⟩ => show win0_0.index t 0 * 8 + 1 * b.val = b.val; rw [e0]; omega

theorem h_blk (t : Fin cfg0.N) (r : Fin 512) (l : Fin 2048) : iblk m c 1 t (ix2 r l) = H m c (row t r) l := by
  obtain ⟨-, ⟨e0, e1⟩, -⟩ := idx t
  unfold iblk
  rw [View.read_apply]
  show V m c main_arg0 _ = _
  rw [V_main_arg0]
  show _ = m ((c : Thread nD τ).loc main_arg0) _
  congr 1
  funext a
  apply Fin.ext
  match a with
  | ⟨0, _⟩ => show win0_1.index t 0 * 512 + 1 * r.val = 512 * t.val + r.val; rw [e0]; omega
  | ⟨1, _⟩ => show win0_1.index t 1 * 2048 + 1 * l.val = l.val; rw [e1]; omega

theorem u_blk (t : Fin cfg0.N) (r : Fin 512) (l : Fin 1024) : iblk m c 2 t (ix2 r l) = U m c (row t r) l := by
  obtain ⟨-, -, ⟨e0, e1⟩, -⟩ := idx t
  unfold iblk
  rw [View.read_apply]
  show V m c main_arg1 _ = _
  rw [V_main_arg1]
  show _ = m ((c : Thread nD τ).loc main_arg1) _
  congr 1
  funext a
  apply Fin.ext
  match a with
  | ⟨0, _⟩ => show win0_2.index t 0 * 512 + 1 * r.val = 512 * t.val + r.val; rw [e0]; omega
  | ⟨1, _⟩ => show win0_2.index t 1 * 1024 + 1 * l.val = l.val; rw [e1]; omega

theorem vn_blk (t : Fin cfg0.N) (r : Fin 512) (l : Fin 1024) : iblk m c 3 t (ix2 r l) = Vn m c (row t r) l := by
  obtain ⟨-, -, -, ⟨e0, e1⟩, -⟩ := idx t
  unfold iblk
  rw [View.read_apply]
  show V m c main_arg2 _ = _
  rw [V_main_arg2]
  show _ = m ((c : Thread nD τ).loc main_arg2) _
  congr 1
  funext a
  apply Fin.ext
  match a with
  | ⟨0, _⟩ => show win0_3.index t 0 * 512 + 1 * r.val = 512 * t.val + r.val; rw [e0]; omega
  | ⟨1, _⟩ => show win0_3.index t 1 * 1024 + 1 * l.val = l.val; rw [e1]; omega

theorem q_blk (t : Fin cfg0.N) (r : Fin 512) (l : Fin 1024) : iblk m c 4 t (ix2 r l) = Q m c (row t r) l := by
  obtain ⟨-, -, -, -, ⟨e0, e1⟩, -⟩ := idx t
  unfold iblk
  rw [View.read_apply]
  show V m c main_arg3 _ = _
  rw [V_main_arg3]
  show _ = m ((c : Thread nD τ).loc main_arg3) _
  congr 1
  funext a
  apply Fin.ext
  match a with
  | ⟨0, _⟩ => show win0_4.index t 0 * 512 + 1 * r.val = 512 * t.val + r.val; rw [e0]; omega
  | ⟨1, _⟩ => show win0_4.index t 1 * 1024 + 1 * l.val = l.val; rw [e1]; omega

theorem k_blk (t : Fin cfg0.N) (r : Fin 512) (l : Fin 256) : iblk m c 5 t (ix2 r l) = K m c (row t r) l := by
  obtain ⟨-, -, -, -, -, ⟨e0, e1⟩, -⟩ := idx t
  unfold iblk
  rw [View.read_apply]
  show V m c main_arg4 _ = _
  rw [V_main_arg4]
  show _ = m ((c : Thread nD τ).loc main_arg4) _
  congr 1
  funext a
  apply Fin.ext
  match a with
  | ⟨0, _⟩ => show win0_5.index t 0 * 512 + 1 * r.val = 512 * t.val + r.val; rw [e0]; omega
  | ⟨1, _⟩ => show win0_5.index t 1 * 256 + 1 * l.val = l.val; rw [e1]; omega

theorem v_blk (t : Fin cfg0.N) (r : Fin 512) (l : Fin 256) : iblk m c 6 t (ix2 r l) = Vv m c (row t r) l := by
  obtain ⟨-, -, -, -, -, -, ⟨e0, e1⟩, -⟩ := idx t
  unfold iblk
  rw [View.read_apply]
  show V m c main_arg5 _ = _
  rw [V_main_arg5]
  show _ = m ((c : Thread nD τ).loc main_arg5) _
  congr 1
  funext a
  apply Fin.ext
  match a with
  | ⟨0, _⟩ => show win0_6.index t 0 * 512 + 1 * r.val = 512 * t.val + r.val; rw [e0]; omega
  | ⟨1, _⟩ => show win0_6.index t 1 * 256 + 1 * l.val = l.val; rw [e1]; omega

theorem kprev_blk (t : Fin cfg0.N) (r : Fin 128) (l : Fin 256) : iblk m c 7 t (ix2 r l) = K m c (rowPrev t r) l := by
  obtain ⟨-, -, -, -, -, -, -, ⟨e0, e1⟩, -⟩ := idx t
  unfold iblk
  rw [View.read_apply]
  show V m c main_arg4 _ = _
  rw [V_main_arg4]
  show _ = m ((c : Thread nD τ).loc main_arg4) _
  congr 1
  funext a
  apply Fin.ext
  match a with
  | ⟨0, _⟩ => show win0_7.index t 0 * 128 + 1 * r.val = 128 * (4 * t.val - 1) + r.val; rw [e0]; omega
  | ⟨1, _⟩ => show win0_7.index t 1 * 256 + 1 * l.val = l.val; rw [e1]; omega

theorem vprev_blk (t : Fin cfg0.N) (r : Fin 128) (l : Fin 256) : iblk m c 8 t (ix2 r l) = Vv m c (rowPrev t r) l := by
  obtain ⟨-, -, -, -, -, -, -, -, ⟨e0, e1⟩, -⟩ := idx t
  unfold iblk
  rw [View.read_apply]
  show V m c main_arg5 _ = _
  rw [V_main_arg5]
  show _ = m ((c : Thread nD τ).loc main_arg5) _
  congr 1
  funext a
  apply Fin.ext
  match a with
  | ⟨0, _⟩ => show win0_8.index t 0 * 128 + 1 * r.val = 128 * (4 * t.val - 1) + r.val; rw [e0]; omega
  | ⟨1, _⟩ => show win0_8.index t 1 * 256 + 1 * l.val = l.val; rw [e1]; omega

theorem knext_blk (t : Fin cfg0.N) (r : Fin 128) (l : Fin 256) : iblk m c 9 t (ix2 r l) = K m c (rowNext t r) l := by
  obtain ⟨-, -, -, -, -, -, -, -, -, ⟨e0, e1⟩, -⟩ := idx t
  unfold iblk
  rw [View.read_apply]
  show V m c main_arg4 _ = _
  rw [V_main_arg4]
  show _ = m ((c : Thread nD τ).loc main_arg4) _
  congr 1
  funext a
  apply Fin.ext
  match a with
  | ⟨0, _⟩ => show win0_9.index t 0 * 128 + 1 * r.val = 128 * min (4 * t.val + 4) 127 + r.val; rw [e0]; omega
  | ⟨1, _⟩ => show win0_9.index t 1 * 256 + 1 * l.val = l.val; rw [e1]; omega

theorem vnext_blk (t : Fin cfg0.N) (r : Fin 128) (l : Fin 256) : iblk m c 10 t (ix2 r l) = Vv m c (rowNext t r) l := by
  obtain ⟨-, -, -, -, -, -, -, -, -, -, ⟨e0, e1⟩, -⟩ := idx t
  unfold iblk
  rw [View.read_apply]
  show V m c main_arg5 _ = _
  rw [V_main_arg5]
  show _ = m ((c : Thread nD τ).loc main_arg5) _
  congr 1
  funext a
  apply Fin.ext
  match a with
  | ⟨0, _⟩ => show win0_10.index t 0 * 128 + 1 * r.val = 128 * min (4 * t.val + 4) 127 + r.val; rw [e0]; omega
  | ⟨1, _⟩ => show win0_10.index t 1 * 256 + 1 * l.val = l.val; rw [e1]; omega

theorem ws_blk (t : Fin cfg0.N) (b : Fin 8) (p d : Fin 128) : iblk m c 11 t (ix3 b p d) = Ws m c b p d := by
  obtain ⟨-, -, -, -, -, -, -, -, -, -, -, ⟨e0, e1, e2⟩, -⟩ := idx t
  rw [← ws_arr]
  unfold iblk
  rw [View.read_apply]
  show V m c main_v6 _ = _
  congr 1
  funext a
  apply Fin.ext
  match a with
  | ⟨0, _⟩ => show win0_11.index t 0 * 8 + 1 * b.val = b.val; rw [e0]; omega
  | ⟨1, _⟩ => show win0_11.index t 1 * 128 + 1 * p.val = p.val; rw [e1]; omega
  | ⟨2, _⟩ => show win0_11.index t 2 * 128 + 1 * d.val = d.val; rw [e2]; omega

theorem bs_blk (t : Fin cfg0.N) (b : Fin 8) (p d : Fin 128) : iblk m c 12 t (ix3 b p d) = Bs m c b p := by
  obtain ⟨-, -, -, -, -, -, -, -, -, -, -, -, ⟨e0, e1, e2⟩, -⟩ := idx t
  rw [← bs_arr _ _ b p d]
  unfold iblk
  rw [View.read_apply]
  show V m c main_v3 _ = _
  congr 1
  funext a
  apply Fin.ext
  match a with
  | ⟨0, _⟩ => show win0_12.index t 0 * 8 + 1 * b.val = b.val; rw [e0]; omega
  | ⟨1, _⟩ => show win0_12.index t 1 * 128 + 1 * p.val = p.val; rw [e1]; omega
  | ⟨2, _⟩ => show win0_12.index t 2 * 128 + 1 * d.val = d.val; rw [e2]; omega

theorem ga_blk (t : Fin cfg0.N) (l : Fin 1024) : iblk m c 13 t (ix2 0 l) = Ga m c l := by
  obtain ⟨-, -, -, -, -, -, -, -, -, -, -, -, -, ⟨e0, e1⟩, -⟩ := idx t
  rw [← ga_arr]
  unfold iblk
  rw [View.read_apply]
  show V m c main_v8 _ = _
  congr 1
  funext a
  apply Fin.ext
  match a with
  | ⟨0, _⟩ => show win0_13.index t 0 * 1 + 1 * 0 = 0; rw [e0]
  | ⟨1, _⟩ => show win0_13.index t 1 * 1024 + 1 * l.val = l.val; rw [e1]; omega

theorem gb_blk (t : Fin cfg0.N) (l : Fin 1024) : iblk m c 14 t (ix2 0 l) = Gb m c l := by
  obtain ⟨-, -, -, -, -, -, -, -, -, -, -, -, -, -, ⟨e0, e1⟩, -⟩ := idx t
  rw [← gb_arr]
  unfold iblk
  rw [View.read_apply]
  show V m c main_v10 _ = _
  congr 1
  funext a
  apply Fin.ext
  match a with
  | ⟨0, _⟩ => show win0_14.index t 0 * 1 + 1 * 0 = 0; rw [e0]
  | ⟨1, _⟩ => show win0_14.index t 1 * 1024 + 1 * l.val = l.val; rw [e1]; omega

theorem wo_blk (t : Fin cfg0.N) (j l : Fin 2048) : iblk m c 15 t (ix2 j l) = Wo m c j l := by
  obtain ⟨-, -, -, -, -, -, -, -, -, -, -, -, -, -, -, ⟨e0, e1⟩, -⟩ := idx t
  rw [← wo_arr]
  unfold iblk
  rw [View.read_apply]
  show V m c main_v12 _ = _
  congr 1
  funext a
  apply Fin.ext
  match a with
  | ⟨0, _⟩ => show win0_15.index t 0 * 2048 + 1 * j.val = j.val; rw [e0]; omega
  | ⟨1, _⟩ => show win0_15.index t 1 * 2048 + 1 * l.val = l.val; rw [e1]; omega

/-! ## The result -/

theorem flush_all : ∀ t : Fin cfg0.N, (cfg0.win 16).flush t = true := by decide +kernel

/-- Where row `r` of tile `t` lies in the result. -/
theorem emb_out (t : Fin cfg0.N) (r : Fin 512) (l : Fin 2048) :
    ((cfg0.win 16).blk t).view.emb (ix2 r l) = (ix2 (row t r) l : S16384x2048.Idx) := by
  obtain ⟨-, -, -, -, -, -, -, -, -, -, -, -, -, -, -, -, ⟨e0, e1⟩⟩ := idx t
  funext a
  apply Fin.ext
  match a with
  | ⟨0, _⟩ => show win0_16.index t 0 * 512 + 1 * r.val = 512 * t.val + r.val; rw [e0]; omega
  | ⟨1, _⟩ => show win0_16.index t 1 * 2048 + 1 * l.val = l.val; rw [e1]; omega

/-- The kernel's result array at an element. -/
theorem result_at (hq : ∀ r l, ∃ x : ℝ, Q m c r l = x) (hk : ∀ r l, ∃ x : ℝ, K m c r l = x) (hsk : ∀ b, ∃ x : ℝ, Sk m c b = x)
    (r : Fin 16384) (l : Fin 2048) :
    (dats m 0 c).arrAt 16 cfg0.N (ix2 r l)
      = Mix.out (H m c) (U m c) (Vn m c) (Q m c) (K m c) (Vv m c) (Sk m c) (Ws m c) (Bs m c) (Ga m c) (Gb m c) (Wo m c) r l := by
  have hN : r.val / 512 < cfg0.N := lt_of_lt_of_eq (by omega : r.val / 512 < 32) (show cfg0.N = 32 from N_0).symm
  have hrow : r = row ⟨r.val / 512, hN⟩ ⟨r.val % 512, by omega⟩ := Fin.ext (by show r.val = 512 * (r.val / 512) + r.val % 512; omega)
  generalize (⟨r.val / 512, hN⟩ : Fin cfg0.N) = t at hrow
  generalize (⟨r.val % 512, by omega⟩ : Fin 512) = p at hrow
  subst hrow
  have h := congrFun ((Value.blocks16 m c t (flush_all t)).trans (Value.flushed16_A m c t)) (ix2 p l)
  rw [View.read_apply, emb_out] at h
  refine h.trans ?_
  rw [out_eq]
  exact out_tile _ _ _ _ _ _ _ _ _ _ _ _ hq hk hsk t _ _ _ _ _ _ _ _ _ _ _ _ _ _ _ _ (sink_blk m c t) (h_blk m c t) (u_blk m c t) (vn_blk m c t) (q_blk m c t)
    (k_blk m c t) (v_blk m c t) (kprev_blk m c t) (vprev_blk m c t) (knext_blk m c t) (vnext_blk m c t) (ws_blk m c t) (bs_blk m c t)
    (ga_blk m c t) (gb_blk m c t) (wo_blk m c t) p l

end Cert.MixerIdeal.Rows

end
-- ==== Proof.MixerRefScore.lean ====
/-
  The mixer's reference, read element by element: the gating, the window of keys around a row's chunk, the mask, the masked
  scores and the row that the softmax runs over (the scores, then the sink).
-/
module

public import proofs.«01_k».proof.Proof.MixerSpec
public import proofs.«01_k».proof.Proof.Word
public import proofs.«01_k».proof.Proof.Gen.MixerRefIdeal.Run
public import proofs.«01_k».proof.Proof.Gen.MixerRefIdeal.Read
public import Idealize.ShloMosaic.Lib.ValueIdxRank6
public import Idealize.ShloMosaic.Lib.Claim

@[expose] public section

set_option maxRecDepth 16384

noncomputable section

open Idealize.ShloMosaic Idealize.ShloMosaic.TcCoe Idealize.SL.Sem

namespace Cert.MixerRefIdeal.Rows

open Cert.MixerRefIdeal Cert.MixerRefIdeal.Read Cert.MixerRefIdeal.Gen

variable (x0 : (⟨S16384x2048, .f32⟩ : BufTy).Contents (Elt Ideal)) (x1 x2 x3 : (⟨S16384x1024, .bf16⟩ : BufTy).Contents (Elt Ideal))
  (x4 x5 : (⟨S16384x256, .bf16⟩ : BufTy).Contents (Elt Ideal)) (x6 : (⟨S1x8, .f32⟩ : BufTy).Contents (Elt Ideal))
  (x7 : (⟨S1x8x128x128, .f32⟩ : BufTy).Contents (Elt Ideal)) (x8 : (⟨S1x8x128, .f32⟩ : BufTy).Contents (Elt Ideal))
  (x9 x10 : (⟨S1x1024, .f32⟩ : BufTy).Contents (Elt Ideal)) (x11 : (⟨S1x2048x2048, .f32⟩ : BufTy).Contents (Elt Ideal))

/-- The gating branch's first half. -/
abbrev U (r : Fin 16384) (l : Fin 1024) : EReal := x1 (ix2 r l)
abbrev Vn (r : Fin 16384) (l : Fin 1024) : EReal := x2 (ix2 r l)
abbrev Q (r : Fin 16384) (l : Fin 1024) : EReal := x3 (ix2 r l)
abbrev K (r : Fin 16384) (l : Fin 256) : EReal := x4 (ix2 r l)
abbrev Sk (b : Fin 8) : EReal := x6 (ix2 0 b)
abbrev Ws (b : Fin 8) (p d : Fin 128) : EReal := x7 (ix4 0 b p d)
abbrev Bs (b : Fin 8) (p : Fin 128) : EReal := x8 (ix3 0 b p)
abbrev G (l : Fin 1024) : EReal := x9 (ix2 0 l)

/-- Row `p` of chunk `n`. -/
abbrev row (n p : Fin 128) : Fin 16384 := ⟨128 * n.val + p.val, by omega⟩

/-- Head `h` of group `g`. -/
abbrev hd (g : Fin 2) (h : Fin 4) : Fin 8 := ⟨4 * g.val + h.val, by omega⟩

/-- Column `d` of group `g`'s keys. -/
abbrev kcol (g : Fin 2) (d : Fin 128) : Fin 256 := ⟨128 * g.val + d.val, by omega⟩

theorem row_cut (r : Fin 16384) : ∃ n p : Fin 128, r = row n p :=
  ⟨⟨r.val / 128, by omega⟩, ⟨r.val % 128, by omega⟩, Fin.ext (by show r.val = 128 * (r.val / 128) + r.val % 128; omega)⟩

theorem col_cut (l : Fin 1024) : ∃ (b : Fin 8) (d : Fin 128), l = Mix.ofHead b d :=
  ⟨⟨l.val / 128, by omega⟩, ⟨l.val % 128, by omega⟩, Fin.ext (by show l.val = 128 * (l.val / 128) + l.val % 128; omega)⟩

theorem head_cut (b : Fin 8) : ∃ (g : Fin 2) (h : Fin 4), b = hd g h :=
  ⟨⟨b.val / 4, by omega⟩, ⟨b.val % 4, by omega⟩, Fin.ext (by show b.val = 4 * (b.val / 4) + b.val % 4; omega)⟩

/-! ## The gating -/

/-- A matrix read as a batch of one. -/
theorem seq_at {n : ℕ} (x : (⟨2, ![16384, n]⟩ : Shape).Idx → EReal) (hc : (⟨2, ![16384, n]⟩ : Shape).ShapeCasts ⟨3, ![1, 16384, n]⟩) (r : Fin 16384) (l : Fin n) :
    shapeCast ⟨3, ![1, 16384, n]⟩ x hc (ix3 0 r l) = x (ix2 r l) :=
  shapeCast_apply _ hc (ix3 0 r l) (ix2 r l)
    (by rw [Shape.rowMajor_val_three, Shape.rowMajor_val_two]; show r.val * n + l.val = (0 * 16384 + r.val) * n + l.val; rw [Nat.zero_mul, Nat.zero_add])

/-- The rows cut into chunks and the columns into heads. -/
theorem chunk_at (n p : Fin 128) (g : Fin 8) (d : Fin 128) : val_main_v6 (F := Ideal) x2 (ix5 0 n p g d) = x2 (ix2 (row n p) (Mix.ofHead g d)) := by
  unfold val_main_v6
  refine (shapeCast_apply _ _ (ix5 0 n p g d) (ix3 0 (row n p) (Mix.ofHead g d)) ?_).trans (seq_at _ _ _ _)
  rw [Shape.rowMajor_val_five, Shape.rowMajor_val_three]
  show (0 * 16384 + (128 * n.val + p.val)) * 1024 + (128 * g.val + d.val) = ((((0 * 128 + n.val) * 128 + p.val) * 8 + g.val) * 128 + d.val)
  omega

theorem weight_at (g : Fin 8) (p q : Fin 128) : val_main_v4 (F := Ideal) x7 (ix3 g p q) = x7 (ix4 0 g p q) :=
  shapeCast_apply _ _ (ix3 g p q) (ix4 0 g p q)
    (by rw [Shape.rowMajor_val_four, Shape.rowMajor_val_three]; show ((0 * 8 + g.val) * 128 + p.val) * 128 + q.val = (g.val * 128 + p.val) * 128 + q.val; omega)

theorem bias_at (g : Fin 8) (p : Fin 128) : val_main_v5 (F := Ideal) x8 (ix2 g p) = x8 (ix3 0 g p) :=
  shapeCast_apply _ _ (ix2 g p) (ix3 0 g p)
    (by rw [Shape.rowMajor_val_three, Shape.rowMajor_val_two]; show (0 * 8 + g.val) * 128 + p.val = g.val * 128 + p.val; omega)

/-- The spatial mixing of a chunk's rows. -/
theorem mixed_at (n p : Fin 128) (g : Fin 8) (d : Fin 128) :
    val_main_v12 (F := Ideal) x2 x7 x8 (ix5 0 n p g d) = ∑ q, x7 (ix4 0 g p q) * x2 (ix2 (row n q) (Mix.ofHead g d)) + x8 (ix3 0 g p) := by
  pointwise [val_main_v12, val_main_v11, val_main_v10, val_main_v9, val_main_v8, val_main_v7]
  rw [bias_at]
  exact congrArg (· + _) (Finset.sum_congr rfl fun q _ => by rw [chunk_at, weight_at, mul_comm])

theorem flat_at (n p : Fin 128) (g : Fin 8) (d : Fin 128) :
    val_main_v13 (F := Ideal) x2 x7 x8 (ix3 0 (row n p) (Mix.ofHead g d)) = val_main_v12 (F := Ideal) x2 x7 x8 (ix5 0 n p g d) := by
  unfold val_main_v13
  generalize val_main_v12 (F := Ideal) x2 x7 x8 = y
  refine shapeCast_apply _ _ (ix3 0 (row n p) (Mix.ofHead g d)) (ix5 0 n p g d) ?_
  rw [Shape.rowMajor_val_five, Shape.rowMajor_val_three]
  show ((((0 * 128 + n.val) * 128 + p.val) * 8 + g.val) * 128 + d.val) = (0 * 16384 + (128 * n.val + p.val)) * 1024 + (128 * g.val + d.val)
  omega

/-- The reference's gating. -/
theorem gate_ref (r : Fin 16384) (l : Fin 1024) :
    val_main_v14 (F := Ideal) x1 x2 x7 x8 (ix3 0 r l) = Mix.gate (U x1) (Vn x2) (Ws x7) (Bs x8) r l := by
  obtain ⟨n, p, rfl⟩ := row_cut r
  obtain ⟨g, d, rfl⟩ := col_cut l
  have hg : Mix.head (Mix.ofHead g d) = g := Fin.ext (by show (128 * g.val + d.val) / 128 = g.val; omega)
  have hp : Mix.place (row n p) = p := Fin.ext (by show (128 * n.val + p.val) % 128 = p.val; omega)
  have hm : ∀ q, Mix.mate (row n p) q = row n q := fun q => Fin.ext (by show 128 * ((128 * n.val + p.val) / 128) + q.val = 128 * n.val + q.val; omega)
  unfold Mix.gate
  rw [hg, hp]
  simp only [hm]
  show val_main_v1 (F := Ideal) x1 _ * val_main_v13 (F := Ideal) x2 x7 x8 _ = _
  rw [flat_at, mixed_at]
  exact congrArg (· * _) (seq_at _ _ _ _)

/-! ## The scores -/

theorem query_at (n p : Fin 128) (g : Fin 2) (h : Fin 4) (d : Fin 128) :
    val_main_v22 (F := Ideal) x3 (ix6 0 n p g h d) = x3 (ix2 (row n p) (Mix.ofHead (hd g h) d)) := by
  unfold val_main_v22
  refine (shapeCast_apply _ _ (ix6 0 n p g h d) (ix4 0 (row n p) (hd g h) d) ?_).trans ?_
  · rw [Shape.rowMajor_val_six, Shape.rowMajor_val_four]
    show ((0 * 16384 + (128 * n.val + p.val)) * 8 + (4 * g.val + h.val)) * 128 + d.val
      = ((((0 * 128 + n.val) * 128 + p.val) * 2 + g.val) * 4 + h.val) * 128 + d.val
    omega
  · unfold val_main_v16
    refine (shapeCast_apply _ _ (ix4 0 (row n p) (hd g h) d) (ix2 (row n p) (Mix.ofHead (hd g h) d)) ?_).trans rfl
    rw [Shape.rowMajor_val_four, Shape.rowMajor_val_two]
    show (128 * n.val + p.val) * 1024 + (128 * (4 * g.val + h.val) + d.val) = ((0 * 16384 + (128 * n.val + p.val)) * 8 + (4 * g.val + h.val)) * 128 + d.val
    omega

theorem kv_at (r : Fin 16384) (g : Fin 2) (d : Fin 128) : val_main_v18 (F := Ideal) x4 (ix4 0 r g d) = x4 (ix2 r (kcol g d)) := by
  unfold val_main_v18
  refine (shapeCast_apply _ _ (ix4 0 r g d) (ix2 r (kcol g d)) ?_).trans rfl
  rw [Shape.rowMajor_val_four, Shape.rowMajor_val_two]
  show r.val * 256 + (128 * g.val + d.val) = ((0 * 16384 + r.val) * 2 + g.val) * 128 + d.val
  omega

/-- The keys (or values) with 128 rows of zeros before and after, at row `R`. -/
def padded (R : ℕ) (c : Fin 256) : EReal := if h : 128 ≤ R ∧ R - 128 < 16384 then x4 (ix2 ⟨R - 128, h.2⟩ c) else FloatOps.sitofp (F := Ideal) .f32 (0#32)

theorem pad_at (R : Fin 16640) (g : Fin 2) (d : Fin 128) : val_main_v23 (F := Ideal) x4 (ix4 0 R g d) = padded x4 R.val (kcol g d) := by
  pointwise [val_main_v23, val_main_call0_v0, val_main_c]
  unfold padded
  exact dite_congr rfl (fun h => kv_at _ _ _ _) fun h => rfl

theorem blocks_at (n : Fin 130) (p : Fin 128) (g : Fin 2) (d : Fin 128) :
    val_main_v24 (F := Ideal) x4 (ix5 0 n p g d) = padded x4 (128 * n.val + p.val) (kcol g d) := by
  unfold val_main_v24
  refine (shapeCast_apply _ _ (ix5 0 n p g d) (ix4 0 ⟨128 * n.val + p.val, by omega⟩ g d) ?_).trans (pad_at _ _ _ _)
  rw [Shape.rowMajor_val_five, Shape.rowMajor_val_four]
  show ((0 * 16640 + (128 * n.val + p.val)) * 2 + g.val) * 128 + d.val = (((0 * 130 + n.val) * 128 + p.val) * 2 + g.val) * 128 + d.val
  omega

/-- A chunk's window of keys: its own rows, those of the chunk before and those of the chunk after. -/
theorem around_at (n : Fin 128) (j : Fin 384) (g : Fin 2) (d : Fin 128) :
    val_main_v28 (F := Ideal) x4 (ix5 0 n j g d) = padded x4 (128 * n.val + j.val) (kcol g d) := by
  pointwise [val_main_v28, val_main_v25, val_main_v26, val_main_v27]
  split
  next h1 =>
    rw [blocks_at]
  next h1 =>
    split
    next h2 =>
      rw [blocks_at]
      exact congrArg (padded x4 · _) (by dsimp only; omega)
    next h2 =>
      rw [blocks_at]
      exact congrArg (padded x4 · _) (by dsimp only; omega)

theorem around_values (n : Fin 128) (j : Fin 384) (g : Fin 2) (d : Fin 128) :
    val_main_v34 (F := Ideal) x5 (ix5 0 n j g d) = padded x5 (128 * n.val + j.val) (kcol g d) := around_at x5 n j g d

/-- Where a row sees a key, the padded keys hold the key's row. -/
theorem padded_seen (n p : Fin 128) (j : Fin 384) (c : Fin 256) (hs : Mix.Sees (row n p) j) :
    padded x4 (128 * n.val + j.val) c = x4 (ix2 (Mix.key (row n p) j) c) := by
  have hr : (128 * n.val + p.val) / 128 = n.val := by omega
  have h1 : 128 ≤ 128 * ((128 * n.val + p.val) / 128) + j.val := hs.2.1
  have h2 : 128 * ((128 * n.val + p.val) / 128) + j.val < 16512 := hs.2.2
  rw [hr] at h1 h2
  unfold padded
  rw [dif_pos ⟨h1, by omega⟩]
  refine congrArg (fun R => x4 (ix2 R c)) (Fin.ext ?_)
  show 128 * n.val + j.val - 128 = min (128 * ((128 * n.val + p.val) / 128) + j.val - 128) 16383
  rw [hr]; omega

/-- The mask: a key at most 128 rows away and inside the sequence. -/
theorem mask_at (n p : Fin 128) (j : Fin 384) : val_main_v72 (F := Ideal) (ix3 n p j) = 1#1 ↔ Mix.Sees (row n p) j := by
  have e : val_main_v72 (F := Ideal) (ix3 n p j) = IntOp.andi
      (IntOp.andi
        (IntOp.cmpi .sle
          (IntOp.absi
            (IntOp.subi (IntOp.addi (IntOp.subi (IntOp.muli (BitVec.ofNat 32 n.val) 128#32) 128#32) (BitVec.ofNat 32 j.val))
              (IntOp.addi (IntOp.muli (BitVec.ofNat 32 n.val) 128#32) (BitVec.ofNat 32 p.val))))
          128#32)
        (IntOp.cmpi .sge (IntOp.addi (IntOp.subi (IntOp.muli (BitVec.ofNat 32 n.val) 128#32) 128#32) (BitVec.ofNat 32 j.val)) 0#32))
      (IntOp.cmpi .slt (IntOp.addi (IntOp.subi (IntOp.muli (BitVec.ofNat 32 n.val) 128#32) 128#32) (BitVec.ofNat 32 j.val)) 16384#32) := by
    pointwise [val_main_v72, val_main_v67, val_main_v66, val_main_v65, val_main_v71, val_main_v70, val_main_v62, val_main_v61, val_main_v60,
      val_main_v59, val_main_v58, val_main_v57, val_main_v56, val_main_v55, val_main_v54, val_main_v53, val_main_v52, val_main_v51, val_main_v50,
      val_main_v49, val_main_v48, val_main_v47, val_main_v46, val_main_v45, val_main_v44, val_main_v43, val_main_v42, val_main_v41, val_main_v40,
      val_main_v39, val_main_c_1, val_main_c_2, val_main_c_3, val_main_c_4, val_main_c_5, val_main_v63, val_main_v64, val_main_v68, val_main_v69]
  have hn := n.isLt
  have hp := p.isLt
  have hj := j.isLt
  have hq : IntOp.addi (IntOp.muli (BitVec.ofNat 32 n.val) 128#32) (BitVec.ofNat 32 p.val) = BitVec.ofInt 32 (n.val * 128 + p.val) := by
    show BitVec.ofNat 32 n.val * BitVec.ofNat 32 128 + BitVec.ofNat 32 p.val = _
    rw [← BitVec.ofNat_mul, ← BitVec.ofNat_add, Word.ofNat_eq]
    norm_cast
  have hk : IntOp.addi (IntOp.subi (IntOp.muli (BitVec.ofNat 32 n.val) 128#32) 128#32) (BitVec.ofNat 32 j.val)
      = BitVec.ofInt 32 ((n.val * 128 : ℤ) - 128 + j.val) := by
    show BitVec.ofNat 32 n.val * BitVec.ofNat 32 128 - BitVec.ofInt 32 128 + BitVec.ofNat 32 j.val = _
    rw [← BitVec.ofNat_mul, Word.ofNat_eq, Word.ofNat_eq, Word.sub_eq, ← BitVec.ofInt_add]
    norm_cast
  rw [e, hk, hq, show IntOp.subi (BitVec.ofInt 32 ((n.val * 128 : ℤ) - 128 + j.val)) (BitVec.ofInt 32 (n.val * 128 + p.val))
      = BitVec.ofInt 32 ((j.val : ℤ) - 128 - p.val) from (Word.sub_eq _ _).trans (congrArg _ (by ring)), Word.abs_eq (by omega) (by omega),
    Word.and_iff, Word.and_iff]
  have a1 : IntOp.cmpi .sle (BitVec.ofInt 32 |(j.val : ℤ) - 128 - p.val|) 128#32 = 1#1 ↔ |(j.val : ℤ) - 128 - p.val| ≤ 128 :=
    Word.sle_iff (b := 128) (by have := abs_nonneg ((j.val : ℤ) - 128 - p.val); omega) (abs_lt.mpr ⟨by omega, by omega⟩) (by omega) (by omega)
  have a2 : IntOp.cmpi .sge (BitVec.ofInt 32 ((n.val * 128 : ℤ) - 128 + j.val)) 0#32 = 1#1 ↔ (0 : ℤ) ≤ (n.val * 128 : ℤ) - 128 + j.val :=
    Word.sle_iff (a := 0) (by omega) (by omega) (by omega) (by omega)
  have a3 : IntOp.cmpi .slt (BitVec.ofInt 32 ((n.val * 128 : ℤ) - 128 + j.val)) 16384#32 = 1#1 ↔ (n.val * 128 : ℤ) - 128 + j.val < 16384 :=
    Word.slt_iff (b := 16384) (by omega) (by omega) (by omega) (by omega)
  rw [a1, a2, a3, abs_le]
  show _ ↔ ((128 * n.val + p.val) % 128 ≤ j.val ∧ j.val ≤ (128 * n.val + p.val) % 128 + 256)
    ∧ (128 ≤ 128 * ((128 * n.val + p.val) / 128) + j.val ∧ 128 * ((128 * n.val + p.val) / 128) + j.val < 16512)
  rw [show (128 * n.val + p.val) / 128 = n.val by omega, show (128 * n.val + p.val) % 128 = p.val by omega]
  omega

theorem bot_bits : Ideal.ofBits .f32 0xFF800000#32 = ⊥ := by
  simp [Ideal.ofBits, Ideal.ieee]

/-- The reference's masked scores. -/
theorem score_ref (n p : Fin 128) (g : Fin 2) (h : Fin 4) (j : Fin 384) :
    val_main_v74 (F := Ideal) x3 x4 (ix6 0 n g h p j) = Mix.score (Q x3) (K x4) (row n p) (hd g h) j := by
  have e38 : val_main_v38 (F := Ideal) x3 x4 (ix6 0 n g h p j)
      = (∑ d, val_main_v28 (F := Ideal) x4 (ix5 0 n j g d) * val_main_v22 (F := Ideal) x3 (ix6 0 n p g h d)) * Ideal.ofBits .f32 0x3DB504F3#32 := by
    pointwise [val_main_v38, val_main_v37, val_main_cst, val_main_v36, val_main_v35]
  have e74 : val_main_v74 (F := Ideal) x3 x4 (ix6 0 n g h p j)
      = Scalar.select (val_main_v72 (F := Ideal) (ix3 n p j)) (val_main_v38 (F := Ideal) x3 x4 (ix6 0 n g h p j)) (Ideal.ofBits .f32 0xFF800000#32) := by
    pointwise [val_main_v74, val_main_call2_v0, val_main_call2_v1, val_main_call2_v2, val_main_cst_6, val_main_v73]
    rfl
  rw [e74, e38, bot_bits]
  unfold Mix.score
  by_cases hs : Mix.Sees (row n p) j
  · rw [if_pos hs]
    refine (if_pos ((mask_at n p j).mpr hs)).trans (congrArg (· * _) (Finset.sum_congr rfl fun d _ => ?_))
    rw [around_at, query_at, padded_seen x4 n p j _ hs, mul_comm]
    refine congrArg (fun c => _ * x4 (ix2 _ c)) (Fin.ext ?_)
    show 128 * g.val + d.val = 128 * ((4 * g.val + h.val) / 4) + d.val
    omega
  · rw [if_neg hs]
    exact if_neg fun e => hs ((mask_at n p j).mp e)

/-! ## The weights -/

theorem sink_ref (n p : Fin 128) (g : Fin 2) (h : Fin 4) : val_main_v77 (F := Ideal) x6 (ix6 0 n g h p 0) = Sk x6 (hd g h) := by
  pointwise [val_main_v77, val_main_v76, val_main_v75, val_main_v21]
  exact congrArg (fun b => x6 (ix2 0 b)) (Fin.ext (by show g.val * 4 + h.val = 4 * g.val + h.val; omega))

/-- The row of the softmax: the scores, then the sink. -/
theorem both_ref (n p : Fin 128) (g : Fin 2) (h : Fin 4) (j : Fin 385) :
    val_main_v78 (F := Ideal) x3 x4 x6 (ix6 0 n g h p j)
      = if hj : j.val < 384 then Mix.score (Q x3) (K x4) (row n p) (hd g h) ⟨j.val, hj⟩ else Sk x6 (hd g h) := by
  pointwise [val_main_v78]
  refine dite_congr rfl (fun hj => score_ref x3 x4 n p g h _) fun hj => ?_
  rw [← sink_ref x6 n p g h]
  exact congrArg (fun z => val_main_v77 (F := Ideal) x6 (ix6 0 n g h p z)) (Fin.ext (by show j.val - 384 = 0; omega))

end Cert.MixerRefIdeal.Rows
end
-- ==== Proof.MixerRef.lean ====
/-
  The mixer's reference, read element by element: the softmax with a sink, the attention, the two norms and the output projection.
-/
module

public import proofs.«01_k».proof.Proof.MixerSpec
public import proofs.«01_k».proof.Proof.Word
public import proofs.«01_k».proof.Proof.MixerRefScore
public import proofs.«01_k».proof.Proof.Gen.MixerRefIdeal.Run
public import proofs.«01_k».proof.Proof.Gen.MixerRefIdeal.Read
public import Idealize.ShloMosaic.Lib.ValueIdxRank6
public import Idealize.ShloMosaic.Lib.Claim

@[expose] public section

set_option maxRecDepth 16384

noncomputable section

open Idealize.ShloMosaic Idealize.ShloMosaic.TcCoe Idealize.SL.Sem

namespace Cert.MixerRefIdeal.Rows

open Cert.MixerRefIdeal Cert.MixerRefIdeal.Read Cert.MixerRefIdeal.Gen

variable (x0 : (⟨S16384x2048, .f32⟩ : BufTy).Contents (Elt Ideal)) (x1 x2 x3 : (⟨S16384x1024, .bf16⟩ : BufTy).Contents (Elt Ideal))
  (x4 x5 : (⟨S16384x256, .bf16⟩ : BufTy).Contents (Elt Ideal)) (x6 : (⟨S1x8, .f32⟩ : BufTy).Contents (Elt Ideal))
  (x7 : (⟨S1x8x128x128, .f32⟩ : BufTy).Contents (Elt Ideal)) (x8 : (⟨S1x8x128, .f32⟩ : BufTy).Contents (Elt Ideal))
  (x9 x10 : (⟨S1x1024, .f32⟩ : BufTy).Contents (Elt Ideal)) (x11 : (⟨S1x2048x2048, .f32⟩ : BufTy).Contents (Elt Ideal))

/-- The largest of 385 values is the larger of the first 384 and the last. -/
theorem last_cases (f : Fin 385 → EReal) : Finset.univ.fold max ⊥ f = max (Finset.univ.fold max ⊥ fun j : Fin 384 => f j.castSucc) (f (Fin.last 384)) := by
  refine eq_of_forall_ge_iff fun c => ?_
  simp only [max_le_iff, Finset.fold_max_le, Finset.mem_univ, true_imp_iff, bot_le, true_and]
  exact Fin.forall_fin_succ'

theorem largest_at (n p : Fin 128) (g : Fin 2) (h : Fin 4) :
    val_main_v79 (F := Ideal) x3 x4 x6 (ix5 0 n g h p)
    = Finset.univ.fold max ⊥ fun j : Fin 385 => val_main_v78 (F := Ideal) x3 x4 x6 (ix6 0 n g h p j) := by
  unfold val_main_v79
  generalize val_main_v78 (F := Ideal) x3 x4 x6 = y
  refine (Host.reduce_eq_fold_single (α := EReal) max y (val_main_cst_7 (F := Ideal)) reducesTo_S1x128x2x4x128x385_S1x128x2x4x128_d5
    (by decide) h_S_ (ix5 0 n g h p)).trans ?_
  rw [← bot_bits]
  refine congrArg (fun f => Finset.fold max (Ideal.ofBits .f32 0xFF800000#32) f (Finset.univ : Finset (Fin 385))) (funext fun k => congrArg y (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

theorem clamped_at (n p : Fin 128) (g : Fin 2) (h : Fin 4) :
    val_main_v81 (F := Ideal) x3 x4 x6 (ix5 0 n g h p) = max ⊥ (val_main_v79 (F := Ideal) x3 x4 x6 (ix5 0 n g h p)) := by
  rw [val_main_v81_apply, val_main_v80_apply]
  generalize val_main_v79 (F := Ideal) x3 x4 x6 = y
  rw [← bot_bits]
  exact rfl

/-- The reference's row maximum, the sink included. -/
theorem top_ref (n p : Fin 128) (g : Fin 2) (h : Fin 4) :
    val_main_v81 (F := Ideal) x3 x4 x6 (ix5 0 n g h p) = Softmax.top (Mix.score (Q x3) (K x4) (row n p) (hd g h)) (Sk x6 (hd g h)) := by
  rw [clamped_at, max_eq_right bot_le, largest_at]
  refine (last_cases _).trans ?_
  simp only [both_ref]
  unfold Softmax.top
  refine congrArg₂ max (congrArg (fun f => Finset.fold max ⊥ f Finset.univ) (funext fun j => ?_)) ?_
  · rw [dif_pos (by show j.val < 384; omega)]; rfl
  · rw [dif_neg (by decide)]

/-- The exponentials: those of the scores, then the sink's. -/
theorem weight_ref (n p : Fin 128) (g : Fin 2) (h : Fin 4) (j : Fin 385) :
    val_main_v85 (F := Ideal) x3 x4 x6 (ix6 0 n g h p j)
      = if hj : j.val < 384 then Softmax.weight (Mix.score (Q x3) (K x4) (row n p) (hd g h)) (Sk x6 (hd g h)) ⟨j.val, hj⟩
        else Ideal.exp (Sk x6 (hd g h) - Softmax.top (Mix.score (Q x3) (K x4) (row n p) (hd g h)) (Sk x6 (hd g h))) := by
  have e : val_main_v85 (F := Ideal) x3 x4 x6 (ix6 0 n g h p j)
      = Ideal.exp (val_main_v78 (F := Ideal) x3 x4 x6 (ix6 0 n g h p j) - val_main_v81 (F := Ideal) x3 x4 x6 (ix5 0 n g h p)) := by
    pointwise [val_main_v85, val_main_v84, val_main_v83, val_main_v82]
  rw [e, both_ref, top_ref]
  split <;> rfl

/-- The softmax's denominator. -/
theorem total_ref (n p : Fin 128) (g : Fin 2) (h : Fin 4) :
    val_main_v86 (F := Ideal) x3 x4 x6 (ix5 0 n g h p) = Softmax.total (Mix.score (Q x3) (K x4) (row n p) (hd g h)) (Sk x6 (hd g h)) := by
  rw [val_main_v86_apply]
  have e : ∀ j, val_main_v85 (F := Ideal) x3 x4 x6 (idx_main_v86 (ix5 0 n g h p) j) = val_main_v85 (F := Ideal) x3 x4 x6 (ix6 0 n g h p j) := fun j =>
    congrArg _ (funext fun a => by
      match a with
      | ⟨0, _⟩ => rfl
      | ⟨1, _⟩ => rfl
      | ⟨2, _⟩ => rfl
      | ⟨3, _⟩ => rfl
      | ⟨4, _⟩ => rfl
      | ⟨5, _⟩ => rfl)
  simp only [e, weight_ref]
  rw [Fin.sum_univ_castSucc]
  refine (congrArg (· + _) (Ideal.ofBits_zero_f32)).trans ?_
  rw [zero_add]
  unfold Softmax.total
  refine congrArg₂ (· + ·) (Finset.sum_congr rfl fun j _ => ?_) ?_
  · rw [dif_pos (by show j.val < 384; omega)]; rfl
  · rw [dif_neg (by decide)]

/-- The softmax's weights. -/
theorem prob_ref (n p : Fin 128) (g : Fin 2) (h : Fin 4) (j : Fin 384) :
    val_main_v90 (F := Ideal) x3 x4 x6 (ix6 0 n g h p j)
      = Ideal.div (Softmax.weight (Mix.score (Q x3) (K x4) (row n p) (hd g h)) (Sk x6 (hd g h)) j)
          (Softmax.total (Mix.score (Q x3) (K x4) (row n p) (hd g h)) (Sk x6 (hd g h))) := by
  have e : val_main_v90 (F := Ideal) x3 x4 x6 (ix6 0 n g h p j)
      = Ideal.div (val_main_v85 (F := Ideal) x3 x4 x6 (ix6 0 n g h p ⟨j.val, by omega⟩)) (val_main_v86 (F := Ideal) x3 x4 x6 (ix5 0 n g h p)) := by
    pointwise [val_main_v90, val_main_v89, val_main_v88, val_main_v87]
  rw [e, total_ref, weight_ref, dif_pos j.isLt]

/-! ## The attention -/

theorem heads_at (n p : Fin 128) (g : Fin 2) (h : Fin 4) (d : Fin 128) :
    val_main_v93 (F := Ideal) x3 x4 x5 x6 (ix3 0 (row n p) (Mix.ofHead (hd g h) d)) = val_main_v92 (F := Ideal) x3 x4 x5 x6 (ix6 0 n p g h d) := by
  unfold val_main_v93
  generalize val_main_v92 (F := Ideal) x3 x4 x5 x6 = y
  refine shapeCast_apply _ _ (ix3 0 (row n p) (Mix.ofHead (hd g h) d)) (ix6 0 n p g h d) ?_
  rw [Shape.rowMajor_val_six, Shape.rowMajor_val_three]
  show ((((0 * 128 + n.val) * 128 + p.val) * 2 + g.val) * 4 + h.val) * 128 + d.val
    = (0 * 16384 + (128 * n.val + p.val)) * 1024 + (128 * (4 * g.val + h.val) + d.val)
  omega

/-- The reference's attention. -/
theorem att_ref (hq : ∀ r l, ∃ x : ℝ, Q x3 r l = x) (hk : ∀ r l, ∃ x : ℝ, K x4 r l = x) (hsk : ∀ b, ∃ x : ℝ, Sk x6 b = x)
    (r : Fin 16384) (l : Fin 1024) :
    val_main_v93 (F := Ideal) x3 x4 x5 x6 (ix3 0 r l) = Mix.att (Q x3) (K x4) (K x5) (Sk x6) r l := by
  obtain ⟨n, p, rfl⟩ := row_cut r
  obtain ⟨b, d, rfl⟩ := col_cut l
  obtain ⟨g, h, rfl⟩ := head_cut b
  have hb : Mix.head (Mix.ofHead (hd g h) d) = hd g h := Fin.ext (by show (128 * (4 * g.val + h.val) + d.val) / 128 = 4 * g.val + h.val; omega)
  have e : val_main_v92 (F := Ideal) x3 x4 x5 x6 (ix6 0 n p g h d)
      = ∑ j, val_main_v34 (F := Ideal) x5 (ix5 0 n j g d) * val_main_v90 (F := Ideal) x3 x4 x6 (ix6 0 n g h p j) := by
    pointwise [val_main_v92, val_main_v91]
  rw [heads_at, e]
  unfold Mix.att
  rw [hb]
  refine Eq.trans ?_ (Softmax.out_congr (fun j => padded x5 (128 * n.val + j.val) (kcol g d)) (Mix.proper _ _ hq hk _ _) (hsk _) _ fun j hj => ?_)
  · unfold Softmax.out
    exact Finset.sum_congr rfl fun j _ => by rw [around_values, prob_ref, mul_comm]
  · have hs : Mix.Sees (row n p) j := by
      by_contra hs
      exact hj (by unfold Mix.score; rw [if_neg hs])
    dsimp only
    rw [padded_seen x5 n p j _ hs]
    refine congrArg (fun c => x5 (ix2 _ c)) (Fin.ext ?_)
    show 128 * g.val + d.val = 128 * ((4 * g.val + h.val) / 4) + (128 * (4 * g.val + h.val) + d.val) % 128
    omega

/-! ## The norms and the projection -/

/-- The RMS norm of every row of `y`, scaled by `w`: the term of both norms of the reference. -/
def normed (y : (⟨S1x16384x1024, .f32⟩ : BufTy).Contents (Elt Ideal)) (w : (⟨S1x1024, .f32⟩ : BufTy).Contents (Elt Ideal)) :
    (⟨S1x16384x1024, .f32⟩ : BufTy).Contents (Elt Ideal) :=
  mulf (F := Ideal) (φ := .f32)
      (mulf (F := Ideal) (φ := .f32) y
        (broadcastInDim S1x16384x1024 ![0, 1, 2] bcast_S1x16384x1_S1x16384x1024_0_1_2
          (Host.rsqrt
            (addf
              (Host.divf
                (broadcastInDim S1x16384x1 ![0, 1] bcast_S1x16384_S1x16384x1_0_1
                  (Host.reduceAdd (F := Ideal) (φ := .f32) (mulf (F := Ideal) (φ := .f32) y y) (constant S_ FTy.f32 0x00000000#32) reducesTo_S1x16384x1024_S1x16384_d2 h_S_))
                (broadcastInDim S1x16384x1 ![] bcast_S_S1x16384x1 (constant S_ FTy.f32 0x44800000#32)))
              (broadcastInDim S1x16384x1 ![] bcast_S_S1x16384x1 (constant S_ FTy.f32 0x358637BD#32))))))
      (broadcastInDim S1x16384x1024 ![0, 1, 2] bcast_S1x1x1024_S1x16384x1024_0_1_2
        (broadcastInDim S1x1x1024 ![2] bcast_S1024_S1x1x1024_2
          (shapeCast S1024 w shapeCasts_S1x1024_S1024)))

theorem normed_at (y : (⟨S1x16384x1024, .f32⟩ : BufTy).Contents (Elt Ideal)) (w : (⟨S1x1024, .f32⟩ : BufTy).Contents (Elt Ideal)) (r : Fin 16384) (l : Fin 1024) :
    normed y w (ix3 0 r l) = Dense.rms (Ideal.ofBits .f32 0x44800000#32) (fun k => y (ix3 0 r k)) (G w) l := by
  pointwise [normed]
  rfl

theorem norm_att (r : Fin 16384) (l : Fin 1024) :
    val_main_v121 (F := Ideal) x3 x4 x5 x6 x10 (ix3 0 r l)
      = Dense.rms (Ideal.ofBits .f32 0x44800000#32) (fun k => val_main_v93 (F := Ideal) x3 x4 x5 x6 (ix3 0 r k)) (G x10) l := by
  rw [← normed_at]
  unfold val_main_v121 val_main_v120 val_main_v119 val_main_v118 val_main_v117 val_main_v116 val_main_v115 val_main_v114
    val_main_v113 val_main_v112 val_main_v111 val_main_v110 val_main_v109 val_main_v108 val_main_cst_13 val_main_cst_14 val_main_cst_15
  generalize val_main_v93 (F := Ideal) x3 x4 x5 x6 = y
  unfold normed
  rfl

theorem norm_gate (r : Fin 16384) (l : Fin 1024) :
    val_main_v107 (F := Ideal) x1 x2 x7 x8 x9 (ix3 0 r l)
      = Dense.rms (Ideal.ofBits .f32 0x44800000#32) (fun k => val_main_v14 (F := Ideal) x1 x2 x7 x8 (ix3 0 r k)) (G x9) l := by
  rw [← normed_at]
  unfold val_main_v107 val_main_v106 val_main_v105 val_main_v104 val_main_v103 val_main_v102 val_main_v101 val_main_v100 val_main_v99
    val_main_v98 val_main_v97 val_main_v96 val_main_v95 val_main_v94 val_main_cst_10 val_main_cst_11 val_main_cst_12
  generalize val_main_v14 (F := Ideal) x1 x2 x7 x8 = y
  unfold normed
  rfl

theorem wo_ref (j l : Fin 2048) : val_main_v124 (F := Ideal) x11 (ix2 j l) = x11 (ix3 0 j l) :=
  shapeCast_apply _ _ (ix2 j l) (ix3 0 j l)
    (by rw [Shape.rowMajor_val_three, Shape.rowMajor_val_two]; show (0 * 2048 + j.val) * 2048 + l.val = j.val * 2048 + l.val; omega)

/-- The two branches, each normalised, side by side. -/
theorem merged_ref (hq : ∀ r l, ∃ x : ℝ, Q x3 r l = x) (hk : ∀ r l, ∃ x : ℝ, K x4 r l = x) (hsk : ∀ b, ∃ x : ℝ, Sk x6 b = x)
    (r : Fin 16384) (j : Fin 2048) :
    val_main_v122 (F := Ideal) x1 x2 x3 x4 x5 x6 x7 x8 x9 x10 (ix3 0 r j)
      = Mix.merged (U x1) (Vn x2) (Q x3) (K x4) (K x5) (Sk x6) (Ws x7) (Bs x8) (G x9) (G x10) r j := by
  have e : val_main_v122 (F := Ideal) x1 x2 x3 x4 x5 x6 x7 x8 x9 x10 (ix3 0 r j)
      = if h : j.val < 1024 then val_main_v107 (F := Ideal) x1 x2 x7 x8 x9 (ix3 0 r ⟨j.val, h⟩)
        else val_main_v121 (F := Ideal) x3 x4 x5 x6 x10 (ix3 0 r ⟨j.val - 1024, by omega⟩) := by
    pointwise [val_main_v122]
  rw [e]
  unfold Mix.merged
  refine dite_congr rfl (fun h => ?_) fun h => ?_
  · rw [norm_gate]
    exact congrArg (fun f => Dense.rms _ f _ _) (funext fun k => gate_ref x1 x2 x7 x8 r k)
  · rw [norm_att]
    exact congrArg (fun f => Dense.rms _ f _ _) (funext fun k => att_ref x3 x4 x5 x6 hq hk hsk r k)

theorem projected_ref (r : Fin 16384) (l : Fin 2048) :
    val_main_v125 (F := Ideal) x1 x2 x3 x4 x5 x6 x7 x8 x9 x10 x11 (ix3 0 r l)
      = ∑ j, val_main_v122 (F := Ideal) x1 x2 x3 x4 x5 x6 x7 x8 x9 x10 (ix3 0 r j) * val_main_v124 (F := Ideal) x11 (ix2 j l) := by
  pointwise [val_main_v125]

theorem added_ref (r : Fin 16384) (l : Fin 2048) :
    val_main_v127 (F := Ideal) x0 x1 x2 x3 x4 x5 x6 x7 x8 x9 x10 x11 (ix2 r l)
      = x0 (ix2 r l) + val_main_v125 (F := Ideal) x1 x2 x3 x4 x5 x6 x7 x8 x9 x10 x11 (ix3 0 r l) := by
  unfold val_main_v127 val_main_v126
  generalize val_main_v125 (F := Ideal) x1 x2 x3 x4 x5 x6 x7 x8 x9 x10 x11 = y
  refine (shapeCast_apply _ _ (ix2 r l) (ix3 0 r l) (by
    rw [Shape.rowMajor_val_three, Shape.rowMajor_val_two]; show (0 * 16384 + r.val) * 2048 + l.val = r.val * 2048 + l.val; omega)).trans ?_
  exact congrArg (· + y (ix3 0 r l)) (seq_at _ _ _ _)

/-- The reference's result at an element. -/
theorem result_ref (hq : ∀ r l, ∃ x : ℝ, Q x3 r l = x) (hk : ∀ r l, ∃ x : ℝ, K x4 r l = x) (hsk : ∀ b, ∃ x : ℝ, Sk x6 b = x)
    (r : Fin 16384) (l : Fin 2048) :
    val_main_v127 (F := Ideal) x0 x1 x2 x3 x4 x5 x6 x7 x8 x9 x10 x11 (ix2 r l)
      = Mix.out (fun r l => x0 (ix2 r l)) (U x1) (Vn x2) (Q x3) (K x4) (K x5) (Sk x6) (Ws x7) (Bs x8) (G x9) (G x10) (fun j l => x11 (ix3 0 j l)) r l := by
  rw [added_ref, projected_ref]
  unfold Mix.out
  refine congrArg (_ + ·) (Finset.sum_congr rfl fun j _ => ?_)
  rw [merged_ref x1 x2 x3 x4 x5 x6 x7 x8 x9 x10 hq hk hsk, wo_ref]

end Cert.MixerRefIdeal.Rows
end
-- ==== Proof.MixerClaim.lean ====
/-
  The mixer (`Mixer`): its ideal program leaves what the reference leaves, for finite queries, keys and sinks.
-/
module

public import proofs.«01_k».proof.Proof.MixerValue
public import proofs.«01_k».proof.Proof.MixerRef
public import proofs.«01_k».proof.Defs
public import Idealize.ShloMosaic.Lib.Claim

@[expose] public section

set_option maxRecDepth 16384

noncomputable section

open Idealize.ShloMosaic Idealize.ShloMosaic.TcCoe Idealize.SL.Sem

/-- The shape relations the precondition's text takes. -/
instance Cert.Pre_finite_scores.facts : Cert.Pre_finite_scores.Facts := ⟨by decide, by decide, by decide⟩

namespace Cert.MixerIdeal.Rows

open Cert.MixerIdeal Cert.MixerIdeal.Gen

/-- What is below `+∞` in absolute value is a real number. -/
theorem real_of_abs_lt (x y : EReal) (hy : y = ⊤) (h : Ideal.cmp .olt (max x (-x)) y = 1#1) : ∃ r : ℝ, x = r := by
  subst hy
  have hlt : max x (-x) < ⊤ := by
    by_contra hn
    simp [Ideal.cmp, hn] at h
  induction x using EReal.rec with
  | bot => exact absurd hlt (by simp)
  | top => exact absurd hlt (by simp)
  | coe r => exact ⟨r, rfl⟩

theorem top_bf16 : Ideal.ofBits .bf16 0x7F80#16 = ⊤ := by simp [Ideal.ofBits, Ideal.ieee]

theorem top_f32 : Ideal.ofBits .f32 0x7F800000#32 = ⊤ := by simp [Ideal.ofBits, Ideal.ieee]

/-- The precondition, read: queries, keys and sinks are real numbers. -/
theorem finite_of_pre (m : (ℓ : Loc nD τ sig) → Buf (Elt Ideal) ℓ) (hpre : Cert.Pre_MixerIdeal_finite_scores m) (c : Dev nD) :
    (∀ r l, ∃ x : ℝ, Q m c r l = x) ∧ (∀ r l, ∃ x : ℝ, K m c r l = x) ∧ ∀ b, ∃ x : ℝ, Sk m c b = x := by
  obtain ⟨h1, h2, h3⟩ := hpre c
  exact ⟨fun r l => real_of_abs_lt _ _ top_bf16 (congrFun h1 (ix2 r l)), fun r l => real_of_abs_lt _ _ top_bf16 (congrFun h2 (ix2 r l)),
    fun b => real_of_abs_lt _ _ top_f32 (congrFun h3 (ix2 0 b))⟩

/-- The ideal kernel and the reference leave the same array, for finite queries, keys and sinks. -/
theorem algebraic : Cert.algebraic_MixerIdeal_MixerRefIdeal_pre_finite_scores
    (hMixerIdeal := Cert.MixerIdeal.Gen.facts) (hMixerRefIdeal := Cert.MixerRefIdeal.Gen.facts) (hPre_finite_scores := Cert.Pre_finite_scores.facts) := by
  pair_intro
  · run_from (Cert.MixerIdeal.Value.run_blocks (F := Ideal) m g)
  · run_from (Cert.MixerRefIdeal.Value.run (F := Ideal) m' g')
    rw [Cert.MixerRefIdeal.Read.val_main_v127_eq]
    refine funext fun i => ?_
    obtain ⟨r, l, rfl⟩ : ∃ (r : Fin 16384) (l : Fin 2048), i = ix2 r l :=
      ⟨i 0, i 1, funext fun a => by match a with | ⟨0, _⟩ => rfl | ⟨1, _⟩ => rfl⟩
    obtain ⟨e0, e1, e2, e3, e4, e5, e6, e7, e8, e9, e10, e11⟩ := hagree c
    rw [e0, e1, e2, e3, e4, e5, e6, e7, e8, e9, e10, e11]
    obtain ⟨hq, hk, hsk⟩ := finite_of_pre m hpre c
    exact (Cert.MixerRefIdeal.Rows.result_ref _ _ _ _ _ _ _ _ _ _ _ _ hq hk hsk r l).trans (result_at m c hq hk hsk r l).symm

end Cert.MixerIdeal.Rows

end
-- ==== Proof.InProjSpec.lean ====
/-
  The input projection's formulas on whole arrays, over the extended reals and free of any program: the projected columns of the
  normalised rows, the tanh form of gelu, and the rotary embedding of the first 32 of a head's 128 entries.
-/
module

public import proofs.«01_k».proof.Proof.Dense

@[expose] public section

noncomputable section

open Idealize.ShloMosaic

namespace Cert.InProj

open Cert.Dense

/-- The row length 1024 as the programs write it. -/
def len1024 : EReal := Ideal.ofBits .f32 0x44800000#32

/-- The tanh form of gelu, its two constants being the ones both programs write. -/
def gelu (s : EReal) : EReal :=
  s * (Ideal.ofBits .f32 0x3F000000#32
    * (1 + Ideal.tanh (Ideal.ofBits .f32 0x3F4C422A#32 * (s + Ideal.ofBits .f32 0x3D372713#32 * (s * s * s)))))

/-- The angle of position `r` at frequency `j` of 16: the position times `theta ^ (-2 j / 32)`. -/
def angle (r j : ℕ) : EReal :=
  FloatOps.sitofp (F := Ideal) .f32 (BitVec.ofNat 32 r)
    * Ideal.pow (Ideal.ofBits .f32 0x48F42400#32)
        (Ideal.div (-(Ideal.ofBits .f32 0x40000000#32 * FloatOps.sitofp (F := Ideal) .f32 (BitVec.ofNat 32 j)))
          (Ideal.ofBits .f32 0x42000000#32))

/-- The rotary embedding of a head's 128 entries `z` at position `r`: entry `j` of the first 16 is turned against entry `16 + j`,
    the entries from 32 on are kept. -/
def rope (r : ℕ) (z : Fin 128 → EReal) (d : Fin 128) : EReal :=
  if h : d.val < 16 then
    z d * Ideal.cos (angle r d.val) - z ⟨16 + d.val, by omega⟩ * Ideal.sin (angle r d.val)
  else if _h' : d.val < 32 then
    z d * Ideal.cos (angle r (d.val - 16)) + z ⟨d.val - 16, by omega⟩ * Ideal.sin (angle r (d.val - 16))
  else z d

/-- The table of cosines as 128 entries a row: the 16 cosines twice, then ones. -/
def cosTab (r d : ℕ) : EReal :=
  if d < 16 then Ideal.cos (angle r d) else if d < 32 then Ideal.cos (angle r (d - 16)) else 1

/-- The table of sines as 128 entries a row: the 16 sines negated, the 16 sines, then zeros. -/
def sinTab (r d : ℕ) : EReal :=
  if d < 16 then -Ideal.sin (angle r d) else if d < 32 then Ideal.sin (angle r (d - 16)) else 0

/-- Which of two neighbours, the one 16 to the right or the one 16 to the left (around the 128 entries), an entry is turned against. -/
theorem pick {α : Type} (d : Fin 128) (x y : α) :
    Scalar.select (IntOp.cmpi .slt (BitVec.ofNat 32 d.val) 16#32) x y = if d.val < 16 then x else y := by
  have h : ∀ d : Fin 128, IntOp.cmpi .slt (BitVec.ofNat 32 d.val) 16#32 = 1#1 ↔ d.val < 16 := by decide +kernel
  show (if _ = 1#1 then x else y) = _
  by_cases hd : d.val < 16
  · rw [if_pos hd, if_pos ((h d).mpr hd)]
  · rw [if_neg hd, if_neg fun e => hd ((h d).mp e)]

/-- Entry `d` of a head `z` and the neighbour it is turned against, weighted by `cs` and `sn`. -/
def turn (cs sn : EReal) (z : Fin 128 → EReal) (d : Fin 128) : EReal :=
  z d * cs + (if d.val < 16 then z ⟨(d.val + 128 - 112) % 128, by omega⟩ else z ⟨(d.val + 128 - 16) % 128, by omega⟩) * sn

/-- The rotary embedding by the two tables. -/
theorem rope_tab (r : ℕ) (z : Fin 128 → EReal) (d : Fin 128) : turn (cosTab r d.val) (sinTab r d.val) z d = rope r z d := by
  unfold turn
  unfold cosTab sinTab rope
  by_cases h : d.val < 16
  · simp only [if_pos h, dif_pos h]
    rw [mul_neg, sub_eq_add_neg]
    congr 4
    exact Fin.ext (by show (d.val + 128 - 112) % 128 = 16 + d.val; omega)
  · by_cases h' : d.val < 32
    · simp only [if_neg h, dif_neg h, if_pos h', dif_pos h']
      congr 3
      exact Fin.ext (by show (d.val + 128 - 16) % 128 = d.val - 16; omega)
    · simp only [if_neg h, dif_neg h, if_neg h', dif_neg h']
      rw [mul_one, mul_zero, add_zero]

section

variable (X : Fin 16384 → Fin 2048 → EReal) (G : Fin 2048 → EReal) (W : Fin 2048 → Fin 3584 → EReal) (Gv : Fin 1024 → EReal)

/-- The normalised row `r`. -/
def norm (r : Fin 16384) : Fin 2048 → EReal := rms len2048 (X r) G

/-- Column `l` of the projection of row `r`. -/
def proj (r : Fin 16384) (l : Fin 3584) : EReal := ∑ k, norm X G r k * W k l

/-- The gating branch's first half. -/
def u (r : Fin 16384) (l : Fin 1024) : EReal := gelu (proj X G W r ⟨l.val, by omega⟩)

/-- The gating branch's second half, normalized. -/
def vn (r : Fin 16384) (l : Fin 1024) : EReal := rms len1024 (fun l => gelu (proj X G W r ⟨1024 + l.val, by omega⟩)) Gv l

/-- Entry `d` of the queries' head `b`. -/
def qHead (r : Fin 16384) (b : Fin 8) (d : Fin 128) : EReal :=
  rope r.val (fun e => proj X G W r ⟨2048 + (128 * b.val + e.val), by omega⟩) d

/-- The queries. -/
def q (r : Fin 16384) (l : Fin 1024) : EReal := qHead X G W r ⟨l.val / 128, by omega⟩ ⟨l.val % 128, by omega⟩

/-- Entry `d` of the keys' head `b`. -/
def kHead (r : Fin 16384) (b : Fin 2) (d : Fin 128) : EReal :=
  rope r.val (fun e => proj X G W r ⟨3072 + (128 * b.val + e.val), by omega⟩) d

/-- The keys. -/
def k (r : Fin 16384) (l : Fin 256) : EReal := kHead X G W r ⟨l.val / 128, by omega⟩ ⟨l.val % 128, by omega⟩

/-- The values. -/
def v (r : Fin 16384) (l : Fin 256) : EReal := proj X G W r ⟨3328 + l.val, by omega⟩

end

end Cert.InProj

end
-- ==== Proof.InProjValue.lean ====
/-
  The input projection kernel (`InProj`): the five arrays it leaves, element by element, over the extended reals.
-/
module

public import proofs.«01_k».proof.Proof.InProjSpec
public import proofs.«01_k».proof.Proof.Gen.InProjIdeal.Value
public import Idealize.ShloMosaic.Lib.Pipeline.ValueKit.Tiles
public import Idealize.ShloMosaic.Lib.StableHlo.RunRead
public import Idealize.ShloMosaic.Lib.Claim

@[expose] public section

set_option maxRecDepth 16384

noncomputable section

open Idealize.ShloMosaic Idealize.ShloMosaic.StableHlo Idealize.ShloMosaic.TcCoe Idealize.SL.Sem

namespace Cert.InProjIdeal.Rows

open Cert.InProjIdeal Cert.InProjIdeal.Gen Cert.Dense Cert

/-! ## What the body stores, at an element of its blocks -/

section body

variable (x0 : Vec Ideal S512x2048 .f32) (x1 : Vec Ideal S1x2048 .f32) (x2 : Vec Ideal S2048x3584 .bf16)
  (x3 : Vec Ideal S1x1024 .f32) (x4 x5 : Vec Ideal S512x128 .f32)

/-- Column `l` of the projection of the block's row `r`. -/
def P (r : Fin 512) (l : Fin 3584) : EReal :=
  ∑ k, rms len2048 (fun k => x0 (ix2 r k)) (fun k => x1 (ix2 0 k)) k * x2 (ix2 k l)

/-- The normalised rows. -/
theorem norm_at (r : Fin 512) (k : Fin 2048) :
    (k0_pay4 (F := Ideal) x0 x1) (ix2 r k) = rms len2048 (fun k => x0 (ix2 r k)) (fun k => x1 (ix2 0 k)) k := by
  pointwise [k0_pay4]
  rfl

theorem hz : (![0, 0] : Fin 2 → Nat) = fun _ => 0 := by decide

theorem norm_ld : k0_pay4 (F := Ideal) (View.ld x0 r0_0) (View.ld x1 r0_1) = k0_pay4 x0 x1 := by
  rw [View.ld_unit_zero (S := S512x2048) hz, View.ld_unit_zero (S := S1x2048) hz]

/-- A column of the gating branch's first half before its gelu is the projection's at the same column, … -/
theorem dot_u (r : Fin 512) (l : Fin 1024) :
    (k0_pay6 (F := Ideal) x0 x1 (View.ld x2 r0_2)) (ix2 r l) = P x0 x1 x2 r ⟨l.val, by omega⟩ := by
  unfold P k0_pay6
  simp only [← norm_at]
  generalize k0_pay4 x0 x1 = n
  pointwise

/-- … of its second half 1024 columns on, … -/
theorem dot_vg (r : Fin 512) (l : Fin 1024) :
    (k0_pay6 (F := Ideal) x0 x1 (View.ld x2 r0_4)) (ix2 r l) = P x0 x1 x2 r ⟨1024 + l.val, by omega⟩ := by
  unfold P k0_pay6
  simp only [← norm_at]
  generalize k0_pay4 x0 x1 = n
  pointwise

/-- … of the queries 2048 columns on, … -/
theorem dot_q (r : Fin 512) (l : Fin 1024) :
    (k0_pay12 (F := Ideal) (k0_pay4 x0 x1) (View.ld x2 r0_7)) (ix2 r l) = P x0 x1 x2 r ⟨2048 + l.val, by omega⟩ := by
  unfold P k0_pay12
  simp only [← norm_at]
  generalize k0_pay4 x0 x1 = n
  pointwise

/-- … of the keys 3072 columns on, … -/
theorem dot_k (r : Fin 512) (l : Fin 256) :
    (k0_pay26 (F := Ideal) (k0_pay4 x0 x1) (View.ld x2 r0_16)) (ix2 r l) = P x0 x1 x2 r ⟨3072 + l.val, by omega⟩ := by
  unfold P k0_pay26
  simp only [← norm_at]
  generalize k0_pay4 x0 x1 = n
  pointwise

/-- … and of the values 3328 columns on. -/
theorem dot_v (r : Fin 512) (l : Fin 256) :
    (k0_pay3 (F := Ideal) (k0_pay4 x0 x1) (View.ld x2 r0_19)) (ix2 r l) = P x0 x1 x2 r ⟨3328 + l.val, by omega⟩ := by
  unfold P k0_pay3
  simp only [← norm_at]
  generalize k0_pay4 x0 x1 = n
  pointwise

/-- The gelu of a block is the gelu of its elements. -/
theorem gelu_at (x0 : Vec Ideal S512x2048 .f32) (x1 : Vec Ideal S1x2048 .f32) (w : Vec Ideal S2048x1024 .bf16) (r : Fin 512) (l : Fin 1024) :
    (k0_pay5 (F := Ideal) x0 x1 w) (ix2 r l) = InProj.gelu ((k0_pay6 (F := Ideal) x0 x1 w) (ix2 r l)) := by
  unfold k0_pay5 k0_pay6
  generalize k0_pay4 x0 x1 = n
  pointwise
  unfold InProj.gelu
  rw [mul_comm (∑ x, n (ix2 r x) * w (ix2 x l)) ((∑ x, n (ix2 r x) * w (ix2 x l)) * _)]

/-- The gating branch's first half. -/
theorem u_at (r : Fin 512) (l : Fin 1024) :
    out0_6 x0 x1 x2 x3 x4 x5 (ix2 r l) = InProj.gelu (P x0 x1 x2 r ⟨l.val, by omega⟩) := by
  unfold_out out0_6
  rw [View.canon_unit_zero hz, gelu_at, ← dot_u, View.ld_unit_zero (S := S512x2048) hz, View.ld_unit_zero (S := S1x2048) hz]

/-- The norm of the gelu of a block. -/
theorem vnorm_at (y : Vec Ideal S512x1024 .f32) (g : Vec Ideal S1x1024 .f32) (r : Fin 512) (l : Fin 1024) :
    (k0_pay8 (F := Ideal) y (mulf (F := Ideal) (φ := .f32) y (mulf (F := Ideal) (φ := .f32) y y)) g) (ix2 r l)
      = rms InProj.len1024 (fun l => InProj.gelu (y (ix2 r l))) (fun l => g (ix2 0 l)) l := by
  pointwise [k0_pay8]
  unfold rms InProj.gelu InProj.len1024
  simp only [fun l => mul_comm (y (ix2 r l)) (y (ix2 r l) * y (ix2 r l))]

/-- The gating branch's second half, normalized. -/
theorem vn_at (r : Fin 512) (l : Fin 1024) :
    out0_7 x0 x1 x2 x3 x4 x5 (ix2 r l)
      = rms InProj.len1024 (fun l => InProj.gelu (P x0 x1 x2 r ⟨1024 + l.val, by omega⟩)) (fun l => x3 (ix2 0 l)) l := by
  simp only [← dot_vg]
  unfold_out out0_7
  rw [View.canon_unit_zero hz, View.ld_unit_zero (S := S512x2048) hz, View.ld_unit_zero (S := S1x2048) hz, View.ld_unit_zero (S := S1x1024) hz]
  exact vnorm_at _ x3 r l

/-- The values. -/
theorem v_at (r : Fin 512) (l : Fin 256) :
    out0_10 x0 x1 x2 x3 x4 x5 (ix2 r l) = P x0 x1 x2 r ⟨3328 + l.val, by omega⟩ := by
  unfold_out out0_10
  rw [View.canon_unit_zero hz, norm_ld, dot_v]

/-- Where a stored head of 128 columns holds column `128 b + d`, it is head `b` at its entry `d`. -/
theorem at_piece {n : Nat} {r : Fin 512} {b : Fin n} {d : Fin 128} (k : Fin n) (x : S512x128.Idx) (h0 : r.val = (x 0).val)
    (h1 : 128 * b.val + d.val = 128 * k.val + (x 1).val) : b = k ∧ x = ix2 r d := by
  have hx : (x 1).val < 128 := (x 1).isLt
  have hd := d.isLt
  refine ⟨Fin.ext (by omega), funext fun a => Fin.ext ?_⟩
  match a with
  | ⟨0, _⟩ => exact h0.symm
  | ⟨1, _⟩ => show (x 1).val = d.val; omega

/-- The queries by head. -/
theorem q_at (r : Fin 512) (b : Fin 8) (d : Fin 128) :
    out0_8 x0 x1 x2 x3 x4 x5 (ix2 r ⟨128 * b.val + d.val, by omega⟩)
      = InProj.turn (x4 (ix2 r d)) (x5 (ix2 r d)) (fun e => P x0 x1 x2 r ⟨2048 + (128 * b.val + e.val), by omega⟩) d := by
  have hd : ∀ e : Fin 128, P x0 x1 x2 r ⟨2048 + (128 * b.val + e.val), by omega⟩
      = (k0_pay12 (F := Ideal) (k0_pay4 x0 x1) (View.ld x2 r0_7)) (ix2 r ⟨128 * b.val + e.val, by omega⟩) :=
    fun e => (dot_q x0 x1 x2 r ⟨128 * b.val + e.val, by omega⟩).symm
  simp only [hd]
  clear hd
  unfold_out out0_8
  unfold k0_pay14 k0_pay13
  rw [norm_ld]
  generalize k0_pay12 (k0_pay4 x0 x1) (View.ld x2 r0_7) = z
  canon_tiles x h
  all_goals
    first
      | obtain ⟨rfl, rfl⟩ := at_piece 7 x h0 h1
      | obtain ⟨rfl, rfl⟩ := at_piece 6 x h0 h1
      | obtain ⟨rfl, rfl⟩ := at_piece 5 x h0 h1
      | obtain ⟨rfl, rfl⟩ := at_piece 4 x h0 h1
      | obtain ⟨rfl, rfl⟩ := at_piece 3 x h0 h1
      | obtain ⟨rfl, rfl⟩ := at_piece 2 x h0 h1
      | obtain ⟨rfl, rfl⟩ := at_piece 1 x h0 h1
      | obtain ⟨rfl, rfl⟩ := at_piece 0 x h0 (h1.trans (Nat.zero_add _).symm)
    pointwise [k0_pay25, k0_pay24, k0_pay23, k0_pay22, k0_pay21, k0_pay20, k0_pay19, k0_pay18, k0_pay17, k0_pay16, k0_pay15,
      k0_pay9, k0_pay10, k0_pay11]
    rw [InProj.pick]
    unfold InProj.turn
    simp only [Nat.zero_add, Nat.mul_zero]
    try rfl

/-- The keys by head. -/
theorem k_at (r : Fin 512) (b : Fin 2) (d : Fin 128) :
    out0_9 x0 x1 x2 x3 x4 x5 (ix2 r ⟨128 * b.val + d.val, by omega⟩)
      = InProj.turn (x4 (ix2 r d)) (x5 (ix2 r d)) (fun e => P x0 x1 x2 r ⟨3072 + (128 * b.val + e.val), by omega⟩) d := by
  have hd : ∀ e : Fin 128, P x0 x1 x2 r ⟨3072 + (128 * b.val + e.val), by omega⟩
      = (k0_pay26 (F := Ideal) (k0_pay4 x0 x1) (View.ld x2 r0_16)) (ix2 r ⟨128 * b.val + e.val, by omega⟩) :=
    fun e => (dot_k x0 x1 x2 r ⟨128 * b.val + e.val, by omega⟩).symm
  simp only [hd]
  clear hd
  unfold_out out0_9
  unfold k0_pay29 k0_pay28 k0_pay27
  rw [norm_ld]
  generalize k0_pay26 (k0_pay4 x0 x1) (View.ld x2 r0_16) = z
  canon_tiles x h
  all_goals
    first
      | obtain ⟨rfl, rfl⟩ := at_piece 1 x h0 h1
      | obtain ⟨rfl, rfl⟩ := at_piece 0 x h0 (h1.trans (Nat.zero_add _).symm)
    pointwise [k0_pay1, k0_pay2, k0_pay9, k0_pay10, k0_pay11]
    rw [InProj.pick]
    unfold InProj.turn
    simp only [Nat.zero_add, Nat.mul_zero]
    try rfl

end body

/-! ## The arrays at entry and the blocks -/

variable (m : (ℓ : Loc nD τ sig) → Buf (Elt Ideal) ℓ) (c : Dev nD)

/-- The rows of the hidden state. -/
def X (r : Fin 16384) (k : Fin 2048) : EReal := m ((c : Thread nD τ).loc main_arg0) (ix2 r k)
/-- The norm's gain. -/
def G (k : Fin 2048) : EReal := m ((c : Thread nD τ).loc main_arg1) (ix2 0 k)
/-- The projection's weight. -/
def W (k : Fin 2048) (l : Fin 3584) : EReal := m ((c : Thread nD τ).loc main_arg2) (ix3 0 k l)
/-- The gating branch's gain. -/
def Gv (l : Fin 1024) : EReal := m ((c : Thread nD τ).loc main_arg3) (ix2 0 l)

theorem gain_arr (k : Fin 2048) : V m c main_v24 (ix2 0 k) = G m c k := by
  after_reads_simp
  pointwise
  rfl

theorem w_arr (k : Fin 2048) (l : Fin 3584) : V m c main_v26 (ix2 k l) = W m c k l := by
  after_reads_simp
  exact shapeCast_apply _ shapeCasts_S1x2048x3584_S2048x3584 (ix2 k l) (ix3 0 k l)
    (by rw [Shape.rowMajor_val_three, Shape.rowMajor_val_two]; show (0 * 2048 + k.val) * 3584 + l.val = k.val * 3584 + l.val; omega)

theorem vgain_arr (l : Fin 1024) : V m c main_v28 (ix2 0 l) = Gv m c l := by
  after_reads_simp
  pointwise
  rfl

/-- Three pieces side by side, sixteen columns, sixteen columns and the rest, told by the column. -/
theorem tab_split (d : ℕ) (f g : ℕ → EReal) (z : EReal) :
    (if _h : d < 16 then f d else if _h : d - 16 < 16 then g (d - 16) else z) = if d < 16 then f d else if d < 32 then g (d - 16) else z := by
  by_cases h : d < 16
  · simp only [dif_pos h, if_pos h]
  · by_cases h' : d < 32
    · simp only [dif_neg h, if_neg h, dif_pos (show d - 16 < 16 by omega), if_pos h']
    · simp only [dif_neg h, if_neg h, dif_neg (show ¬ d - 16 < 16 by omega), if_neg h']

/-- The table of cosines the program makes. -/
theorem cos_arr (r : Fin 16384) (d : Fin 128) : (V m c main_v19 (ix2 r d) : EReal) = InProj.cosTab r.val d.val := by
  after_reads_simp
  pointwise
  after_reads_simp
  pointwise
  exact tab_split d.val (fun j => Ideal.cos (InProj.angle r.val j)) (fun j => Ideal.cos (InProj.angle r.val j)) 1

/-- The table of sines the program makes. -/
theorem sin_arr (r : Fin 16384) (d : Fin 128) : (V m c main_v22 (ix2 r d) : EReal) = InProj.sinTab r.val d.val := by
  after_reads_simp
  pointwise
  after_reads_simp
  pointwise
  exact tab_split d.val (fun j => -Ideal.sin (InProj.angle r.val j)) (fun j => Ideal.sin (InProj.angle r.val j)) 0

/-- Where each window's block lies at point `t`. -/
theorem idx : ∀ t : Fin grid0.N, (win0_0.index t 0 = t.val ∧ win0_0.index t 1 = 0)
      ∧ (win0_1.index t 0 = 0 ∧ win0_1.index t 1 = 0)
      ∧ (win0_2.index t 0 = 0 ∧ win0_2.index t 1 = 0)
      ∧ (win0_3.index t 0 = 0 ∧ win0_3.index t 1 = 0)
      ∧ (win0_4.index t 0 = t.val ∧ win0_4.index t 1 = 0)
      ∧ (win0_5.index t 0 = t.val ∧ win0_5.index t 1 = 0)
      ∧ (win0_6.index t 0 = t.val ∧ win0_6.index t 1 = 0)
      ∧ (win0_7.index t 0 = t.val ∧ win0_7.index t 1 = 0)
      ∧ (win0_8.index t 0 = t.val ∧ win0_8.index t 1 = 0)
      ∧ (win0_9.index t 0 = t.val ∧ win0_9.index t 1 = 0)
      ∧ (win0_10.index t 0 = t.val ∧ win0_10.index t 1 = 0) := by
  decide +kernel

theorem lt_N (t : Fin cfg0.N) : t.val < 32 := lt_of_lt_of_eq t.isLt (show cfg0.N = 32 from N_0)

/-- The array row that row `r` of point `t`'s block is. -/
abbrev row (t : Fin cfg0.N) (r : Fin 512) : Fin 16384 := ⟨512 * t.val + r.val, by have := lt_N t; omega⟩

theorem x_blk (t : Fin cfg0.N) (r : Fin 512) (k : Fin 2048) : iblk m c 0 t (ix2 r k) = X m c (row t r) k := by
  obtain ⟨⟨e0, e1⟩, -⟩ := idx t
  unfold iblk
  rw [View.read_apply]
  show V m c main_arg0 _ = _
  rw [V_main_arg0]
  show _ = m ((c : Thread nD τ).loc main_arg0) _
  congr 1
  funext a
  apply Fin.ext
  match a with
  | ⟨0, _⟩ => show win0_0.index t 0 * 512 + 1 * r.val = 512 * t.val + r.val; rw [e0]; omega
  | ⟨1, _⟩ => show win0_0.index t 1 * 2048 + 1 * k.val = k.val; rw [e1]; omega

theorem g_blk (t : Fin cfg0.N) (k : Fin 2048) : iblk m c 1 t (ix2 0 k) = G m c k := by
  obtain ⟨-, ⟨e0, e1⟩, -⟩ := idx t
  rw [← gain_arr]
  unfold iblk
  rw [View.read_apply]
  show V m c main_v24 _ = _
  congr 1
  funext a
  apply Fin.ext
  match a with
  | ⟨0, _⟩ => show win0_1.index t 0 * 1 + 1 * 0 = 0; rw [e0]
  | ⟨1, _⟩ => show win0_1.index t 1 * 2048 + 1 * k.val = k.val; rw [e1]; omega

theorem w_blk (t : Fin cfg0.N) (k : Fin 2048) (l : Fin 3584) : iblk m c 2 t (ix2 k l) = W m c k l := by
  obtain ⟨-, -, ⟨e0, e1⟩, -⟩ := idx t
  rw [← w_arr]
  unfold iblk
  rw [View.read_apply]
  show V m c main_v26 _ = _
  congr 1
  funext a
  apply Fin.ext
  match a with
  | ⟨0, _⟩ => show win0_2.index t 0 * 2048 + 1 * k.val = k.val; rw [e0]; omega
  | ⟨1, _⟩ => show win0_2.index t 1 * 3584 + 1 * l.val = l.val; rw [e1]; omega

theorem vg_blk (t : Fin cfg0.N) (l : Fin 1024) : iblk m c 3 t (ix2 0 l) = Gv m c l := by
  obtain ⟨-, -, -, ⟨e0, e1⟩, -⟩ := idx t
  rw [← vgain_arr]
  unfold iblk
  rw [View.read_apply]
  show V m c main_v28 _ = _
  congr 1
  funext a
  apply Fin.ext
  match a with
  | ⟨0, _⟩ => show win0_3.index t 0 * 1 + 1 * 0 = 0; rw [e0]
  | ⟨1, _⟩ => show win0_3.index t 1 * 1024 + 1 * l.val = l.val; rw [e1]; omega

theorem cos_blk (t : Fin cfg0.N) (r : Fin 512) (d : Fin 128) : (iblk m c 4 t (ix2 r d) : EReal) = InProj.cosTab (row t r).val d.val := by
  obtain ⟨-, -, -, -, ⟨e0, e1⟩, -⟩ := idx t
  rw [← cos_arr m c]
  unfold iblk
  rw [View.read_apply]
  show V m c main_v19 _ = _
  congr 1
  funext a
  apply Fin.ext
  match a with
  | ⟨0, _⟩ => show win0_4.index t 0 * 512 + 1 * r.val = 512 * t.val + r.val; rw [e0]; omega
  | ⟨1, _⟩ => show win0_4.index t 1 * 128 + 1 * d.val = d.val; rw [e1]; omega

theorem sin_blk (t : Fin cfg0.N) (r : Fin 512) (d : Fin 128) : (iblk m c 5 t (ix2 r d) : EReal) = InProj.sinTab (row t r).val d.val := by
  obtain ⟨-, -, -, -, -, ⟨e0, e1⟩, -⟩ := idx t
  rw [← sin_arr m c]
  unfold iblk
  rw [View.read_apply]
  show V m c main_v22 _ = _
  congr 1
  funext a
  apply Fin.ext
  match a with
  | ⟨0, _⟩ => show win0_5.index t 0 * 512 + 1 * r.val = 512 * t.val + r.val; rw [e0]; omega
  | ⟨1, _⟩ => show win0_5.index t 1 * 128 + 1 * d.val = d.val; rw [e1]; omega

/-- Column `l` of the projection, of the rows of point `t`'s block. -/
theorem proj_blk (t : Fin cfg0.N) (r : Fin 512) (l : Fin 3584) :
    P (iblk m c 0 t) (iblk m c 1 t) (iblk m c 2 t) r l = InProj.proj (X m c) (G m c) (W m c) (row t r) l := by
  unfold P
  simp only [x_blk, g_blk, w_blk]
  rfl

/-! ## The results -/

theorem row_cut (r : Fin 16384) : ∃ (t : Fin cfg0.N) (p : Fin 512), r = row t p :=
  ⟨⟨r.val / 512, lt_of_lt_of_eq (by omega : r.val / 512 < 32) (show cfg0.N = 32 from N_0).symm⟩, ⟨r.val % 512, by omega⟩,
    Fin.ext (by show r.val = 512 * (r.val / 512) + r.val % 512; omega)⟩

theorem flush_6 : ∀ t : Fin cfg0.N, (cfg0.win 6).flush t = true := by decide +kernel

/-- Where row `r` of point `t`'s block lies in result 1. -/
theorem emb_6 (t : Fin cfg0.N) (r : Fin 512) (l : Fin 1024) :
    ((cfg0.win 6).blk t).view.emb (ix2 r l) = (ix2 (row t r) l : S16384x1024.Idx) := by
  obtain ⟨-, -, -, -, -, -, ⟨e0, e1⟩, -⟩ := idx t
  funext a
  apply Fin.ext
  match a with
  | ⟨0, _⟩ => show win0_6.index t 0 * 512 + 1 * r.val = 512 * t.val + r.val; rw [e0]; omega
  | ⟨1, _⟩ => show win0_6.index t 1 * 1024 + 1 * l.val = l.val; rw [e1]; omega

theorem flush_7 : ∀ t : Fin cfg0.N, (cfg0.win 7).flush t = true := by decide +kernel

/-- Where row `r` of point `t`'s block lies in result 2. -/
theorem emb_7 (t : Fin cfg0.N) (r : Fin 512) (l : Fin 1024) :
    ((cfg0.win 7).blk t).view.emb (ix2 r l) = (ix2 (row t r) l : S16384x1024.Idx) := by
  obtain ⟨-, -, -, -, -, -, -, ⟨e0, e1⟩, -⟩ := idx t
  funext a
  apply Fin.ext
  match a with
  | ⟨0, _⟩ => show win0_7.index t 0 * 512 + 1 * r.val = 512 * t.val + r.val; rw [e0]; omega
  | ⟨1, _⟩ => show win0_7.index t 1 * 1024 + 1 * l.val = l.val; rw [e1]; omega

theorem flush_8 : ∀ t : Fin cfg0.N, (cfg0.win 8).flush t = true := by decide +kernel

/-- Where row `r` of point `t`'s block lies in result 3. -/
theorem emb_8 (t : Fin cfg0.N) (r : Fin 512) (l : Fin 1024) :
    ((cfg0.win 8).blk t).view.emb (ix2 r l) = (ix2 (row t r) l : S16384x1024.Idx) := by
  obtain ⟨-, -, -, -, -, -, -, -, ⟨e0, e1⟩, -⟩ := idx t
  funext a
  apply Fin.ext
  match a with
  | ⟨0, _⟩ => show win0_8.index t 0 * 512 + 1 * r.val = 512 * t.val + r.val; rw [e0]; omega
  | ⟨1, _⟩ => show win0_8.index t 1 * 1024 + 1 * l.val = l.val; rw [e1]; omega

theorem flush_9 : ∀ t : Fin cfg0.N, (cfg0.win 9).flush t = true := by decide +kernel

/-- Where row `r` of point `t`'s block lies in result 4. -/
theorem emb_9 (t : Fin cfg0.N) (r : Fin 512) (l : Fin 256) :
    ((cfg0.win 9).blk t).view.emb (ix2 r l) = (ix2 (row t r) l : S16384x256.Idx) := by
  obtain ⟨-, -, -, -, -, -, -, -, -, ⟨e0, e1⟩, -⟩ := idx t
  funext a
  apply Fin.ext
  match a with
  | ⟨0, _⟩ => show win0_9.index t 0 * 512 + 1 * r.val = 512 * t.val + r.val; rw [e0]; omega
  | ⟨1, _⟩ => show win0_9.index t 1 * 256 + 1 * l.val = l.val; rw [e1]; omega

theorem flush_10 : ∀ t : Fin cfg0.N, (cfg0.win 10).flush t = true := by decide +kernel

/-- Where row `r` of point `t`'s block lies in result 5. -/
theorem emb_10 (t : Fin cfg0.N) (r : Fin 512) (l : Fin 256) :
    ((cfg0.win 10).blk t).view.emb (ix2 r l) = (ix2 (row t r) l : S16384x256.Idx) := by
  obtain ⟨-, -, -, -, -, -, -, -, -, -, ⟨e0, e1⟩⟩ := idx t
  funext a
  apply Fin.ext
  match a with
  | ⟨0, _⟩ => show win0_10.index t 0 * 512 + 1 * r.val = 512 * t.val + r.val; rw [e0]; omega
  | ⟨1, _⟩ => show win0_10.index t 1 * 256 + 1 * l.val = l.val; rw [e1]; omega

/-- The gating branch's first half. -/
theorem result_u (r : Fin 16384) (l : Fin 1024) :
    (dats m 0 c).arrAt 6 cfg0.N (ix2 r l) = InProj.u (X m c) (G m c) (W m c) r l := by
  obtain ⟨t, p, rfl⟩ := row_cut r
  have h := congrFun ((Value.blocks6 m c t (flush_6 t)).trans (Value.flushed6 m c t)) (ix2 p l)
  rw [View.read_apply, emb_6] at h
  refine h.trans ?_
  show out0_6 (iblk m c 0 t) (iblk m c 1 t) (iblk m c 2 t) (iblk m c 3 t) (iblk m c 4 t) (iblk m c 5 t) (ix2 p l) = _
  rw [u_at, proj_blk]
  rfl

/-- The gating branch's second half, normalized. -/
theorem result_vn (r : Fin 16384) (l : Fin 1024) :
    (dats m 0 c).arrAt 7 cfg0.N (ix2 r l) = InProj.vn (X m c) (G m c) (W m c) (Gv m c) r l := by
  obtain ⟨t, p, rfl⟩ := row_cut r
  have h := congrFun ((Value.blocks7 m c t (flush_7 t)).trans (Value.flushed7 m c t)) (ix2 p l)
  rw [View.read_apply, emb_7] at h
  refine h.trans ?_
  show out0_7 (iblk m c 0 t) (iblk m c 1 t) (iblk m c 2 t) (iblk m c 3 t) (iblk m c 4 t) (iblk m c 5 t) (ix2 p l) = _
  rw [vn_at]
  simp only [proj_blk, vg_blk]
  rfl

/-- The queries. -/
theorem result_q (r : Fin 16384) (l : Fin 1024) :
    (dats m 0 c).arrAt 8 cfg0.N (ix2 r l) = InProj.q (X m c) (G m c) (W m c) r l := by
  obtain ⟨t, p, rfl⟩ := row_cut r
  have h := congrFun ((Value.blocks8 m c t (flush_8 t)).trans (Value.flushed8 m c t)) (ix2 p l)
  rw [View.read_apply, emb_8] at h
  refine h.trans ?_
  show out0_8 (iblk m c 0 t) (iblk m c 1 t) (iblk m c 2 t) (iblk m c 3 t) (iblk m c 4 t) (iblk m c 5 t) (ix2 p l) = _
  obtain ⟨b, d, rfl⟩ : ∃ (b : Fin 8) (d : Fin 128), l = ⟨128 * b.val + d.val, by omega⟩ :=
    ⟨⟨l.val / 128, by omega⟩, ⟨l.val % 128, by omega⟩, Fin.ext (by show l.val = 128 * (l.val / 128) + l.val % 128; omega)⟩
  rw [q_at, cos_blk, sin_blk, InProj.rope_tab]
  simp only [proj_blk]
  have hd := d.isLt
  unfold InProj.q
  rw [show (⟨(128 * b.val + d.val) / 128, by omega⟩ : Fin 8) = b from Fin.ext (by show (128 * b.val + d.val) / 128 = b.val; omega),
    show (⟨(128 * b.val + d.val) % 128, by omega⟩ : Fin 128) = d from Fin.ext (by show (128 * b.val + d.val) % 128 = d.val; omega)]
  rfl

/-- The keys. -/
theorem result_k (r : Fin 16384) (l : Fin 256) :
    (dats m 0 c).arrAt 9 cfg0.N (ix2 r l) = InProj.k (X m c) (G m c) (W m c) r l := by
  obtain ⟨t, p, rfl⟩ := row_cut r
  have h := congrFun ((Value.blocks9 m c t (flush_9 t)).trans (Value.flushed9 m c t)) (ix2 p l)
  rw [View.read_apply, emb_9] at h
  refine h.trans ?_
  show out0_9 (iblk m c 0 t) (iblk m c 1 t) (iblk m c 2 t) (iblk m c 3 t) (iblk m c 4 t) (iblk m c 5 t) (ix2 p l) = _
  obtain ⟨b, d, rfl⟩ : ∃ (b : Fin 2) (d : Fin 128), l = ⟨128 * b.val + d.val, by omega⟩ :=
    ⟨⟨l.val / 128, by omega⟩, ⟨l.val % 128, by omega⟩, Fin.ext (by show l.val = 128 * (l.val / 128) + l.val % 128; omega)⟩
  rw [k_at, cos_blk, sin_blk, InProj.rope_tab]
  simp only [proj_blk]
  have hd := d.isLt
  unfold InProj.k
  rw [show (⟨(128 * b.val + d.val) / 128, by omega⟩ : Fin 2) = b from Fin.ext (by show (128 * b.val + d.val) / 128 = b.val; omega),
    show (⟨(128 * b.val + d.val) % 128, by omega⟩ : Fin 128) = d from Fin.ext (by show (128 * b.val + d.val) % 128 = d.val; omega)]
  rfl

/-- The values. -/
theorem result_v (r : Fin 16384) (l : Fin 256) :
    (dats m 0 c).arrAt 10 cfg0.N (ix2 r l) = InProj.v (X m c) (G m c) (W m c) r l := by
  obtain ⟨t, p, rfl⟩ := row_cut r
  have h := congrFun ((Value.blocks10 m c t (flush_10 t)).trans (Value.flushed10 m c t)) (ix2 p l)
  rw [View.read_apply, emb_10] at h
  refine h.trans ?_
  show out0_10 (iblk m c 0 t) (iblk m c 1 t) (iblk m c 2 t) (iblk m c 3 t) (iblk m c 4 t) (iblk m c 5 t) (ix2 p l) = _
  rw [v_at, proj_blk]
  rfl

end Cert.InProjIdeal.Rows

end
-- ==== Proof.InProjRef.lean ====
/-
  The plain reference of the input projection: its five results, element by element, over the extended reals.
-/
module

public import proofs.«01_k».proof.Proof.InProjSpec
public import proofs.«01_k».proof.Proof.Gen.InProjRefIdeal.Read

@[expose] public section

set_option maxRecDepth 16384

noncomputable section

open Idealize.ShloMosaic Idealize.ShloMosaic.TcCoe Idealize.SL.Sem

namespace Cert.InProjRefIdeal.Rows

open Cert.InProjRefIdeal Cert.InProjRefIdeal.Gen Cert.InProjRefIdeal.Read Cert.Dense Cert

variable (x0 : (⟨S16384x2048, .f32⟩ : BufTy).Contents (Elt Ideal)) (x1 : (⟨S1x2048, .f32⟩ : BufTy).Contents (Elt Ideal))
  (x2 : (⟨S1x2048x3584, .f32⟩ : BufTy).Contents (Elt Ideal)) (x3 : (⟨S1x1024, .f32⟩ : BufTy).Contents (Elt Ideal))

/-- The rows of the hidden state. -/
abbrev X (r : Fin 16384) (k : Fin 2048) : EReal := x0 (ix2 r k)
/-- The norm's gain. -/
abbrev G (k : Fin 2048) : EReal := x1 (ix2 0 k)
/-- The projection's weight. -/
abbrev W (k : Fin 2048) (l : Fin 3584) : EReal := x2 (ix3 0 k l)
/-- The gating branch's gain. -/
abbrev Gv (l : Fin 1024) : EReal := x3 (ix2 0 l)

/-- The normalised rows. -/
theorem norm_ref (r : Fin 16384) (k : Fin 2048) :
    val_main_v14 (F := Ideal) x0 x1 (ix3 0 r k) = InProj.norm (X x0) (G x1) r k := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  rfl

theorem w_ref (k : Fin 2048) (l : Fin 3584) : val_main_v15 (F := Ideal) x2 (ix2 k l) = W x2 k l := by
  rw [val_main_v15_apply]
  congr 1
  funext a; apply Fin.ext
  have hl := l.isLt; have hk := k.isLt
  match a with
  | ⟨0, _⟩ => rfl
  | ⟨1, _⟩ => show (k.val * 3584 + l.val) / 3584 % 2048 = k.val; omega
  | ⟨2, _⟩ => show (k.val * 3584 + l.val) % 3584 = l.val; omega

/-- The projected columns. -/
theorem proj_ref (r : Fin 16384) (l : Fin 3584) :
    val_main_v16 (F := Ideal) x0 x1 x2 (ix3 0 r l) = InProj.proj (X x0) (G x1) (W x2) r l := by
  pointwise [val_main_v16]
  exact Finset.sum_congr rfl fun k _ => by rw [norm_ref, w_ref]

/-- The gating branch's first half. -/
theorem u_ref (r : Fin 16384) (l : Fin 1024) :
    val_main_v123 (F := Ideal) x0 x1 x2 (ix2 r l) = InProj.u (X x0) (G x1) (W x2) r l := by
  pointwise [val_main_v123, val_main_v122, val_main_v30, val_main_v29, val_main_v28, val_main_v27, val_main_v26, val_main_v25, val_main_v24,
    val_main_v23, val_main_v22, val_main_v21, val_main_v20, val_main_v19, val_main_v18, val_main_v17, val_main_cst_2, val_main_cst_3,
    val_main_cst_4, val_main_cst_5]
  simp only [proj_ref]
  rfl

/-- The gating branch's second half before its norm. -/
theorem vg_ref (r : Fin 16384) (l : Fin 1024) :
    val_main_v44 (F := Ideal) x0 x1 x2 (ix3 0 r l) = InProj.gelu (InProj.proj (X x0) (G x1) (W x2) r ⟨1024 + l.val, by omega⟩) := by
  pointwise [val_main_v44, val_main_v43, val_main_v42, val_main_v41, val_main_v40, val_main_v39, val_main_v38, val_main_v37, val_main_v36,
    val_main_v35, val_main_v34, val_main_v33, val_main_v32, val_main_v31, val_main_cst_6, val_main_cst_7, val_main_cst_8,
    val_main_cst_9]
  simp only [proj_ref]
  rfl

/-- The gating branch's second half, normalized. -/
theorem vn_ref (r : Fin 16384) (l : Fin 1024) :
    val_main_v139 (F := Ideal) x0 x1 x2 x3 (ix2 r l) = InProj.vn (X x0) (G x1) (W x2) (Gv x3) r l := by
  pointwise [val_main_v139, val_main_v138, val_main_v137, val_main_v136, val_main_v135, val_main_v134, val_main_v133, val_main_v132,
    val_main_v131, val_main_v130, val_main_v129, val_main_v128, val_main_v127, val_main_v126, val_main_v125, val_main_v124,
    val_main_cst_18, val_main_cst_19, val_main_cst_20]
  simp only [vg_ref]
  rfl

theorem q_pre (r : Fin 16384) (b : Fin 8) (d : Fin 128) :
    val_main_v46 (F := Ideal) x0 x1 x2 (ix4 0 r b d) = InProj.proj (X x0) (G x1) (W x2) r ⟨2048 + (128 * b.val + d.val), by omega⟩ := by
  rw [← proj_ref]
  have e : val_main_v46 (F := Ideal) x0 x1 x2 (ix4 0 r b d) = val_main_v45 (F := Ideal) x0 x1 x2 (ix3 0 r ⟨128 * b.val + d.val, by omega⟩) :=
    shapeCast_apply _ _ (ix4 0 r b d) (ix3 0 r ⟨128 * b.val + d.val, by omega⟩)
      (by rw [Shape.rowMajor_val_three, Shape.rowMajor_val_four]
          show (0 * 16384 + r.val) * 1024 + (128 * b.val + d.val) = ((0 * 16384 + r.val) * 8 + b.val) * 128 + d.val; omega)
  rw [e]
  pointwise [val_main_v45]

theorem k_pre (r : Fin 16384) (b : Fin 2) (d : Fin 128) :
    val_main_v84 (F := Ideal) x0 x1 x2 (ix4 0 r b d) = InProj.proj (X x0) (G x1) (W x2) r ⟨3072 + (128 * b.val + d.val), by omega⟩ := by
  rw [← proj_ref]
  have e : val_main_v84 (F := Ideal) x0 x1 x2 (ix4 0 r b d) = val_main_v83 (F := Ideal) x0 x1 x2 (ix3 0 r ⟨128 * b.val + d.val, by omega⟩) :=
    shapeCast_apply _ _ (ix4 0 r b d) (ix3 0 r ⟨128 * b.val + d.val, by omega⟩)
      (by rw [Shape.rowMajor_val_three, Shape.rowMajor_val_four]
          show (0 * 16384 + r.val) * 256 + (128 * b.val + d.val) = ((0 * 16384 + r.val) * 2 + b.val) * 128 + d.val; omega)
  rw [e]
  pointwise [val_main_v83]

/-- The angles, for the queries and for the keys. -/
theorem angle_ref (r : Fin 16384) (j : Fin 16) : val_main_v62 (F := Ideal) (ix2 r j) = InProj.angle r.val j.val := by
  pointwise [val_main_v62, val_main_v61, val_main_v60, val_main_v59, val_main_v58, val_main_v57, val_main_v56, val_main_v55, val_main_v54,
    val_main_v53, val_main_v52, val_main_v51, val_main_v50, val_main_v49, val_main_v48, val_main_v47, val_main_cst_10,
    val_main_cst_11, val_main_cst_12, val_main_cst_13]
  rfl

theorem angle_ref' (r : Fin 16384) (j : Fin 16) : val_main_v100 (F := Ideal) (ix2 r j) = InProj.angle r.val j.val := by
  pointwise [val_main_v100, val_main_v99, val_main_v98, val_main_v97, val_main_v96, val_main_v95, val_main_v94, val_main_v93, val_main_v92,
    val_main_v91, val_main_v90, val_main_v89, val_main_v88, val_main_v87, val_main_v86, val_main_v85, val_main_cst_14,
    val_main_cst_15, val_main_cst_16, val_main_cst_17]
  rfl

/-- The queries by head. -/
theorem qHead_ref (r : Fin 16384) (b : Fin 8) (d : Fin 128) :
    val_main_v82 (F := Ideal) x0 x1 x2 (ix4 0 r b d) = InProj.qHead (X x0) (G x1) (W x2) r b d := by
  pointwise [val_main_v82, val_main_v81, val_main_v80, val_main_v79, val_main_v78, val_main_v77, val_main_v76, val_main_v75, val_main_v74,
    val_main_v73, val_main_v72, val_main_v71, val_main_v70, val_main_v69, val_main_v68, val_main_v67, val_main_v66, val_main_v65,
    val_main_v64, val_main_v63]
  simp only [angle_ref, q_pre]
  unfold InProj.qHead InProj.rope
  by_cases h : d.val < 16
  · simp only [dif_pos h, dif_pos (by omega : d.val < 32)]
  · by_cases h' : d.val < 32
    · simp only [dif_neg h, dif_pos h', Nat.add_sub_of_le (Nat.le_of_not_lt h)]
    · simp only [dif_neg h, dif_neg h', Nat.add_sub_of_le (Nat.le_of_not_lt h')]

/-- The keys by head. -/
theorem kHead_ref (r : Fin 16384) (b : Fin 2) (d : Fin 128) :
    val_main_v120 (F := Ideal) x0 x1 x2 (ix4 0 r b d) = InProj.kHead (X x0) (G x1) (W x2) r b d := by
  pointwise [val_main_v120, val_main_v119, val_main_v118, val_main_v117, val_main_v116, val_main_v115, val_main_v114, val_main_v113,
    val_main_v112, val_main_v111, val_main_v110, val_main_v109, val_main_v108, val_main_v107, val_main_v106, val_main_v105,
    val_main_v104, val_main_v103, val_main_v102, val_main_v101]
  simp only [angle_ref', k_pre]
  unfold InProj.kHead InProj.rope
  by_cases h : d.val < 16
  · simp only [dif_pos h, dif_pos (by omega : d.val < 32)]
  · by_cases h' : d.val < 32
    · simp only [dif_neg h, dif_pos h', Nat.add_sub_of_le (Nat.le_of_not_lt h)]
    · simp only [dif_neg h, dif_neg h', Nat.add_sub_of_le (Nat.le_of_not_lt h')]

/-- The queries. -/
theorem q_ref (r : Fin 16384) (l : Fin 1024) :
    val_main_v141 (F := Ideal) x0 x1 x2 (ix2 r l) = InProj.q (X x0) (G x1) (W x2) r l := by
  refine Eq.trans ?_ (qHead_ref x0 x1 x2 r ⟨l.val / 128, by omega⟩ ⟨l.val % 128, by omega⟩)
  show (val_main_v140 (F := Ideal) x0 x1 x2) (ix2 r l) = _
  unfold val_main_v140
  generalize val_main_v82 (F := Ideal) x0 x1 x2 = y
  exact shapeCast_apply _ _ (ix2 r l) (ix4 0 r (⟨l.val / 128, by omega⟩ : Fin 8) (⟨l.val % 128, by omega⟩ : Fin 128))
    (by rw [Shape.rowMajor_val_two, Shape.rowMajor_val_four]
        show ((0 * 16384 + r.val) * 8 + l.val / 128) * 128 + l.val % 128 = r.val * 1024 + l.val; omega)

/-- The keys. -/
theorem k_ref (r : Fin 16384) (l : Fin 256) :
    val_main_v143 (F := Ideal) x0 x1 x2 (ix2 r l) = InProj.k (X x0) (G x1) (W x2) r l := by
  refine Eq.trans ?_ (kHead_ref x0 x1 x2 r ⟨l.val / 128, by omega⟩ ⟨l.val % 128, by omega⟩)
  show (val_main_v142 (F := Ideal) x0 x1 x2) (ix2 r l) = _
  unfold val_main_v142
  generalize val_main_v120 (F := Ideal) x0 x1 x2 = y
  exact shapeCast_apply _ _ (ix2 r l) (ix4 0 r (⟨l.val / 128, by omega⟩ : Fin 2) (⟨l.val % 128, by omega⟩ : Fin 128))
    (by rw [Shape.rowMajor_val_two, Shape.rowMajor_val_four]
        show ((0 * 16384 + r.val) * 2 + l.val / 128) * 128 + l.val % 128 = r.val * 256 + l.val; omega)

/-- The values. -/
theorem v_ref (r : Fin 16384) (l : Fin 256) :
    val_main_v145 (F := Ideal) x0 x1 x2 (ix2 r l) = InProj.v (X x0) (G x1) (W x2) r l := by
  pointwise [val_main_v145, val_main_v144, val_main_v121]
  rw [proj_ref]
  rfl

end Cert.InProjRefIdeal.Rows

end
-- ==== Proof.InProjClaim.lean ====
/-
  The input projection (`InProj`): its ideal program leaves in its five results what the reference leaves.
-/
module

public import proofs.«01_k».proof.Proof.InProjValue
public import proofs.«01_k».proof.Proof.InProjRef
public import proofs.«01_k».proof.Proof.Gen.InProjRefIdeal.Run
public import proofs.«01_k».proof.Proof.Gen.InProjRefIdeal.Read
public import proofs.«01_k».proof.Defs
public import Idealize.ShloMosaic.Lib.Claim

@[expose] public section

set_option maxRecDepth 16384

noncomputable section

open Idealize.ShloMosaic Idealize.ShloMosaic.TcCoe Idealize.SL.Sem

namespace Cert.InProjIdeal.Rows

/-- Two arrays of rows are equal when they are equal at every row and column. -/
theorem ext_rows {α : Type} {a b : ℕ} {f g : (⟨2, ![a, b]⟩ : Shape).Idx → α} (h : ∀ (r : Fin a) (l : Fin b), f (ix2 r l) = g (ix2 r l)) : f = g := by
  funext i
  obtain ⟨r, l, rfl⟩ : ∃ (r : Fin a) (l : Fin b), i = ix2 r l :=
    ⟨i 0, i 1, funext fun a => by match a with | ⟨0, _⟩ => rfl | ⟨1, _⟩ => rfl⟩
  exact h r l

/-- The kernel's idealization and the reference's leave equal results on equal arguments: the gating branch's two halves, the
    queries, the keys and the values. -/
theorem algebraic : Cert.algebraic_InProjIdeal_InProjRefIdeal
    (hInProjIdeal := Cert.InProjIdeal.Gen.facts) (hInProjRefIdeal := Cert.InProjRefIdeal.Gen.facts) := by
  pair_intro
  · run_from (Cert.InProjIdeal.Value.run_blocks (F := Ideal) m g)
  · run_from (Cert.InProjRefIdeal.Value.run (F := Ideal) m' g')
    · rw [Cert.InProjRefIdeal.Read.val_main_v123_eq]
      simp only [hagree c]
      exact ext_rows fun r l => (Cert.InProjRefIdeal.Rows.u_ref _ _ _ r l).trans (result_u m c r l).symm
    · rw [Cert.InProjRefIdeal.Read.val_main_v139_eq]
      simp only [hagree c]
      exact ext_rows fun r l => (Cert.InProjRefIdeal.Rows.vn_ref _ _ _ _ r l).trans (result_vn m c r l).symm
    · rw [Cert.InProjRefIdeal.Read.val_main_v141_eq]
      simp only [hagree c]
      exact ext_rows fun r l => (Cert.InProjRefIdeal.Rows.q_ref _ _ _ r l).trans (result_q m c r l).symm
    · rw [Cert.InProjRefIdeal.Read.val_main_v143_eq]
      simp only [hagree c]
      exact ext_rows fun r l => (Cert.InProjRefIdeal.Rows.k_ref _ _ _ r l).trans (result_k m c r l).symm
    · rw [Cert.InProjRefIdeal.Read.val_main_v145_eq]
      exact ext_rows fun r l => (Cert.InProjRefIdeal.Rows.v_ref _ _ _ r l).trans (result_v m c r l).symm

end Cert.InProjIdeal.Rows

end
-- ==== Proof.lean ====
module

public import proofs.«01_k».proof.Defs
public import proofs.«01_k».proof.Proof.Gen.Mixer.Frame
public import proofs.«01_k».proof.Proof.Gen.MixerIdeal.Value
public import proofs.«01_k».proof.Proof.Gen.MixerRefIdeal.Run
public import proofs.«01_k».proof.Proof.Gen.MixerRefIdeal.Read
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.FfnFinal.Frame
public import proofs.«01_k».proof.Proof.Gen.FfnFinalIdeal.Value
public import proofs.«01_k».proof.Proof.Gen.FfnFinalRefIdeal.Run
public import proofs.«01_k».proof.Proof.Gen.FfnFinalRefIdeal.Read
public import proofs.«01_k».proof.Proof.Gen.FfnFinalSample.Frame
public import proofs.«01_k».proof.Proof.Gen.FfnFinalSampleIdeal.Value
public import proofs.«01_k».proof.Proof.Gen.FfnFinalSampleRefIdeal.Run
public import proofs.«01_k».proof.Proof.Gen.FfnFinalSampleRefIdeal.Read
public import proofs.«01_k».proof.Proof.Gen.InProj.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.FfnValue
public import proofs.«01_k».proof.Proof.FfnFinalValue
public import proofs.«01_k».proof.Proof.FfnFinalSampleValue
public import proofs.«01_k».proof.Proof.MixerClaim
public import proofs.«01_k».proof.Proof.InProjClaim
public import Idealize.ShloMosaic.Adequacy
public import Idealize.ShloMosaic.Init

@[expose] public section

noncomputable section

namespace Cert.Proof

open Idealize.ShloMosaic Idealize.SL.Sem

/-- The reference `MixerRef` ends with its arguments unchanged, and it declares no semaphore. -/
theorem frame_MixerRef : Cert.quiescent_MixerRefIdeal (hMixerRefIdeal := Cert.MixerRefIdeal.Gen.facts) := fun m ρ _ =>
  (θ_run Cert.MixerRefIdeal.defs _ _).mono (fun r h => ⟨fun c => (h c).2, sem_eq_zero_of_no_sems (by decide) r.2⟩)
    (Cert.MixerRefIdeal.Value.run (F := Ideal) m ρ)

/-- The reference `FfnRef` ends with its arguments unchanged, and it declares no semaphore. -/
theorem frame_FfnRef : Cert.quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference `FfnFinalRef` ends with its arguments unchanged, and it declares no semaphore. -/
theorem frame_FfnFinalRef : Cert.quiescent_FfnFinalRefIdeal (hFfnFinalRefIdeal := Cert.FfnFinalRefIdeal.Gen.facts) := fun m ρ _ =>
  (θ_run Cert.FfnFinalRefIdeal.defs _ _).mono (fun r h => ⟨fun c => (h c).2, sem_eq_zero_of_no_sems (by decide) r.2⟩)
    (Cert.FfnFinalRefIdeal.Value.run (F := Ideal) m ρ)

/-- The reference `FfnFinalSampleRef` ends with its arguments unchanged, and it declares no semaphore. -/
theorem frame_FfnFinalSampleRef :
    Cert.quiescent_FfnFinalSampleRefIdeal (hFfnFinalSampleRefIdeal := Cert.FfnFinalSampleRefIdeal.Gen.facts) := fun m ρ _ =>
  (θ_run Cert.FfnFinalSampleRefIdeal.defs _ _).mono (fun r h => ⟨fun c => (h c).2, sem_eq_zero_of_no_sems (by decide) r.2⟩)
    (Cert.FfnFinalSampleRefIdeal.Value.run (F := Ideal) m ρ)

/-- The reference `InProjRef` ends with its arguments unchanged, and it declares no semaphore. -/
theorem frame_InProjRef : Cert.quiescent_InProjRefIdeal (hInProjRefIdeal := Cert.InProjRefIdeal.Gen.facts) := fun m ρ _ =>
  (θ_run Cert.InProjRefIdeal.defs _ _).mono (fun r h => ⟨fun c => (h c).2.2.2.2.2, sem_eq_zero_of_no_sems (by decide) r.2⟩)
    (Cert.InProjRefIdeal.Value.run (F := Ideal) m ρ)

/-- All claims of the certificate. -/
theorem claim : Cert.Claim :=
  ⟨Cert.Mixer.Gen.facts, Cert.MixerIdeal.Gen.facts, Cert.MixerRefIdeal.Gen.facts,
    Cert.Ffn.Gen.facts, Cert.FfnIdeal.Gen.facts, Cert.FfnRefIdeal.Gen.facts, Cert.FfnFinal.Gen.facts, Cert.FfnFinalIdeal.Gen.facts, Cert.FfnFinalRefIdeal.Gen.facts,
    Cert.FfnFinalSample.Gen.facts, Cert.FfnFinalSampleIdeal.Gen.facts, Cert.FfnFinalSampleRefIdeal.Gen.facts,
    Cert.InProj.Gen.facts, Cert.InProjIdeal.Gen.facts, Cert.InProjRefIdeal.Gen.facts,
    Cert.Pre_finite_scores.facts,
    fun m ρ _ => Cert.Mixer.Gen.frame m ρ, fun m ρ _ => Cert.MixerIdeal.Gen.frame m ρ, fun m ρ _ => Cert.MixerIdeal.Gen.frame m ρ,
    frame_MixerRef, fun m ρ _ => frame_MixerRef m ρ trivial,
    fun m ρ _ => Cert.Ffn.Gen.frame m ρ, fun m ρ _ => Cert.FfnIdeal.Gen.frame m ρ, frame_FfnRef,
    fun m ρ _ => Cert.FfnFinal.Gen.frame m ρ, fun m ρ _ => Cert.FfnFinalIdeal.Gen.frame m ρ, frame_FfnFinalRef,
    fun m ρ _ => Cert.FfnFinalSample.Gen.frame m ρ, fun m ρ _ => Cert.FfnFinalSampleIdeal.Gen.frame m ρ, frame_FfnFinalSampleRef,
    fun m ρ _ => Cert.InProj.Gen.frame m ρ, fun m ρ _ => Cert.InProjIdeal.Gen.frame m ρ, frame_InProjRef,
    IdealRules.named_const.statement Cert.MixerIdeal.κ "mask" .f32 0xF149F2CA#32 ⊥ rfl,
    Cert.MixerIdeal.Rows.algebraic, trivial, Cert.FfnIdeal.Rows.algebraic,
    trivial, Cert.FfnFinalIdeal.Rows.algebraic,
    trivial, Cert.FfnFinalSampleIdeal.Rows.algebraic,
    trivial, Cert.InProjIdeal.Rows.algebraic⟩

end Cert.Proof

end
